-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v6_1)) (v2 : (c : Dev Cert.KernelIdeal.nD) → Buf (Elt Ideal) ((c.tc : Thread Cert.KernelIdeal.nD Cert.KernelIdeal.τ).loc Cert.KernelIdeal.main_v6_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v6_1) = v1 c
          ∧ r.2.mem ((c.tc : Thread Cert.KernelIdeal.nD Cert.KernelIdeal.τ).loc Cert.KernelIdeal.main_v6_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v263) = v0 c
          ∧ r.2.mem ((c.tc : Thread Cert.ReferenceIdeal.nD Cert.ReferenceIdeal.τ).loc Cert.ReferenceIdeal.main_v98) = v1 c
          ∧ r.2.mem ((c.tc : Thread Cert.ReferenceIdeal.nD Cert.ReferenceIdeal.τ).loc Cert.ReferenceIdeal.main_v101) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x15360 : Shape := ⟨3, ![2, 128, 15360]⟩
abbrev S15360 : Shape := ⟨1, ![15360]⟩
abbrev S7680x3840 : Shape := ⟨2, ![7680, 3840]⟩
abbrev S480x3840 : Shape := ⟨2, ![480, 3840]⟩
abbrev S15360x32 : Shape := ⟨2, ![15360, 32]⟩
abbrev S32x3840 : Shape := ⟨2, ![32, 3840]⟩
abbrev S3840 : Shape := ⟨1, ![3840]⟩
abbrev S256x15360 : Shape := ⟨2, ![256, 15360]⟩
abbrev S1x15360 : Shape := ⟨2, ![1, 15360]⟩
abbrev S10x48x3840 : Shape := ⟨3, ![10, 48, 3840]⟩
abbrev S1x3840 : Shape := ⟨2, ![1, 3840]⟩
abbrev S256x3840 : Shape := ⟨2, ![256, 3840]⟩
abbrev S256x7680 : Shape := ⟨2, ![256, 7680]⟩
abbrev S256x480 : Shape := ⟨2, ![256, 480]⟩
abbrev S256x1536 : Shape := ⟨2, ![256, 1536]⟩
abbrev S1x1536 : Shape := ⟨2, ![1, 1536]⟩
abbrev S768x3840 : Shape := ⟨2, ![768, 3840]⟩
abbrev S1x48x3840 : Shape := ⟨3, ![1, 48, 3840]⟩
abbrev S1536x32 : Shape := ⟨2, ![1536, 32]⟩
abbrev S256x768 : Shape := ⟨2, ![256, 768]⟩
abbrev S512x256 : Shape := ⟨2, ![512, 256]⟩
abbrev S48x3840 : Shape := ⟨2, ![48, 3840]⟩
abbrev S32x256 : Shape := ⟨2, ![32, 256]⟩
abbrev S256x256 : Shape := ⟨2, ![256, 256]⟩
abbrev S1x256 : Shape := ⟨2, ![1, 256]⟩
abbrev S256x32 : Shape := ⟨2, ![256, 32]⟩
abbrev S256 : Shape := ⟨1, ![256]⟩
abbrev S16x256 : Shape := ⟨2, ![16, 256]⟩
abbrev S32x8x256 : Shape := ⟨3, ![32, 8, 256]⟩
abbrev S32x1x256 : Shape := ⟨3, ![32, 1, 256]⟩
abbrev S128x256 : Shape := ⟨2, ![128, 256]⟩
abbrev S256x128 : Shape := ⟨2, ![256, 128]⟩
abbrev S768x256 : Shape := ⟨2, ![768, 256]⟩
abbrev S768x1x256 : Shape := ⟨3, ![768, 1, 256]⟩
abbrev S768x2x256 : Shape := ⟨3, ![768, 2, 256]⟩
abbrev S1536x256 : Shape := ⟨2, ![1536, 256]⟩
abbrev S256x512 : Shape := ⟨2, ![256, 512]⟩

abbrev nBuf : Space → Nat
  | .hbm => 16
  | .vmem => 26
  | .smem => 0
  | _ => 0

abbrev bufTy : (tb : Table) → Fin (tcTables nBuf tb) → BufTy
  | .hbm, ⟨0, _⟩ => ⟨S2x128x15360, .bf16⟩
  | .hbm, ⟨1, _⟩ => ⟨S15360, .f32⟩
  | .hbm, ⟨2, _⟩ => ⟨S7680x3840, .i8⟩
  | .hbm, ⟨3, _⟩ => ⟨S480x3840, .i8⟩
  | .hbm, ⟨4, _⟩ => ⟨S15360x32, .bf16⟩
  | .hbm, ⟨5, _⟩ => ⟨S32x3840, .bf16⟩
  | .hbm, ⟨6, _⟩ => ⟨S3840, .f32⟩
  | .hbm, ⟨7, _⟩ => ⟨S256x15360, .bf16⟩
  | .hbm, ⟨8, _⟩ => ⟨S256x15360, .bf16⟩
  | .hbm, ⟨9, _⟩ => ⟨S1x15360, .f32⟩
  | .hbm, ⟨10, _⟩ => ⟨S1x15360, .f32⟩
  | .hbm, ⟨11, _⟩ => ⟨S10x48x3840, .i8⟩
  | .hbm, ⟨12, _⟩ => ⟨S1x3840, .f32⟩
  | .hbm, ⟨13, _⟩ => ⟨S256x3840, .bf16⟩
  | .hbm, ⟨14, _⟩ => ⟨S256x7680, .i8⟩
  | .hbm, ⟨15, _⟩ => ⟨S256x480, .i8⟩
  | .local _ .vmem, ⟨0, _⟩ => ⟨S256x1536, .bf16⟩
  | .local _ .vmem, ⟨1, _⟩ => ⟨S256x1536, .bf16⟩
  | .local _ .vmem, ⟨2, _⟩ => ⟨S256x1536, .bf16⟩
  | .local _ .vmem, ⟨3, _⟩ => ⟨S1x1536, .f32⟩
  | .local _ .vmem, ⟨4, _⟩ => ⟨S1x1536, .f32⟩
  | .local _ .vmem, ⟨5, _⟩ => ⟨S1x1536, .f32⟩
  | .local _ .vmem, ⟨6, _⟩ => ⟨S768x3840, .i8⟩
  | .local _ .vmem, ⟨7, _⟩ => ⟨S768x3840, .i8⟩
  | .local _ .vmem, ⟨8, _⟩ => ⟨S1x48x3840, .i8⟩
  | .local _ .vmem, ⟨9, _⟩ => ⟨S1x48x3840, .i8⟩
  | .local _ .vmem, ⟨10, _⟩ => ⟨S1536x32, .bf16⟩
  | .local _ .vmem, ⟨11, _⟩ => ⟨S1536x32, .bf16⟩
  | .local _ .vmem, ⟨12, _⟩ => ⟨S1536x32, .bf16⟩
  | .local _ .vmem, ⟨13, _⟩ => ⟨S32x3840, .bf16⟩
  | .local _ .vmem, ⟨14, _⟩ => ⟨S1x3840, .f32⟩
  | .local _ .vmem, ⟨15, _⟩ => ⟨S256x3840, .bf16⟩
  | .local _ .vmem, ⟨16, _⟩ => ⟨S256x768, .i8⟩
  | .local _ .vmem, ⟨17, _⟩ => ⟨S256x768, .i8⟩
  | .local _ .vmem, ⟨18, _⟩ => ⟨S256x480, .i8⟩
  | .local _ .vmem, ⟨19, _⟩ => ⟨S256x3840, .f32⟩
  | .local _ .vmem, ⟨20, _⟩ => ⟨S256x1536, .bf16⟩
  | .local _ .vmem, ⟨21, _⟩ => ⟨S256x1536, .bf16⟩
  | .local _ .vmem, ⟨22, _⟩ => ⟨S256x768, .i8⟩
  | .local _ .vmem, ⟨23, _⟩ => ⟨S512x256, .i32⟩
  | .local _ .vmem, ⟨24, _⟩ => ⟨S48x3840, .i32⟩
  | .local _ .vmem, ⟨25, _⟩ => ⟨S32x256, .f32⟩
  | _, _ => ⟨S2x128x15360, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6_0 : Ref sig .tc := ⟨.hbm, 13, rfl⟩
abbrev main_v6_1 : Ref sig .tc := ⟨.hbm, 14, rfl⟩
abbrev main_v6_2 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg11_0 : Ref sig .tc := ⟨.vmem, 16, rfl⟩
abbrev cc0_stg11_1 : Ref sig .tc := ⟨.vmem, 17, rfl⟩
abbrev cc0_stg12_0 : Ref sig .tc := ⟨.vmem, 18, rfl⟩
abbrev cc0_scratch0 : Ref sig .tc := ⟨.vmem, 19, rfl⟩
abbrev cc0_scratch1 : Ref sig .tc := ⟨.vmem, 20, rfl⟩
abbrev cc0_scratch2 : Ref sig .tc := ⟨.vmem, 21, rfl⟩
abbrev cc0_scratch3 : Ref sig .tc := ⟨.vmem, 22, rfl⟩
abbrev cc0_scratch4 : Ref sig .tc := ⟨.vmem, 23, rfl⟩
abbrev cc0_scratch5 : Ref sig .tc := ⟨.vmem, 24, rfl⟩
abbrev cc0_scratch6 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem11_0 : DmaSem sig := 16
abbrev cc0_sem11_1 : DmaSem sig := 17
abbrev cc0_sem12_0 : DmaSem sig := 18

abbrev nD : Nat := 1
abbrev τ : Topo := Topo.v7x

variable {F : FTy → Type} [FloatOps F]

abbrev grid0 : Pipeline.Grid := ⟨1, ![10], ![false]⟩

def k0_mult1 (i : grid0.Coords) : BitVec 32 :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32 : BitVec 32 := 48#32
  let v265 : BitVec 32 := Scalar.muli v21 c48_i32
  v265
def k0_off1 (i : grid0.Coords) (c0_i32_106 : BitVec 32) (c0_i32_107 : BitVec 32) : Fin 2 → Nat :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32 : BitVec 32 := 48#32
  let v265 : BitVec 32 := Scalar.muli v21 c48_i32
  let v266 : BitVec 32 := v265
  let v331 : BitVec 32 := Scalar.addi v266 c0_i32_106
  let v332 : BitVec 32 := Scalar.addi v331 c0_i32_107
  let v333 : Index := Scalar.indexCast v332
  let c0_108 : Index := 0#32
  ![v333.toNat, 0]
def k0_mult2 (i : grid0.Coords) : BitVec 32 :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32_470 : BitVec 32 := 48#32
  let v1246 : BitVec 32 := Scalar.muli v21 c48_i32_470
  v1246
def k0_mult3 (i : grid0.Coords) : BitVec 32 :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32_873 : BitVec 32 := 48#32
  let v2227 : BitVec 32 := Scalar.muli v21 c48_i32_873
  v2227
def k0_mult4 (i : grid0.Coords) : BitVec 32 :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32_1277 : BitVec 32 := 48#32
  let v3208 : BitVec 32 := Scalar.muli v21 c48_i32_1277
  v3208
def k0_mult5 (i : grid0.Coords) : BitVec 32 :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32_1680 : BitVec 32 := 48#32
  let v4189 : BitVec 32 := Scalar.muli v21 c48_i32_1680
  v4189
def k0_mult6 (i : grid0.Coords) : BitVec 32 :=
  let arg0 : BitVec 32 := BitVec.ofNat 32 (i 0).val
  let c1_i32 : BitVec 32 := 1#32
  let v20 : BitVec 32 := Scalar.addi arg0 c1_i32
  let c9_i32 : BitVec 32 := 9#32
  let v21 : BitVec 32 := Scalar.minsi v20 c9_i32
  let c48_i32_2083 : BitVec 32 := 48#32
  let v5170 : BitVec 32 := Scalar.muli v21 c48_i32_2083
  v5170
def k0_cond2 (i : grid0.Coords) : BitVec 1 :=
  let arg0 : BitVec 32 := BitVec.ofNat 32 (i 0).val
  let c9_i32_3426 : BitVec 32 := 9#32
  let v8061 : BitVec 1 := Scalar.cmpi .eq arg0 c9_i32_3426
  let v8062 : BitVec 32 := Scalar.extui v8061
  let c0_i32_3427 : BitVec 32 := 0#32
  let v8063 : BitVec 1 := Scalar.cmpi .ne v8062 c0_i32_3427
  v8063

def cc0_transform_0 (i : grid0.Coords) : Fin 2 → Nat :=
  let arg0 : BitVec 32 := BitVec.ofNat 32 (i 0).val
  let c1_i32 : BitVec 32 := 1#32
  let v0 : BitVec 32 := Scalar.addi arg0 c1_i32
  let c9_i32 : BitVec 32 := 9#32
  let v1 : BitVec 32 := Scalar.minsi v0 c9_i32
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c1_i32 : BitVec 32 := 1#32
  let v0 : BitVec 32 := Scalar.addi arg0 c1_i32
  let c9_i32 : BitVec 32 := 9#32
  let v1 : BitVec 32 := Scalar.minsi v0 c9_i32
  let c0_i32 : BitVec 32 := 0#32
  let c0_i32_0 : BitVec 32 := 0#32
  ![c0_i32.toNat, v1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c1_i32 : BitVec 32 := 1#32
  let v0 : BitVec 32 := Scalar.addi arg0 c1_i32
  let c9_i32 : BitVec 32 := 9#32
  let v1 : BitVec 32 := Scalar.minsi v0 c9_i32
  let c0_i32 : BitVec 32 := 0#32
  let c0_i32_0 : BitVec 32 := 0#32
  ![v1.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x1536 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1536 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S768x3840 .i8 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x48x3840 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1536x32 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1536x32 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S32x3840 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x3840 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S256x3840 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S256x768 .i8 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 1 → Memref sig .tc .vmem S256x480 .i8 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== ReferenceIdeal.lean ====
abbrev S2x128x15360 : Shape := ⟨3, ![2, 128, 15360]⟩
abbrev S15360 : Shape := ⟨1, ![15360]⟩
abbrev S7680x3840 : Shape := ⟨2, ![7680, 3840]⟩
abbrev S480x3840 : Shape := ⟨2, ![480, 3840]⟩
abbrev S15360x32 : Shape := ⟨2, ![15360, 32]⟩
abbrev S32x3840 : Shape := ⟨2, ![32, 3840]⟩
abbrev S3840 : Shape := ⟨1, ![3840]⟩
abbrev S256x15360 : Shape := ⟨2, ![256, 15360]⟩
abbrev S1x15360 : Shape := ⟨2, ![1, 15360]⟩
abbrev S256x480x32 : Shape := ⟨3, ![256, 480, 32]⟩
abbrev S_ : Shape := ⟨0, ![]⟩
abbrev S256x480 : Shape := ⟨2, ![256, 480]⟩
abbrev S256x480x251 : Shape := ⟨3, ![256, 480, 251]⟩
abbrev S256x480x1 : Shape := ⟨3, ![256, 480, 1]⟩
abbrev S256x7680x2 : Shape := ⟨3, ![256, 7680, 2]⟩
abbrev S256x7680x1 : Shape := ⟨3, ![256, 7680, 1]⟩
abbrev S256x7680 : Shape := ⟨2, ![256, 7680]⟩
abbrev S7680x1x3840 : Shape := ⟨3, ![7680, 1, 3840]⟩
abbrev S7680x2x3840 : Shape := ⟨3, ![7680, 2, 3840]⟩
abbrev S480x32x3840 : Shape := ⟨3, ![480, 32, 3840]⟩
abbrev S480x1x3840 : Shape := ⟨3, ![480, 1, 3840]⟩
abbrev S15360x3840 : Shape := ⟨2, ![15360, 3840]⟩
abbrev S256x3840 : Shape := ⟨2, ![256, 3840]⟩
abbrev S256x32 : Shape := ⟨2, ![256, 32]⟩
abbrev S1x3840 : Shape := ⟨2, ![1, 3840]⟩

abbrev nBuf : Space → Nat
  | .hbm => 432
  | .vmem => 0
  | .smem => 0
  | _ => 0

abbrev hbmTy0_0 (i : Nat) : BufTy := match i % 128 with
  | 0 => ⟨S2x128x15360, .bf16⟩
  | 1 => ⟨S15360, .f32⟩
  | 2 => ⟨S7680x3840, .i8⟩
  | 3 => ⟨S480x3840, .i8⟩
  | 4 => ⟨S15360x32, .bf16⟩
  | 5 => ⟨S32x3840, .bf16⟩
  | 6 => ⟨S3840, .f32⟩
  | 7 => ⟨S256x15360, .bf16⟩
  | 8 => ⟨S256x15360, .f32⟩
  | 9 => ⟨S1x15360, .f32⟩
  | 10 => ⟨S256x15360, .f32⟩
  | 11 => ⟨S256x15360, .f32⟩
  | 12 => ⟨S256x480x32, .f32⟩
  | 13 => ⟨S256x480x32, .f32⟩
  | 14 => ⟨S_, .f32⟩
  | 15 => ⟨S256x480, .f32⟩
  | 16 => ⟨S_, .f32⟩
  | 17 => ⟨S256x480, .f32⟩
  | 18 => ⟨S256x480, .f32⟩
  | 19 => ⟨S256x480x251, .i32⟩
  | 20 => ⟨S_, .i32⟩
  | 21 => ⟨S256x480x251, .i32⟩
  | 22 => ⟨S256x480x251, .i32⟩
  | 23 => ⟨S256x480x1, .f32⟩
  | 24 => ⟨S_, .f32⟩
  | 25 => ⟨S256x480x251, .f32⟩
  | 26 => ⟨S256x480x251, .f32⟩
  | 27 => ⟨S256x480x251, .f32⟩
  | 28 => ⟨S_, .i32⟩
  | 29 => ⟨S256x480x251, .i32⟩
  | 30 => ⟨S256x480x251, .i1⟩
  | 31 => ⟨S_, .i32⟩
  | 32 => ⟨S256x480x251, .i32⟩
  | 33 => ⟨S256x480x251, .i1⟩
  | 34 => ⟨S_, .f32⟩
  | 35 => ⟨S256x480x251, .f32⟩
  | 36 => ⟨S256x480x251, .f32⟩
  | 37 => ⟨S_, .f32⟩
  | 38 => ⟨S256x480x251, .f32⟩
  | 39 => ⟨S256x480x251, .f32⟩
  | 40 => ⟨S256x480x251, .f32⟩
  | 41 => ⟨S256x480x251, .i1⟩
  | 42 => ⟨S_, .i32⟩
  | 43 => ⟨S_, .i32⟩
  | 44 => ⟨S256x480x251, .i32⟩
  | 45 => ⟨S256x480x251, .i32⟩
  | 46 => ⟨S256x480x251, .i32⟩
  | 47 => ⟨S256x480x251, .i32⟩
  | 48 => ⟨S_, .i32⟩
  | 49 => ⟨S256x480, .i32⟩
  | 50 => ⟨S_, .f32⟩
  | 51 => ⟨S256x480, .f32⟩
  | 52 => ⟨S256x480, .i1⟩
  | 53 => ⟨S_, .i32⟩
  | 54 => ⟨S256x480, .i32⟩
  | 55 => ⟨S256x480, .i32⟩
  | 56 => ⟨S_, .i32⟩
  | 57 => ⟨S_, .i32⟩
  | 58 => ⟨S256x480, .i32⟩
  | 59 => ⟨S256x480, .i32⟩
  | 60 => ⟨S256x480, .i32⟩
  | 61 => ⟨S_, .f32⟩
  | 62 => ⟨S256x480, .f32⟩
  | 63 => ⟨S256x480, .f32⟩
  | 64 => ⟨S256x480, .f32⟩
  | 65 => ⟨S_, .i32⟩
  | 66 => ⟨S256x480, .i32⟩
  | 67 => ⟨S256x480, .i1⟩
  | 68 => ⟨S_, .i32⟩
  | 69 => ⟨S256x480, .i32⟩
  | 70 => ⟨S256x480, .i1⟩
  | 71 => ⟨S_, .f32⟩
  | 72 => ⟨S256x480, .f32⟩
  | 73 => ⟨S256x480, .f32⟩
  | 74 => ⟨S_, .f32⟩
  | 75 => ⟨S256x480, .f32⟩
  | 76 => ⟨S256x480, .f32⟩
  | 77 => ⟨S256x480x1, .f32⟩
  | 78 => ⟨S256x480x32, .f32⟩
  | 79 => ⟨S256x480x32, .f32⟩
  | 80 => ⟨S256x480x32, .f32⟩
  | 81 => ⟨S_, .f32⟩
  | 82 => ⟨S256x480x32, .f32⟩
  | 83 => ⟨S256x480x32, .f32⟩
  | 84 => ⟨S_, .f32⟩
  | 85 => ⟨S256x480x32, .f32⟩
  | 86 => ⟨S256x480x32, .i1⟩
  | 87 => ⟨S_, .f32⟩
  | 88 => ⟨S256x480x32, .f32⟩
  | 89 => ⟨S256x480x32, .f32⟩
  | 90 => ⟨S256x480x32, .f32⟩
  | 91 => ⟨S_, .f32⟩
  | 92 => ⟨S256x480x32, .f32⟩
  | 93 => ⟨S256x480x32, .f32⟩
  | 94 => ⟨S_, .f32⟩
  | 95 => ⟨S256x480x32, .f32⟩
  | 96 => ⟨S256x480x32, .i1⟩
  | 97 => ⟨S256x480x32, .f32⟩
  | 98 => ⟨S_, .f32⟩
  | 99 => ⟨S256x480x32, .f32⟩
  | 100 => ⟨S256x480x32, .f32⟩
  | 101 => ⟨S256x480x32, .f32⟩
  | 102 => ⟨S_, .f32⟩
  | 103 => ⟨S256x480x32, .f32⟩
  | 104 => ⟨S256x480x32, .f32⟩
  | 105 => ⟨S256x480x32, .f32⟩
  | 106 => ⟨S256x480x32, .f32⟩
  | 107 => ⟨S_, .f32⟩
  | 108 => ⟨S256x480x32, .f32⟩
  | 109 => ⟨S256x480x32, .i1⟩
  | 110 => ⟨S_, .f32⟩
  | 111 => ⟨S256x480x32, .f32⟩
  | 112 => ⟨S256x480x32, .f32⟩
  | 113 => ⟨S_, .f32⟩
  | 114 => ⟨S256x480x32, .f32⟩
  | 115 => ⟨S256x480x32, .i1⟩
  | 116 => ⟨S_, .f32⟩
  | 117 => ⟨S256x480x32, .f32⟩
  | 118 => ⟨S256x480x32, .f32⟩
  | 119 => ⟨S_, .f32⟩
  | 120 => ⟨S256x480x32, .f32⟩
  | 121 => ⟨S256x480x32, .f32⟩
  | 122 => ⟨S_, .f32⟩
  | 123 => ⟨S256x480x32, .f32⟩
  | 124 => ⟨S256x480x32, .f32⟩
  | 125 => ⟨S256x480x32, .f32⟩
  | 126 => ⟨S256x480x32, .f32⟩
  | 127 => ⟨S256x480x32, .i32⟩
  | _ => ⟨S2x128x15360, .bf16⟩

abbrev hbmTy0_1 (i : Nat) : BufTy := match i % 128 with
  | 0 => ⟨S_, .f32⟩
  | 1 => ⟨S256x480x32, .f32⟩
  | 2 => ⟨S256x480x32, .i1⟩
  | 3 => ⟨S_, .f32⟩
  | 4 => ⟨S256x480x32, .f32⟩
  | 5 => ⟨S256x480x32, .i1⟩
  | 6 => ⟨S256x480x32, .i1⟩
  | 7 => ⟨S_, .i32⟩
  | 8 => ⟨S256x480x32, .i32⟩
  | 9 => ⟨S256x480x32, .i32⟩
  | 10 => ⟨S256x480x32, .i32⟩
  | 11 => ⟨S256x15360, .i32⟩
  | 12 => ⟨S256x7680x2, .i32⟩
  | 13 => ⟨S256x7680x1, .i32⟩
  | 14 => ⟨S256x7680, .i32⟩
  | 15 => ⟨S256x7680x1, .i32⟩
  | 16 => ⟨S256x7680, .i32⟩
  | 17 => ⟨S_, .i32⟩
  | 18 => ⟨S256x7680, .i32⟩
  | 19 => ⟨S256x7680, .i32⟩
  | 20 => ⟨S256x7680, .i32⟩
  | 21 => ⟨S256x7680, .i8⟩
  | 22 => ⟨S_, .i32⟩
  | 23 => ⟨S256x480, .i32⟩
  | 24 => ⟨S256x480, .i32⟩
  | 25 => ⟨S256x480, .i8⟩
  | 26 => ⟨S256x7680, .i32⟩
  | 27 => ⟨S_, .i32⟩
  | 28 => ⟨S256x7680, .i32⟩
  | 29 => ⟨S256x7680, .i32⟩
  | 30 => ⟨S_, .i32⟩
  | 31 => ⟨S256x7680, .i32⟩
  | 32 => ⟨S256x7680, .i32⟩
  | 33 => ⟨S_, .i32⟩
  | 34 => ⟨S256x7680, .i32⟩
  | 35 => ⟨S256x7680, .i1⟩
  | 36 => ⟨S_, .i32⟩
  | 37 => ⟨S256x7680, .i32⟩
  | 38 => ⟨S256x7680, .i32⟩
  | 39 => ⟨S_, .i32⟩
  | 40 => ⟨S256x7680, .i32⟩
  | 41 => ⟨S256x7680, .i1⟩
  | 42 => ⟨S_, .i32⟩
  | 43 => ⟨S256x7680, .i32⟩
  | 44 => ⟨S256x7680, .i32⟩
  | 45 => ⟨S_, .i32⟩
  | 46 => ⟨S256x7680, .i32⟩
  | 47 => ⟨S256x7680, .i1⟩
  | 48 => ⟨S_, .i32⟩
  | 49 => ⟨S256x7680, .i32⟩
  | 50 => ⟨S256x7680, .i32⟩
  | 51 => ⟨S_, .i32⟩
  | 52 => ⟨S256x7680, .i32⟩
  | 53 => ⟨S256x7680, .i1⟩
  | 54 => ⟨S_, .bf16⟩
  | 55 => ⟨S_, .bf16⟩
  | 56 => ⟨S256x7680, .bf16⟩
  | 57 => ⟨S256x7680, .bf16⟩
  | 58 => ⟨S256x7680, .bf16⟩
  | 59 => ⟨S_, .bf16⟩
  | 60 => ⟨S_, .bf16⟩
  | 61 => ⟨S256x7680, .bf16⟩
  | 62 => ⟨S256x7680, .bf16⟩
  | 63 => ⟨S256x7680, .bf16⟩
  | 64 => ⟨S256x7680, .bf16⟩
  | 65 => ⟨S_, .bf16⟩
  | 66 => ⟨S_, .bf16⟩
  | 67 => ⟨S256x7680, .bf16⟩
  | 68 => ⟨S256x7680, .bf16⟩
  | 69 => ⟨S256x7680, .bf16⟩
  | 70 => ⟨S_, .bf16⟩
  | 71 => ⟨S_, .bf16⟩
  | 72 => ⟨S256x7680, .bf16⟩
  | 73 => ⟨S256x7680, .bf16⟩
  | 74 => ⟨S256x7680, .bf16⟩
  | 75 => ⟨S256x7680, .bf16⟩
  | 76 => ⟨S256x7680, .bf16⟩
  | 77 => ⟨S256x7680, .bf16⟩
  | 78 => ⟨S256x7680, .bf16⟩
  | 79 => ⟨S_, .i32⟩
  | 80 => ⟨S256x7680, .i32⟩
  | 81 => ⟨S256x7680, .i32⟩
  | 82 => ⟨S_, .i32⟩
  | 83 => ⟨S256x7680, .i32⟩
  | 84 => ⟨S256x7680, .i32⟩
  | 85 => ⟨S_, .i32⟩
  | 86 => ⟨S256x7680, .i32⟩
  | 87 => ⟨S256x7680, .i1⟩
  | 88 => ⟨S_, .i32⟩
  | 89 => ⟨S256x7680, .i32⟩
  | 90 => ⟨S256x7680, .i32⟩
  | 91 => ⟨S_, .i32⟩
  | 92 => ⟨S256x7680, .i32⟩
  | 93 => ⟨S256x7680, .i1⟩
  | 94 => ⟨S_, .i32⟩
  | 95 => ⟨S256x7680, .i32⟩
  | 96 => ⟨S256x7680, .i32⟩
  | 97 => ⟨S_, .i32⟩
  | 98 => ⟨S256x7680, .i32⟩
  | 99 => ⟨S256x7680, .i1⟩
  | 100 => ⟨S_, .i32⟩
  | 101 => ⟨S256x7680, .i32⟩
  | 102 => ⟨S256x7680, .i32⟩
  | 103 => ⟨S_, .i32⟩
  | 104 => ⟨S256x7680, .i32⟩
  | 105 => ⟨S256x7680, .i1⟩
  | 106 => ⟨S_, .bf16⟩
  | 107 => ⟨S_, .bf16⟩
  | 108 => ⟨S256x7680, .bf16⟩
  | 109 => ⟨S256x7680, .bf16⟩
  | 110 => ⟨S256x7680, .bf16⟩
  | 111 => ⟨S_, .bf16⟩
  | 112 => ⟨S_, .bf16⟩
  | 113 => ⟨S256x7680, .bf16⟩
  | 114 => ⟨S256x7680, .bf16⟩
  | 115 => ⟨S256x7680, .bf16⟩
  | 116 => ⟨S256x7680, .bf16⟩
  | 117 => ⟨S_, .bf16⟩
  | 118 => ⟨S_, .bf16⟩
  | 119 => ⟨S256x7680, .bf16⟩
  | 120 => ⟨S256x7680, .bf16⟩
  | 121 => ⟨S256x7680, .bf16⟩
  | 122 => ⟨S_, .bf16⟩
  | 123 => ⟨S_, .bf16⟩
  | 124 => ⟨S256x7680, .bf16⟩
  | 125 => ⟨S256x7680, .bf16⟩
  | 126 => ⟨S256x7680, .bf16⟩
  | 127 => ⟨S256x7680, .bf16⟩
  | _ => ⟨S2x128x15360, .bf16⟩

abbrev hbmTy0_2 (i : Nat) : BufTy := match i % 128 with
  | 0 => ⟨S256x7680, .bf16⟩
  | 1 => ⟨S256x7680, .bf16⟩
  | 2 => ⟨S256x7680, .bf16⟩
  | 3 => ⟨S256x7680x1, .bf16⟩
  | 4 => ⟨S256x7680x1, .bf16⟩
  | 5 => ⟨S256x7680x2, .bf16⟩
  | 6 => ⟨S256x480x32, .bf16⟩
  | 7 => ⟨S256x480, .i32⟩
  | 8 => ⟨S_, .i32⟩
  | 9 => ⟨S256x480, .i32⟩
  | 10 => ⟨S256x480, .i32⟩
  | 11 => ⟨S_, .f32⟩
  | 12 => ⟨S256x480, .f32⟩
  | 13 => ⟨S256x480, .f32⟩
  | 14 => ⟨S256x480, .f32⟩
  | 15 => ⟨S_, .i32⟩
  | 16 => ⟨S256x480, .i32⟩
  | 17 => ⟨S256x480, .i1⟩
  | 18 => ⟨S_, .i32⟩
  | 19 => ⟨S256x480, .i32⟩
  | 20 => ⟨S256x480, .i1⟩
  | 21 => ⟨S_, .f32⟩
  | 22 => ⟨S256x480, .f32⟩
  | 23 => ⟨S256x480, .f32⟩
  | 24 => ⟨S_, .f32⟩
  | 25 => ⟨S256x480, .f32⟩
  | 26 => ⟨S256x480, .f32⟩
  | 27 => ⟨S256x480, .bf16⟩
  | 28 => ⟨S256x480x1, .bf16⟩
  | 29 => ⟨S256x480x32, .bf16⟩
  | 30 => ⟨S256x480x32, .bf16⟩
  | 31 => ⟨S256x15360, .bf16⟩
  | 32 => ⟨S7680x3840, .i32⟩
  | 33 => ⟨S_, .i32⟩
  | 34 => ⟨S7680x3840, .i32⟩
  | 35 => ⟨S7680x3840, .i32⟩
  | 36 => ⟨S_, .i32⟩
  | 37 => ⟨S7680x3840, .i32⟩
  | 38 => ⟨S7680x3840, .i32⟩
  | 39 => ⟨S_, .i32⟩
  | 40 => ⟨S7680x3840, .i32⟩
  | 41 => ⟨S7680x3840, .i1⟩
  | 42 => ⟨S_, .i32⟩
  | 43 => ⟨S7680x3840, .i32⟩
  | 44 => ⟨S7680x3840, .i32⟩
  | 45 => ⟨S_, .i32⟩
  | 46 => ⟨S7680x3840, .i32⟩
  | 47 => ⟨S7680x3840, .i1⟩
  | 48 => ⟨S_, .i32⟩
  | 49 => ⟨S7680x3840, .i32⟩
  | 50 => ⟨S7680x3840, .i32⟩
  | 51 => ⟨S_, .i32⟩
  | 52 => ⟨S7680x3840, .i32⟩
  | 53 => ⟨S7680x3840, .i1⟩
  | 54 => ⟨S_, .i32⟩
  | 55 => ⟨S7680x3840, .i32⟩
  | 56 => ⟨S7680x3840, .i32⟩
  | 57 => ⟨S_, .i32⟩
  | 58 => ⟨S7680x3840, .i32⟩
  | 59 => ⟨S7680x3840, .i1⟩
  | 60 => ⟨S_, .bf16⟩
  | 61 => ⟨S_, .bf16⟩
  | 62 => ⟨S7680x3840, .bf16⟩
  | 63 => ⟨S7680x3840, .bf16⟩
  | 64 => ⟨S7680x3840, .bf16⟩
  | 65 => ⟨S_, .bf16⟩
  | 66 => ⟨S_, .bf16⟩
  | 67 => ⟨S7680x3840, .bf16⟩
  | 68 => ⟨S7680x3840, .bf16⟩
  | 69 => ⟨S7680x3840, .bf16⟩
  | 70 => ⟨S7680x3840, .bf16⟩
  | 71 => ⟨S_, .bf16⟩
  | 72 => ⟨S_, .bf16⟩
  | 73 => ⟨S7680x3840, .bf16⟩
  | 74 => ⟨S7680x3840, .bf16⟩
  | 75 => ⟨S7680x3840, .bf16⟩
  | 76 => ⟨S_, .bf16⟩
  | 77 => ⟨S_, .bf16⟩
  | 78 => ⟨S7680x3840, .bf16⟩
  | 79 => ⟨S7680x3840, .bf16⟩
  | 80 => ⟨S7680x3840, .bf16⟩
  | 81 => ⟨S7680x3840, .bf16⟩
  | 82 => ⟨S7680x3840, .bf16⟩
  | 83 => ⟨S7680x3840, .bf16⟩
  | 84 => ⟨S7680x3840, .bf16⟩
  | 85 => ⟨S_, .i32⟩
  | 86 => ⟨S7680x3840, .i32⟩
  | 87 => ⟨S7680x3840, .i32⟩
  | 88 => ⟨S_, .i32⟩
  | 89 => ⟨S7680x3840, .i32⟩
  | 90 => ⟨S7680x3840, .i32⟩
  | 91 => ⟨S_, .i32⟩
  | 92 => ⟨S7680x3840, .i32⟩
  | 93 => ⟨S7680x3840, .i1⟩
  | 94 => ⟨S_, .i32⟩
  | 95 => ⟨S7680x3840, .i32⟩
  | 96 => ⟨S7680x3840, .i32⟩
  | 97 => ⟨S_, .i32⟩
  | 98 => ⟨S7680x3840, .i32⟩
  | 99 => ⟨S7680x3840, .i1⟩
  | 100 => ⟨S_, .i32⟩
  | 101 => ⟨S7680x3840, .i32⟩
  | 102 => ⟨S7680x3840, .i32⟩
  | 103 => ⟨S_, .i32⟩
  | 104 => ⟨S7680x3840, .i32⟩
  | 105 => ⟨S7680x3840, .i1⟩
  | 106 => ⟨S_, .i32⟩
  | 107 => ⟨S7680x3840, .i32⟩
  | 108 => ⟨S7680x3840, .i32⟩
  | 109 => ⟨S_, .i32⟩
  | 110 => ⟨S7680x3840, .i32⟩
  | 111 => ⟨S7680x3840, .i1⟩
  | 112 => ⟨S_, .bf16⟩
  | 113 => ⟨S_, .bf16⟩
  | 114 => ⟨S7680x3840, .bf16⟩
  | 115 => ⟨S7680x3840, .bf16⟩
  | 116 => ⟨S7680x3840, .bf16⟩
  | 117 => ⟨S_, .bf16⟩
  | 118 => ⟨S_, .bf16⟩
  | 119 => ⟨S7680x3840, .bf16⟩
  | 120 => ⟨S7680x3840, .bf16⟩
  | 121 => ⟨S7680x3840, .bf16⟩
  | 122 => ⟨S7680x3840, .bf16⟩
  | 123 => ⟨S_, .bf16⟩
  | 124 => ⟨S_, .bf16⟩
  | 125 => ⟨S7680x3840, .bf16⟩
  | 126 => ⟨S7680x3840, .bf16⟩
  | 127 => ⟨S7680x3840, .bf16⟩
  | _ => ⟨S2x128x15360, .bf16⟩

abbrev hbmTy0_3 (i : Nat) : BufTy := match i % 128 with
  | 0 => ⟨S_, .bf16⟩
  | 1 => ⟨S_, .bf16⟩
  | 2 => ⟨S7680x3840, .bf16⟩
  | 3 => ⟨S7680x3840, .bf16⟩
  | 4 => ⟨S7680x3840, .bf16⟩
  | 5 => ⟨S7680x3840, .bf16⟩
  | 6 => ⟨S7680x3840, .bf16⟩
  | 7 => ⟨S7680x3840, .bf16⟩
  | 8 => ⟨S7680x3840, .bf16⟩
  | 9 => ⟨S7680x1x3840, .bf16⟩
  | 10 => ⟨S7680x1x3840, .bf16⟩
  | 11 => ⟨S7680x2x3840, .bf16⟩
  | 12 => ⟨S480x32x3840, .bf16⟩
  | 13 => ⟨S480x3840, .i32⟩
  | 14 => ⟨S_, .i32⟩
  | 15 => ⟨S480x3840, .i32⟩
  | 16 => ⟨S480x3840, .i32⟩
  | 17 => ⟨S_, .f32⟩
  | 18 => ⟨S480x3840, .f32⟩
  | 19 => ⟨S480x3840, .f32⟩
  | 20 => ⟨S480x3840, .f32⟩
  | 21 => ⟨S_, .i32⟩
  | 22 => ⟨S480x3840, .i32⟩
  | 23 => ⟨S480x3840, .i1⟩
  | 24 => ⟨S_, .i32⟩
  | 25 => ⟨S480x3840, .i32⟩
  | 26 => ⟨S480x3840, .i1⟩
  | 27 => ⟨S_, .f32⟩
  | 28 => ⟨S480x3840, .f32⟩
  | 29 => ⟨S480x3840, .f32⟩
  | 30 => ⟨S_, .f32⟩
  | 31 => ⟨S480x3840, .f32⟩
  | 32 => ⟨S480x3840, .f32⟩
  | 33 => ⟨S480x3840, .bf16⟩
  | 34 => ⟨S480x1x3840, .bf16⟩
  | 35 => ⟨S480x32x3840, .bf16⟩
  | 36 => ⟨S480x32x3840, .bf16⟩
  | 37 => ⟨S15360x3840, .bf16⟩
  | 38 => ⟨S256x3840, .f32⟩
  | 39 => ⟨S256x15360, .bf16⟩
  | 40 => ⟨S256x32, .f32⟩
  | 41 => ⟨S256x32, .bf16⟩
  | 42 => ⟨S256x3840, .f32⟩
  | 43 => ⟨S256x3840, .f32⟩
  | 44 => ⟨S1x3840, .f32⟩
  | 45 => ⟨S256x3840, .f32⟩
  | 46 => ⟨S256x3840, .f32⟩
  | 47 => ⟨S256x3840, .bf16⟩
  | _ => ⟨S2x128x15360, .bf16⟩

abbrev hbmTy (i : Nat) : BufTy := match i / 128 with
  | 0 => hbmTy0_0 i
  | 1 => hbmTy0_1 i
  | 2 => hbmTy0_2 i
  | 3 => hbmTy0_3 i
  | _ => ⟨S2x128x15360, .bf16⟩

abbrev bufTy : (tb : Table) → Fin (tcTables nBuf tb) → BufTy
  | .hbm, ⟨i, _⟩ => hbmTy i
  | _, _ => ⟨S2x128x15360, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_cst_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_c_2 : Ref sig .tc := ⟨.hbm, 28, rfl⟩
abbrev main_v17 : Ref sig .tc := ⟨.hbm, 29, rfl⟩
abbrev main_v18 : Ref sig .tc := ⟨.hbm, 30, rfl⟩
abbrev main_c_3 : Ref sig .tc := ⟨.hbm, 31, rfl⟩
abbrev main_v19 : Ref sig .tc := ⟨.hbm, 32, rfl⟩
abbrev main_v20 : Ref sig .tc := ⟨.hbm, 33, rfl⟩
abbrev main_cst_4 : Ref sig .tc := ⟨.hbm, 34, rfl⟩
abbrev main_call0_v0 : Ref sig .tc := ⟨.hbm, 35, rfl⟩
abbrev main_v21 : Ref sig .tc := ⟨.hbm, 36, rfl⟩
abbrev main_cst_5 : Ref sig .tc := ⟨.hbm, 37, rfl⟩
abbrev main_call1_v0 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_6 : Ref sig .tc := ⟨.hbm, 42, rfl⟩
abbrev main_c_7 : Ref sig .tc := ⟨.hbm, 43, rfl⟩
abbrev main_call2_v0 : Ref sig .tc := ⟨.hbm, 44, rfl⟩
abbrev main_call2_v1 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_cst_9 : Ref sig .tc := ⟨.hbm, 50, rfl⟩
abbrev main_v28 : Ref sig .tc := ⟨.hbm, 51, rfl⟩
abbrev main_v29 : Ref sig .tc := ⟨.hbm, 52, rfl⟩
abbrev main_c_10 : Ref sig .tc := ⟨.hbm, 53, rfl⟩
abbrev main_v30 : Ref sig .tc := ⟨.hbm, 54, rfl⟩
abbrev main_v31 : Ref sig .tc := ⟨.hbm, 55, rfl⟩
abbrev main_c_11 : Ref sig .tc := ⟨.hbm, 56, rfl⟩
abbrev main_call3_v0 : Ref sig .tc := ⟨.hbm, 57, rfl⟩
abbrev main_call3_v1 : Ref sig .tc := ⟨.hbm, 58, rfl⟩
abbrev main_v32 : Ref sig .tc := ⟨.hbm, 59, rfl⟩
abbrev main_v33 : Ref sig .tc := ⟨.hbm, 60, rfl⟩
abbrev main_cst_12 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_c_13 : Ref sig .tc := ⟨.hbm, 65, rfl⟩
abbrev main_v37 : Ref sig .tc := ⟨.hbm, 66, rfl⟩
abbrev main_v38 : Ref sig .tc := ⟨.hbm, 67, rfl⟩
abbrev main_c_14 : Ref sig .tc := ⟨.hbm, 68, rfl⟩
abbrev main_v39 : Ref sig .tc := ⟨.hbm, 69, rfl⟩
abbrev main_v40 : Ref sig .tc := ⟨.hbm, 70, rfl⟩
abbrev main_cst_15 : Ref sig .tc := ⟨.hbm, 71, rfl⟩
abbrev main_call4_v0 : Ref sig .tc := ⟨.hbm, 72, rfl⟩
abbrev main_v41 : Ref sig .tc := ⟨.hbm, 73, rfl⟩
abbrev main_cst_16 : Ref sig .tc := ⟨.hbm, 74, rfl⟩
abbrev main_call5_v0 : Ref sig .tc := ⟨.hbm, 75, rfl⟩
abbrev main_v42 : Ref sig .tc := ⟨.hbm, 76, rfl⟩
abbrev main_v43 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_cst_17 : Ref sig .tc := ⟨.hbm, 81, rfl⟩
abbrev main_v47 : Ref sig .tc := ⟨.hbm, 82, rfl⟩
abbrev main_v48 : Ref sig .tc := ⟨.hbm, 83, rfl⟩
abbrev main_cst_18 : Ref sig .tc := ⟨.hbm, 84, rfl⟩
abbrev main_v49 : Ref sig .tc := ⟨.hbm, 85, rfl⟩
abbrev main_v50 : Ref sig .tc := ⟨.hbm, 86, rfl⟩
abbrev main_cst_19 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_20 : Ref sig .tc := ⟨.hbm, 91, rfl⟩
abbrev main_v54 : Ref sig .tc := ⟨.hbm, 92, rfl⟩
abbrev main_v55 : Ref sig .tc := ⟨.hbm, 93, rfl⟩
abbrev main_cst_21 : Ref sig .tc := ⟨.hbm, 94, rfl⟩
abbrev main_v56 : Ref sig .tc := ⟨.hbm, 95, rfl⟩
abbrev main_v57 : Ref sig .tc := ⟨.hbm, 96, rfl⟩
abbrev main_v58 : Ref sig .tc := ⟨.hbm, 97, rfl⟩
abbrev main_cst_22 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_cst_23 : Ref sig .tc := ⟨.hbm, 102, rfl⟩
abbrev main_v62 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_24 : Ref sig .tc := ⟨.hbm, 107, rfl⟩
abbrev main_v66 : Ref sig .tc := ⟨.hbm, 108, rfl⟩
abbrev main_v67 : Ref sig .tc := ⟨.hbm, 109, rfl⟩
abbrev main_cst_25 : Ref sig .tc := ⟨.hbm, 110, rfl⟩
abbrev main_v68 : Ref sig .tc := ⟨.hbm, 111, rfl⟩
abbrev main_v69 : Ref sig .tc := ⟨.hbm, 112, rfl⟩
abbrev main_cst_26 : Ref sig .tc := ⟨.hbm, 113, rfl⟩
abbrev main_v70 : Ref sig .tc := ⟨.hbm, 114, rfl⟩
abbrev main_v71 : Ref sig .tc := ⟨.hbm, 115, rfl⟩
abbrev main_cst_27 : Ref sig .tc := ⟨.hbm, 116, rfl⟩
abbrev main_v72 : Ref sig .tc := ⟨.hbm, 117, rfl⟩
abbrev main_v73 : Ref sig .tc := ⟨.hbm, 118, rfl⟩
abbrev main_cst_28 : Ref sig .tc := ⟨.hbm, 119, rfl⟩
abbrev main_v74 : Ref sig .tc := ⟨.hbm, 120, rfl⟩
abbrev main_v75 : Ref sig .tc := ⟨.hbm, 121, rfl⟩
abbrev main_cst_29 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_cst_30 : Ref sig .tc := ⟨.hbm, 128, rfl⟩
abbrev main_v81 : Ref sig .tc := ⟨.hbm, 129, rfl⟩
abbrev main_v82 : Ref sig .tc := ⟨.hbm, 130, rfl⟩
abbrev main_cst_31 : Ref sig .tc := ⟨.hbm, 131, rfl⟩
abbrev main_v83 : Ref sig .tc := ⟨.hbm, 132, rfl⟩
abbrev main_v84 : Ref sig .tc := ⟨.hbm, 133, rfl⟩
abbrev main_v85 : Ref sig .tc := ⟨.hbm, 134, rfl⟩
abbrev main_c_32 : Ref sig .tc := ⟨.hbm, 135, rfl⟩
abbrev main_v86 : Ref sig .tc := ⟨.hbm, 136, rfl⟩
abbrev main_v87 : Ref sig .tc := ⟨.hbm, 137, rfl⟩
abbrev main_v88 : Ref sig .tc := ⟨.hbm, 138, rfl⟩
abbrev main_v89 : Ref sig .tc := ⟨.hbm, 139, rfl⟩
abbrev main_v90 : Ref sig .tc := ⟨.hbm, 140, rfl⟩
abbrev main_v91 : Ref sig .tc := ⟨.hbm, 141, rfl⟩
abbrev main_v92 : Ref sig .tc := ⟨.hbm, 142, rfl⟩
abbrev main_v93 : Ref sig .tc := ⟨.hbm, 143, rfl⟩
abbrev main_v94 : Ref sig .tc := ⟨.hbm, 144, rfl⟩
abbrev main_c_33 : Ref sig .tc := ⟨.hbm, 145, rfl⟩
abbrev main_v95 : Ref sig .tc := ⟨.hbm, 146, rfl⟩
abbrev main_v96 : Ref sig .tc := ⟨.hbm, 147, rfl⟩
abbrev main_v97 : Ref sig .tc := ⟨.hbm, 148, rfl⟩
abbrev main_v98 : Ref sig .tc := ⟨.hbm, 149, rfl⟩
abbrev main_c_34 : Ref sig .tc := ⟨.hbm, 150, rfl⟩
abbrev main_v99 : Ref sig .tc := ⟨.hbm, 151, rfl⟩
abbrev main_v100 : Ref sig .tc := ⟨.hbm, 152, rfl⟩
abbrev main_v101 : Ref sig .tc := ⟨.hbm, 153, rfl⟩
abbrev main_v102 : Ref sig .tc := ⟨.hbm, 154, rfl⟩
abbrev main_c_35 : Ref sig .tc := ⟨.hbm, 155, rfl⟩
abbrev main_v103 : Ref sig .tc := ⟨.hbm, 156, rfl⟩
abbrev main_v104 : Ref sig .tc := ⟨.hbm, 157, rfl⟩
abbrev main_c_36 : Ref sig .tc := ⟨.hbm, 158, rfl⟩
abbrev main_v105 : Ref sig .tc := ⟨.hbm, 159, rfl⟩
abbrev main_v106 : Ref sig .tc := ⟨.hbm, 160, rfl⟩
abbrev main_c_37 : Ref sig .tc := ⟨.hbm, 161, rfl⟩
abbrev main_v107 : Ref sig .tc := ⟨.hbm, 162, rfl⟩
abbrev main_v108 : Ref sig .tc := ⟨.hbm, 163, rfl⟩
abbrev main_c_38 : Ref sig .tc := ⟨.hbm, 164, rfl⟩
abbrev main_v109 : Ref sig .tc := ⟨.hbm, 165, rfl⟩
abbrev main_v110 : Ref sig .tc := ⟨.hbm, 166, rfl⟩
abbrev main_c_39 : Ref sig .tc := ⟨.hbm, 167, rfl⟩
abbrev main_v111 : Ref sig .tc := ⟨.hbm, 168, rfl⟩
abbrev main_v112 : Ref sig .tc := ⟨.hbm, 169, rfl⟩
abbrev main_c_40 : Ref sig .tc := ⟨.hbm, 170, rfl⟩
abbrev main_v113 : Ref sig .tc := ⟨.hbm, 171, rfl⟩
abbrev main_v114 : Ref sig .tc := ⟨.hbm, 172, rfl⟩
abbrev main_c_41 : Ref sig .tc := ⟨.hbm, 173, rfl⟩
abbrev main_v115 : Ref sig .tc := ⟨.hbm, 174, rfl⟩
abbrev main_v116 : Ref sig .tc := ⟨.hbm, 175, rfl⟩
abbrev main_c_42 : Ref sig .tc := ⟨.hbm, 176, rfl⟩
abbrev main_v117 : Ref sig .tc := ⟨.hbm, 177, rfl⟩
abbrev main_v118 : Ref sig .tc := ⟨.hbm, 178, rfl⟩
abbrev main_c_43 : Ref sig .tc := ⟨.hbm, 179, rfl⟩
abbrev main_v119 : Ref sig .tc := ⟨.hbm, 180, rfl⟩
abbrev main_v120 : Ref sig .tc := ⟨.hbm, 181, rfl⟩
abbrev main_cst_44 : Ref sig .tc := ⟨.hbm, 182, rfl⟩
abbrev main_cst_45 : Ref sig .tc := ⟨.hbm, 183, rfl⟩
abbrev main_call14_v0 : Ref sig .tc := ⟨.hbm, 184, rfl⟩
abbrev main_call14_v1 : Ref sig .tc := ⟨.hbm, 185, rfl⟩
abbrev main_v121 : Ref sig .tc := ⟨.hbm, 186, rfl⟩
abbrev main_cst_46 : Ref sig .tc := ⟨.hbm, 187, rfl⟩
abbrev main_cst_47 : Ref sig .tc := ⟨.hbm, 188, rfl⟩
abbrev main_call15_v0 : Ref sig .tc := ⟨.hbm, 189, rfl⟩
abbrev main_call15_v1 : Ref sig .tc := ⟨.hbm, 190, rfl⟩
abbrev main_v122 : Ref sig .tc := ⟨.hbm, 191, rfl⟩
abbrev main_v123 : Ref sig .tc := ⟨.hbm, 192, rfl⟩
abbrev main_cst_48 : Ref sig .tc := ⟨.hbm, 193, rfl⟩
abbrev main_cst_49 : Ref sig .tc := ⟨.hbm, 194, rfl⟩
abbrev main_call17_v0 : Ref sig .tc := ⟨.hbm, 195, rfl⟩
abbrev main_call17_v1 : Ref sig .tc := ⟨.hbm, 196, rfl⟩
abbrev main_v124 : Ref sig .tc := ⟨.hbm, 197, rfl⟩
abbrev main_cst_50 : Ref sig .tc := ⟨.hbm, 198, rfl⟩
abbrev main_cst_51 : Ref sig .tc := ⟨.hbm, 199, rfl⟩
abbrev main_call18_v0 : Ref sig .tc := ⟨.hbm, 200, rfl⟩
abbrev main_call18_v1 : Ref sig .tc := ⟨.hbm, 201, rfl⟩
abbrev main_v125 : Ref sig .tc := ⟨.hbm, 202, rfl⟩
abbrev main_v126 : Ref sig .tc := ⟨.hbm, 203, rfl⟩
abbrev main_v127 : Ref sig .tc := ⟨.hbm, 204, rfl⟩
abbrev main_v128 : Ref sig .tc := ⟨.hbm, 205, rfl⟩
abbrev main_v129 : Ref sig .tc := ⟨.hbm, 206, rfl⟩
abbrev main_c_52 : Ref sig .tc := ⟨.hbm, 207, rfl⟩
abbrev main_v130 : Ref sig .tc := ⟨.hbm, 208, rfl⟩
abbrev main_v131 : Ref sig .tc := ⟨.hbm, 209, rfl⟩
abbrev main_c_53 : Ref sig .tc := ⟨.hbm, 210, rfl⟩
abbrev main_v132 : Ref sig .tc := ⟨.hbm, 211, rfl⟩
abbrev main_v133 : Ref sig .tc := ⟨.hbm, 212, rfl⟩
abbrev main_c_54 : Ref sig .tc := ⟨.hbm, 213, rfl⟩
abbrev main_v134 : Ref sig .tc := ⟨.hbm, 214, rfl⟩
abbrev main_v135 : Ref sig .tc := ⟨.hbm, 215, rfl⟩
abbrev main_c_55 : Ref sig .tc := ⟨.hbm, 216, rfl⟩
abbrev main_v136 : Ref sig .tc := ⟨.hbm, 217, rfl⟩
abbrev main_v137 : Ref sig .tc := ⟨.hbm, 218, rfl⟩
abbrev main_c_56 : Ref sig .tc := ⟨.hbm, 219, rfl⟩
abbrev main_v138 : Ref sig .tc := ⟨.hbm, 220, rfl⟩
abbrev main_v139 : Ref sig .tc := ⟨.hbm, 221, rfl⟩
abbrev main_c_57 : Ref sig .tc := ⟨.hbm, 222, rfl⟩
abbrev main_v140 : Ref sig .tc := ⟨.hbm, 223, rfl⟩
abbrev main_v141 : Ref sig .tc := ⟨.hbm, 224, rfl⟩
abbrev main_c_58 : Ref sig .tc := ⟨.hbm, 225, rfl⟩
abbrev main_v142 : Ref sig .tc := ⟨.hbm, 226, rfl⟩
abbrev main_v143 : Ref sig .tc := ⟨.hbm, 227, rfl⟩
abbrev main_c_59 : Ref sig .tc := ⟨.hbm, 228, rfl⟩
abbrev main_v144 : Ref sig .tc := ⟨.hbm, 229, rfl⟩
abbrev main_v145 : Ref sig .tc := ⟨.hbm, 230, rfl⟩
abbrev main_c_60 : Ref sig .tc := ⟨.hbm, 231, rfl⟩
abbrev main_v146 : Ref sig .tc := ⟨.hbm, 232, rfl⟩
abbrev main_v147 : Ref sig .tc := ⟨.hbm, 233, rfl⟩
abbrev main_cst_61 : Ref sig .tc := ⟨.hbm, 234, rfl⟩
abbrev main_cst_62 : Ref sig .tc := ⟨.hbm, 235, rfl⟩
abbrev main_call22_v0 : Ref sig .tc := ⟨.hbm, 236, rfl⟩
abbrev main_call22_v1 : Ref sig .tc := ⟨.hbm, 237, rfl⟩
abbrev main_v148 : Ref sig .tc := ⟨.hbm, 238, rfl⟩
abbrev main_cst_63 : Ref sig .tc := ⟨.hbm, 239, rfl⟩
abbrev main_cst_64 : Ref sig .tc := ⟨.hbm, 240, rfl⟩
abbrev main_call23_v0 : Ref sig .tc := ⟨.hbm, 241, rfl⟩
abbrev main_call23_v1 : Ref sig .tc := ⟨.hbm, 242, rfl⟩
abbrev main_v149 : Ref sig .tc := ⟨.hbm, 243, rfl⟩
abbrev main_v150 : Ref sig .tc := ⟨.hbm, 244, rfl⟩
abbrev main_cst_65 : Ref sig .tc := ⟨.hbm, 245, rfl⟩
abbrev main_cst_66 : Ref sig .tc := ⟨.hbm, 246, rfl⟩
abbrev main_call25_v0 : Ref sig .tc := ⟨.hbm, 247, rfl⟩
abbrev main_call25_v1 : Ref sig .tc := ⟨.hbm, 248, rfl⟩
abbrev main_v151 : Ref sig .tc := ⟨.hbm, 249, rfl⟩
abbrev main_cst_67 : Ref sig .tc := ⟨.hbm, 250, rfl⟩
abbrev main_cst_68 : Ref sig .tc := ⟨.hbm, 251, rfl⟩
abbrev main_call26_v0 : Ref sig .tc := ⟨.hbm, 252, rfl⟩
abbrev main_call26_v1 : Ref sig .tc := ⟨.hbm, 253, rfl⟩
abbrev main_v152 : Ref sig .tc := ⟨.hbm, 254, rfl⟩
abbrev main_v153 : Ref sig .tc := ⟨.hbm, 255, rfl⟩
abbrev main_v154 : Ref sig .tc := ⟨.hbm, 256, rfl⟩
abbrev main_v155 : Ref sig .tc := ⟨.hbm, 257, rfl⟩
abbrev main_v156 : Ref sig .tc := ⟨.hbm, 258, rfl⟩
abbrev main_v157 : Ref sig .tc := ⟨.hbm, 259, rfl⟩
abbrev main_v158 : Ref sig .tc := ⟨.hbm, 260, rfl⟩
abbrev main_v159 : Ref sig .tc := ⟨.hbm, 261, rfl⟩
abbrev main_v160 : Ref sig .tc := ⟨.hbm, 262, rfl⟩
abbrev main_v161 : Ref sig .tc := ⟨.hbm, 263, rfl⟩
abbrev main_c_69 : Ref sig .tc := ⟨.hbm, 264, rfl⟩
abbrev main_v162 : Ref sig .tc := ⟨.hbm, 265, rfl⟩
abbrev main_v163 : Ref sig .tc := ⟨.hbm, 266, rfl⟩
abbrev main_cst_70 : Ref sig .tc := ⟨.hbm, 267, rfl⟩
abbrev main_v164 : Ref sig .tc := ⟨.hbm, 268, rfl⟩
abbrev main_v165 : Ref sig .tc := ⟨.hbm, 269, rfl⟩
abbrev main_v166 : Ref sig .tc := ⟨.hbm, 270, rfl⟩
abbrev main_c_71 : Ref sig .tc := ⟨.hbm, 271, rfl⟩
abbrev main_v167 : Ref sig .tc := ⟨.hbm, 272, rfl⟩
abbrev main_v168 : Ref sig .tc := ⟨.hbm, 273, rfl⟩
abbrev main_c_72 : Ref sig .tc := ⟨.hbm, 274, rfl⟩
abbrev main_v169 : Ref sig .tc := ⟨.hbm, 275, rfl⟩
abbrev main_v170 : Ref sig .tc := ⟨.hbm, 276, rfl⟩
abbrev main_cst_73 : Ref sig .tc := ⟨.hbm, 277, rfl⟩
abbrev main_call30_v0 : Ref sig .tc := ⟨.hbm, 278, rfl⟩
abbrev main_v171 : Ref sig .tc := ⟨.hbm, 279, rfl⟩
abbrev main_cst_74 : Ref sig .tc := ⟨.hbm, 280, rfl⟩
abbrev main_call31_v0 : Ref sig .tc := ⟨.hbm, 281, rfl⟩
abbrev main_v172 : Ref sig .tc := ⟨.hbm, 282, rfl⟩
abbrev main_v173 : Ref sig .tc := ⟨.hbm, 283, rfl⟩
abbrev main_v174 : Ref sig .tc := ⟨.hbm, 284, rfl⟩
abbrev main_v175 : Ref sig .tc := ⟨.hbm, 285, rfl⟩
abbrev main_v176 : Ref sig .tc := ⟨.hbm, 286, rfl⟩
abbrev main_v177 : Ref sig .tc := ⟨.hbm, 287, rfl⟩
abbrev main_v178 : Ref sig .tc := ⟨.hbm, 288, rfl⟩
abbrev main_c_75 : Ref sig .tc := ⟨.hbm, 289, rfl⟩
abbrev main_v179 : Ref sig .tc := ⟨.hbm, 290, rfl⟩
abbrev main_v180 : Ref sig .tc := ⟨.hbm, 291, rfl⟩
abbrev main_c_76 : Ref sig .tc := ⟨.hbm, 292, rfl⟩
abbrev main_v181 : Ref sig .tc := ⟨.hbm, 293, rfl⟩
abbrev main_v182 : Ref sig .tc := ⟨.hbm, 294, rfl⟩
abbrev main_c_77 : Ref sig .tc := ⟨.hbm, 295, rfl⟩
abbrev main_v183 : Ref sig .tc := ⟨.hbm, 296, rfl⟩
abbrev main_v184 : Ref sig .tc := ⟨.hbm, 297, rfl⟩
abbrev main_c_78 : Ref sig .tc := ⟨.hbm, 298, rfl⟩
abbrev main_v185 : Ref sig .tc := ⟨.hbm, 299, rfl⟩
abbrev main_v186 : Ref sig .tc := ⟨.hbm, 300, rfl⟩
abbrev main_c_79 : Ref sig .tc := ⟨.hbm, 301, rfl⟩
abbrev main_v187 : Ref sig .tc := ⟨.hbm, 302, rfl⟩
abbrev main_v188 : Ref sig .tc := ⟨.hbm, 303, rfl⟩
abbrev main_c_80 : Ref sig .tc := ⟨.hbm, 304, rfl⟩
abbrev main_v189 : Ref sig .tc := ⟨.hbm, 305, rfl⟩
abbrev main_v190 : Ref sig .tc := ⟨.hbm, 306, rfl⟩
abbrev main_c_81 : Ref sig .tc := ⟨.hbm, 307, rfl⟩
abbrev main_v191 : Ref sig .tc := ⟨.hbm, 308, rfl⟩
abbrev main_v192 : Ref sig .tc := ⟨.hbm, 309, rfl⟩
abbrev main_c_82 : Ref sig .tc := ⟨.hbm, 310, rfl⟩
abbrev main_v193 : Ref sig .tc := ⟨.hbm, 311, rfl⟩
abbrev main_v194 : Ref sig .tc := ⟨.hbm, 312, rfl⟩
abbrev main_c_83 : Ref sig .tc := ⟨.hbm, 313, rfl⟩
abbrev main_v195 : Ref sig .tc := ⟨.hbm, 314, rfl⟩
abbrev main_v196 : Ref sig .tc := ⟨.hbm, 315, rfl⟩
abbrev main_cst_84 : Ref sig .tc := ⟨.hbm, 316, rfl⟩
abbrev main_cst_85 : Ref sig .tc := ⟨.hbm, 317, rfl⟩
abbrev main_call32_v0 : Ref sig .tc := ⟨.hbm, 318, rfl⟩
abbrev main_call32_v1 : Ref sig .tc := ⟨.hbm, 319, rfl⟩
abbrev main_v197 : Ref sig .tc := ⟨.hbm, 320, rfl⟩
abbrev main_cst_86 : Ref sig .tc := ⟨.hbm, 321, rfl⟩
abbrev main_cst_87 : Ref sig .tc := ⟨.hbm, 322, rfl⟩
abbrev main_call33_v0 : Ref sig .tc := ⟨.hbm, 323, rfl⟩
abbrev main_call33_v1 : Ref sig .tc := ⟨.hbm, 324, rfl⟩
abbrev main_v198 : Ref sig .tc := ⟨.hbm, 325, rfl⟩
abbrev main_v199 : Ref sig .tc := ⟨.hbm, 326, rfl⟩
abbrev main_cst_88 : Ref sig .tc := ⟨.hbm, 327, rfl⟩
abbrev main_cst_89 : Ref sig .tc := ⟨.hbm, 328, rfl⟩
abbrev main_call35_v0 : Ref sig .tc := ⟨.hbm, 329, rfl⟩
abbrev main_call35_v1 : Ref sig .tc := ⟨.hbm, 330, rfl⟩
abbrev main_v200 : Ref sig .tc := ⟨.hbm, 331, rfl⟩
abbrev main_cst_90 : Ref sig .tc := ⟨.hbm, 332, rfl⟩
abbrev main_cst_91 : Ref sig .tc := ⟨.hbm, 333, rfl⟩
abbrev main_call36_v0 : Ref sig .tc := ⟨.hbm, 334, rfl⟩
abbrev main_call36_v1 : Ref sig .tc := ⟨.hbm, 335, rfl⟩
abbrev main_v201 : Ref sig .tc := ⟨.hbm, 336, rfl⟩
abbrev main_v202 : Ref sig .tc := ⟨.hbm, 337, rfl⟩
abbrev main_v203 : Ref sig .tc := ⟨.hbm, 338, rfl⟩
abbrev main_v204 : Ref sig .tc := ⟨.hbm, 339, rfl⟩
abbrev main_v205 : Ref sig .tc := ⟨.hbm, 340, rfl⟩
abbrev main_c_92 : Ref sig .tc := ⟨.hbm, 341, rfl⟩
abbrev main_v206 : Ref sig .tc := ⟨.hbm, 342, rfl⟩
abbrev main_v207 : Ref sig .tc := ⟨.hbm, 343, rfl⟩
abbrev main_c_93 : Ref sig .tc := ⟨.hbm, 344, rfl⟩
abbrev main_v208 : Ref sig .tc := ⟨.hbm, 345, rfl⟩
abbrev main_v209 : Ref sig .tc := ⟨.hbm, 346, rfl⟩
abbrev main_c_94 : Ref sig .tc := ⟨.hbm, 347, rfl⟩
abbrev main_v210 : Ref sig .tc := ⟨.hbm, 348, rfl⟩
abbrev main_v211 : Ref sig .tc := ⟨.hbm, 349, rfl⟩
abbrev main_c_95 : Ref sig .tc := ⟨.hbm, 350, rfl⟩
abbrev main_v212 : Ref sig .tc := ⟨.hbm, 351, rfl⟩
abbrev main_v213 : Ref sig .tc := ⟨.hbm, 352, rfl⟩
abbrev main_c_96 : Ref sig .tc := ⟨.hbm, 353, rfl⟩
abbrev main_v214 : Ref sig .tc := ⟨.hbm, 354, rfl⟩
abbrev main_v215 : Ref sig .tc := ⟨.hbm, 355, rfl⟩
abbrev main_c_97 : Ref sig .tc := ⟨.hbm, 356, rfl⟩
abbrev main_v216 : Ref sig .tc := ⟨.hbm, 357, rfl⟩
abbrev main_v217 : Ref sig .tc := ⟨.hbm, 358, rfl⟩
abbrev main_c_98 : Ref sig .tc := ⟨.hbm, 359, rfl⟩
abbrev main_v218 : Ref sig .tc := ⟨.hbm, 360, rfl⟩
abbrev main_v219 : Ref sig .tc := ⟨.hbm, 361, rfl⟩
abbrev main_c_99 : Ref sig .tc := ⟨.hbm, 362, rfl⟩
abbrev main_v220 : Ref sig .tc := ⟨.hbm, 363, rfl⟩
abbrev main_v221 : Ref sig .tc := ⟨.hbm, 364, rfl⟩
abbrev main_c_100 : Ref sig .tc := ⟨.hbm, 365, rfl⟩
abbrev main_v222 : Ref sig .tc := ⟨.hbm, 366, rfl⟩
abbrev main_v223 : Ref sig .tc := ⟨.hbm, 367, rfl⟩
abbrev main_cst_101 : Ref sig .tc := ⟨.hbm, 368, rfl⟩
abbrev main_cst_102 : Ref sig .tc := ⟨.hbm, 369, rfl⟩
abbrev main_call40_v0 : Ref sig .tc := ⟨.hbm, 370, rfl⟩
abbrev main_call40_v1 : Ref sig .tc := ⟨.hbm, 371, rfl⟩
abbrev main_v224 : Ref sig .tc := ⟨.hbm, 372, rfl⟩
abbrev main_cst_103 : Ref sig .tc := ⟨.hbm, 373, rfl⟩
abbrev main_cst_104 : Ref sig .tc := ⟨.hbm, 374, rfl⟩
abbrev main_call41_v0 : Ref sig .tc := ⟨.hbm, 375, rfl⟩
abbrev main_call41_v1 : Ref sig .tc := ⟨.hbm, 376, rfl⟩
abbrev main_v225 : Ref sig .tc := ⟨.hbm, 377, rfl⟩
abbrev main_v226 : Ref sig .tc := ⟨.hbm, 378, rfl⟩
abbrev main_cst_105 : Ref sig .tc := ⟨.hbm, 379, rfl⟩
abbrev main_cst_106 : Ref sig .tc := ⟨.hbm, 380, rfl⟩
abbrev main_call43_v0 : Ref sig .tc := ⟨.hbm, 381, rfl⟩
abbrev main_call43_v1 : Ref sig .tc := ⟨.hbm, 382, rfl⟩
abbrev main_v227 : Ref sig .tc := ⟨.hbm, 383, rfl⟩
abbrev main_cst_107 : Ref sig .tc := ⟨.hbm, 384, rfl⟩
abbrev main_cst_108 : Ref sig .tc := ⟨.hbm, 385, rfl⟩
abbrev main_call44_v0 : Ref sig .tc := ⟨.hbm, 386, rfl⟩
abbrev main_call44_v1 : Ref sig .tc := ⟨.hbm, 387, rfl⟩
abbrev main_v228 : Ref sig .tc := ⟨.hbm, 388, rfl⟩
abbrev main_v229 : Ref sig .tc := ⟨.hbm, 389, rfl⟩
abbrev main_v230 : Ref sig .tc := ⟨.hbm, 390, rfl⟩
abbrev main_v231 : Ref sig .tc := ⟨.hbm, 391, rfl⟩
abbrev main_v232 : Ref sig .tc := ⟨.hbm, 392, rfl⟩
abbrev main_v233 : Ref sig .tc := ⟨.hbm, 393, rfl⟩
abbrev main_v234 : Ref sig .tc := ⟨.hbm, 394, rfl⟩
abbrev main_v235 : Ref sig .tc := ⟨.hbm, 395, rfl⟩
abbrev main_v236 : Ref sig .tc := ⟨.hbm, 396, rfl⟩
abbrev main_v237 : Ref sig .tc := ⟨.hbm, 397, rfl⟩
abbrev main_c_109 : Ref sig .tc := ⟨.hbm, 398, rfl⟩
abbrev main_v238 : Ref sig .tc := ⟨.hbm, 399, rfl⟩
abbrev main_v239 : Ref sig .tc := ⟨.hbm, 400, rfl⟩
abbrev main_cst_110 : Ref sig .tc := ⟨.hbm, 401, rfl⟩
abbrev main_v240 : Ref sig .tc := ⟨.hbm, 402, rfl⟩
abbrev main_v241 : Ref sig .tc := ⟨.hbm, 403, rfl⟩
abbrev main_v242 : Ref sig .tc := ⟨.hbm, 404, rfl⟩
abbrev main_c_111 : Ref sig .tc := ⟨.hbm, 405, rfl⟩
abbrev main_v243 : Ref sig .tc := ⟨.hbm, 406, rfl⟩
abbrev main_v244 : Ref sig .tc := ⟨.hbm, 407, rfl⟩
abbrev main_c_112 : Ref sig .tc := ⟨.hbm, 408, rfl⟩
abbrev main_v245 : Ref sig .tc := ⟨.hbm, 409, rfl⟩
abbrev main_v246 : Ref sig .tc := ⟨.hbm, 410, rfl⟩
abbrev main_cst_113 : Ref sig .tc := ⟨.hbm, 411, rfl⟩
abbrev main_call48_v0 : Ref sig .tc := ⟨.hbm, 412, rfl⟩
abbrev main_v247 : Ref sig .tc := ⟨.hbm, 413, rfl⟩
abbrev main_cst_114 : Ref sig .tc := ⟨.hbm, 414, rfl⟩
abbrev main_call49_v0 : Ref sig .tc := ⟨.hbm, 415, rfl⟩
abbrev main_v248 : Ref sig .tc := ⟨.hbm, 416, rfl⟩
abbrev main_v249 : Ref sig .tc := ⟨.hbm, 417, rfl⟩
abbrev main_v250 : Ref sig .tc := ⟨.hbm, 418, rfl⟩
abbrev main_v251 : Ref sig .tc := ⟨.hbm, 419, rfl⟩
abbrev main_v252 : Ref sig .tc := ⟨.hbm, 420, rfl⟩
abbrev main_v253 : Ref sig .tc := ⟨.hbm, 421, rfl⟩
abbrev main_v254 : Ref sig .tc := ⟨.hbm, 422, rfl⟩
abbrev main_v255 : Ref sig .tc := ⟨.hbm, 423, rfl⟩
abbrev main_v256 : Ref sig .tc := ⟨.hbm, 424, rfl⟩
abbrev main_v257 : Ref sig .tc := ⟨.hbm, 425, rfl⟩
abbrev main_v258 : Ref sig .tc := ⟨.hbm, 426, rfl⟩
abbrev main_v259 : Ref sig .tc := ⟨.hbm, 427, rfl⟩
abbrev main_v260 : Ref sig .tc := ⟨.hbm, 428, rfl⟩
abbrev main_v261 : Ref sig .tc := ⟨.hbm, 429, rfl⟩
abbrev main_v262 : Ref sig .tc := ⟨.hbm, 430, rfl⟩
abbrev main_v263 : Ref sig .tc := ⟨.hbm, 431, rfl⟩

abbrev nD : Nat := 1
abbrev τ : Topo := Topo.v7x

variable {F : FTy → Type} [FloatOps F]
-- ==== Proof.K.Runs.lean ====
/- What the three cases of the body share: the program up to its one region, the contents of the arrays there, the
   branch conditions over the points, and the staging and scratch buffers. -/
module

public import proofs.«01_k».proof.Proof.Gen.Kernel.Launch
public import proofs.«01_k».proof.Proof.Gen.Kernel.Skeleton
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The windows' blocks -/

/-- Window `w`'s block at point `t`, read off its array as the region finds it (`V`). -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of {c : Dev nD} (dat : Dat τ (Elt F) Unit ℕ (UR sig nD τ) ℕ cfg0 c) (hA : dat.A 5 = V m c (Pipeline.arrRef spec0 5))
    (hafter : ∀ t, dat.after 5 t = iblk m c 5 t) (t : Fin cfg0.N) (d) : dat.before 5 t d = iblk m c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of {c : Dev nD} (dat : Dat τ (Elt F) Unit ℕ (UR sig nD τ) ℕ cfg0 c) (hA : dat.A 6 = V m c (Pipeline.arrRef spec0 6))
    (hafter : ∀ t, dat.after 6 t = iblk m c 6 t) (t : Fin cfg0.N) (d) : dat.before 6 t d = iblk m c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)
/-- Input window 7's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_7_of {c : Dev nD} (dat : Dat τ (Elt F) Unit ℕ (UR sig nD τ) ℕ cfg0 c) (hA : dat.A 7 = V m c (Pipeline.arrRef spec0 7))
    (hafter : ∀ t, dat.after 7 t = iblk m c 7 t) (t : Fin cfg0.N) (d) : dat.before 7 t d = iblk m c 7 t :=
  (dat.before_in_eq_fetched 7 rfl (fun _ => rfl) (fun _ _ _ => rfl) (fun t => by rw [hafter]; unfold Dat.blockOf iblk; rw [hA]; try rfl) t d).trans
    (by unfold Dat.fetched Dat.blockOf iblk; rw [hA]; try rfl)
/-- Input window 8's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_8_of {c : Dev nD} (dat : Dat τ (Elt F) Unit ℕ (UR sig nD τ) ℕ cfg0 c) (hA : dat.A 8 = V m c (Pipeline.arrRef spec0 8))
    (hafter : ∀ t, dat.after 8 t = iblk m c 8 t) (t : Fin cfg0.N) (d) : dat.before 8 t d = iblk m c 8 t :=
  (dat.before_in_eq_fetched 8 rfl (fun _ => rfl) (fun _ _ _ => rfl) (fun t => by rw [hafter]; unfold Dat.blockOf iblk; rw [hA]; try rfl) t d).trans
    (by unfold Dat.fetched Dat.blockOf iblk; rw [hA]; try rfl)
/-- Input window 9's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_9_of {c : Dev nD} (dat : Dat τ (Elt F) Unit ℕ (UR sig nD τ) ℕ cfg0 c) (hA : dat.A 9 = V m c (Pipeline.arrRef spec0 9))
    (hafter : ∀ t, dat.after 9 t = iblk m c 9 t) (t : Fin cfg0.N) (d) : dat.before 9 t d = iblk m c 9 t :=
  (dat.before_in_eq_fetched 9 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 4 rfl).trans ((hA c 4).trans (V_main_arg2 m c)),
      ((h c).2 main_arg3 (Pipeline.mem_restRefs_of main_arg3 (by decide) (by decide))).trans (V_main_arg3 m c),
      (Pipeline.RDat.FramePost.arr_in h c 7 rfl).trans ((hA c 7).trans (V_main_arg4 m c)),
      (Pipeline.RDat.FramePost.arr_in h c 8 rfl).trans ((hA c 8).trans (V_main_arg5 m c)),
      ((h c).2 main_arg6 (Pipeline.mem_restRefs_of main_arg6 (by decide) (by decide))).trans (V_main_arg6 m c)⟩) h

/-! ## The body's branch conditions -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x3840 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x48x3840 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x3840 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3840 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x3840 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x768 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x480 .i8 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x3840 .f32 := Memref.whole cc0_scratch0
abbrev scM0_1 : Memref sig .tc .vmem S256x1536 .bf16 := Memref.whole cc0_scratch1
abbrev scM0_2 : Memref sig .tc .vmem S256x1536 .bf16 := Memref.whole cc0_scratch2
abbrev scM0_3 : Memref sig .tc .vmem S256x768 .i8 := Memref.whole cc0_scratch3
abbrev scM0_4 : Memref sig .tc .vmem S512x256 .i32 := Memref.whole cc0_scratch4
abbrev scM0_5 : Memref sig .tc .vmem S48x3840 .i32 := Memref.whole cc0_scratch5
abbrev scM0_6 : Memref sig .tc .vmem S32x256 .f32 := Memref.whole cc0_scratch6
/-- The scratch `arg14` the kernel carries between points, as a view: what it holds is stated through it. -/
abbrev VS0_0 : View sig .tc .vmem S256x3840 .f32 := scM0_0.view
/-- The scratch `arg15` the kernel carries between points, as a view: what it holds is stated through it. -/
abbrev VS0_1 : View sig .tc .vmem S256x1536 .bf16 := scM0_1.view
/-- The scratch `arg20` the kernel carries between points, as a view: what it holds is stated through it. -/
abbrev VS0_6 : View sig .tc .vmem S32x256 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Gen

end
-- ==== Proof.K.RunA.lean ====
/- The whole body run in the case of the first point. -/
module

public import proofs.«01_k».proof.Proof.K.Runs

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 8992000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12) at anything, handed back at some contents nothing names. -/
noncomputable def kernelRun0_A (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) :
    Σ' (LS0 : List (View.Piece (Elt F) S256x3840 .f32)), Σ' (LS1 : List (View.Piece (Elt F) S256x1536 .bf16)), Σ' (LS6 : List (View.Piece (Elt F) S32x256 .f32)), Σ' (LT2 : List (View.Piece (Elt F) S256x1536 .bf16)), { LT5 : List (View.Piece (Elt F) S48x3840 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LT2) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LT5) ∗ (∃ f, arg20.view.loc (c : Thread nD τ) ↦[arg20.view.set]{fullShare} arg20.view.writes (Elt F) f LS6)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_svdquant_eq_skeleton]; unfold cc0_svdquant_skel
    simp only [k0_part297_eq_skeleton, k0_part103_eq_skeleton, k0_part101_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part102_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part298_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part299_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]; · iexists _; iexact HS5
    iexists _; iexact HS6

end Cert.Kernel.Gen

end
-- ==== Proof.K.RunB.lean ====
/- The whole body run in the case of the points between the first and the last. -/
module

public import proofs.«01_k».proof.Proof.K.RunA

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6848000 in
/-- What the body's stores leave in each output's staging memref, as pieces (last first) IN CASE B (`scf.if` 0 not taken, `scf.if` 1 not taken: points 1, 2, … 8: 8 of 10), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12) at anything, handed back at some contents nothing names. -/
noncomputable def kernelRun0_B (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) :
    Σ' (LS0 : List (View.Piece (Elt F) S256x3840 .f32)), Σ' (LS1 : List (View.Piece (Elt F) S256x1536 .bf16)), Σ' (LS6 : List (View.Piece (Elt F) S32x256 .f32)), Σ' (LT2 : List (View.Piece (Elt F) S256x1536 .bf16)), { LT5 : List (View.Piece (Elt F) S48x3840 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LT2) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LT5) ∗ (∃ f, arg20.view.loc (c : Thread nD τ) ↦[arg20.view.set]{fullShare} arg20.view.writes (Elt F) f LS6)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_svdquant_eq_skeleton]; unfold cc0_svdquant_skel
    simp only [k0_part297_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part298_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part299_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1; obtain rfl := harg20.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]; · iexists _; iexact HS5
    iexists _; iexact HS6

end Cert.Kernel.Gen

end
-- ==== Proof.K.RunC.lean ====
/- The whole body run in the case of the last point. -/
module

public import proofs.«01_k».proof.Proof.K.RunB

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 6884000 in
/-- What the body's stores leave in each output's staging memref, as pieces (last first) IN CASE C (`scf.if` 0 not taken, `scf.if` 1 taken: points 9), WITH the
    proof that on whole staging memrefs — the inputs' at their contents, the other outputs' at
    anything, a carried scratch at the contents the point before left (`xs·`) or at anything, the other scratch at anything, the body runs to the continuation holding the inputs' as they were,
    a carried scratch it stored into with its pieces written (`LS·`), a scratch it stored into and does not carry with its pieces (`LT·`) written over some contents, the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (10, 11, 12) at anything, handed back at some contents nothing names. -/
noncomputable def kernelRun0_C (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) :
    Σ' (LS0 : List (View.Piece (Elt F) S256x3840 .f32)), Σ' (LS1 : List (View.Piece (Elt F) S256x1536 .bf16)), Σ' (LS6 : List (View.Piece (Elt F) S32x256 .f32)), Σ' (LT2 : List (View.Piece (Elt F) S256x1536 .bf16)), { LT5 : List (View.Piece (Elt F) S48x3840 .i32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ owns (c : Thread nD τ) arg14 fullShare xs0 ∗ owns (c : Thread nD τ) arg15 fullShare xs1 ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ owns (c : Thread nD τ) arg20 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ (∃ d, owns (c : Thread nD τ) arg11 fullShare d) ∗ (∃ d, owns (c : Thread nD τ) arg12 fullShare d) ∗ (∃ d, owns (c : Thread nD τ) arg13 fullShare d) ∗ (∃ f, arg14.view.loc (c : Thread nD τ) ↦[arg14.view.set]{fullShare} arg14.view.writes (Elt F) f LS0) ∗ (∃ f, arg15.view.loc (c : Thread nD τ) ↦[arg15.view.set]{fullShare} arg15.view.writes (Elt F) f LS1) ∗ (∃ f, arg16.view.loc (c : Thread nD τ) ↦[arg16.view.set]{fullShare} arg16.view.writes (Elt F) f LT2) ∗ (∃ d, owns (c : Thread nD τ) arg17 fullShare d) ∗ (∃ d, owns (c : Thread nD τ) arg18 fullShare d) ∗ (∃ f, arg19.view.loc (c : Thread nD τ) ↦[arg19.view.set]{fullShare} arg19.view.writes (Elt F) f LT5) ∗ (∃ f, arg20.view.loc (c : Thread nD τ) ↦[arg20.view.set]{fullShare} arg20.view.writes (Elt F) f LS6)) -∗ K ⟨⟩))
          ⊢ wp frame (wpE (defs₀ (F := F)) Variants.none c none) E (cc0_svdquant i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, ?_, fun E K => ?run⟩
  case run =>
    simp only [cc0_svdquant_eq_skeleton]; unfold cc0_svdquant_skel
    simp only [k0_part297_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part112_eq_skeleton, k0_part113_eq_skeleton, k0_part114_eq_skeleton, k0_part115_eq_skeleton, k0_part116_eq_skeleton, k0_part117_eq_skeleton, k0_part118_eq_skeleton, k0_part119_eq_skeleton, k0_part120_eq_skeleton, k0_part121_eq_skeleton, k0_part122_eq_skeleton, k0_part123_eq_skeleton, k0_part124_eq_skeleton, k0_part125_eq_skeleton, k0_part126_eq_skeleton, k0_part127_eq_skeleton, k0_part128_eq_skeleton, k0_part129_eq_skeleton, k0_part130_eq_skeleton, k0_part131_eq_skeleton, k0_part132_eq_skeleton, k0_part133_eq_skeleton, k0_part134_eq_skeleton, k0_part135_eq_skeleton, k0_part136_eq_skeleton, k0_part137_eq_skeleton, k0_part138_eq_skeleton, k0_part139_eq_skeleton, k0_part140_eq_skeleton, k0_part141_eq_skeleton, k0_part142_eq_skeleton, k0_part143_eq_skeleton, k0_part144_eq_skeleton, k0_part145_eq_skeleton, k0_part146_eq_skeleton, k0_part147_eq_skeleton, k0_part148_eq_skeleton, k0_part149_eq_skeleton, k0_part150_eq_skeleton, k0_part151_eq_skeleton, k0_part152_eq_skeleton, k0_part153_eq_skeleton, k0_part154_eq_skeleton, k0_part155_eq_skeleton, k0_part156_eq_skeleton, k0_part157_eq_skeleton, k0_part158_eq_skeleton, k0_part159_eq_skeleton, k0_part160_eq_skeleton, k0_part161_eq_skeleton, k0_part162_eq_skeleton, k0_part298_eq_skeleton, k0_part163_eq_skeleton, k0_part164_eq_skeleton, k0_part165_eq_skeleton, k0_part166_eq_skeleton, k0_part167_eq_skeleton, k0_part168_eq_skeleton, k0_part169_eq_skeleton, k0_part170_eq_skeleton, k0_part171_eq_skeleton, k0_part172_eq_skeleton, k0_part173_eq_skeleton, k0_part174_eq_skeleton, k0_part175_eq_skeleton, k0_part176_eq_skeleton, k0_part177_eq_skeleton, k0_part178_eq_skeleton, k0_part179_eq_skeleton, k0_part180_eq_skeleton, k0_part181_eq_skeleton, k0_part182_eq_skeleton, k0_part183_eq_skeleton, k0_part184_eq_skeleton, k0_part185_eq_skeleton, k0_part186_eq_skeleton, k0_part187_eq_skeleton, k0_part188_eq_skeleton, k0_part189_eq_skeleton, k0_part190_eq_skeleton, k0_part191_eq_skeleton, k0_part192_eq_skeleton, k0_part193_eq_skeleton, k0_part194_eq_skeleton, k0_part195_eq_skeleton, k0_part196_eq_skeleton, k0_part197_eq_skeleton, k0_part198_eq_skeleton, k0_part199_eq_skeleton, k0_part200_eq_skeleton, k0_part201_eq_skeleton, k0_part202_eq_skeleton, k0_part203_eq_skeleton, k0_part204_eq_skeleton, k0_part205_eq_skeleton, k0_part206_eq_skeleton, k0_part207_eq_skeleton, k0_part208_eq_skeleton, k0_part209_eq_skeleton, k0_part210_eq_skeleton, k0_part211_eq_skeleton, k0_part212_eq_skeleton, k0_part213_eq_skeleton, k0_part214_eq_skeleton, k0_part215_eq_skeleton, k0_part216_eq_skeleton, k0_part217_eq_skeleton, k0_part218_eq_skeleton, k0_part219_eq_skeleton, k0_part220_eq_skeleton, k0_part221_eq_skeleton, k0_part222_eq_skeleton, k0_part299_eq_skeleton, k0_part223_eq_skeleton, k0_part224_eq_skeleton, k0_part225_eq_skeleton, k0_part226_eq_skeleton, k0_part227_eq_skeleton, k0_part228_eq_skeleton, k0_part229_eq_skeleton, k0_part230_eq_skeleton, k0_part231_eq_skeleton, k0_part232_eq_skeleton, k0_part233_eq_skeleton, k0_part234_eq_skeleton, k0_part235_eq_skeleton, k0_part236_eq_skeleton, k0_part237_eq_skeleton, k0_part238_eq_skeleton, k0_part239_eq_skeleton, k0_part240_eq_skeleton, k0_part241_eq_skeleton, k0_part242_eq_skeleton, k0_part243_eq_skeleton, k0_part244_eq_skeleton, k0_part245_eq_skeleton, k0_part246_eq_skeleton, k0_part247_eq_skeleton, k0_part248_eq_skeleton, k0_part249_eq_skeleton, k0_part250_eq_skeleton, k0_part251_eq_skeleton, k0_part252_eq_skeleton, k0_part253_eq_skeleton, k0_part254_eq_skeleton, k0_part255_eq_skeleton, k0_part256_eq_skeleton, k0_part257_eq_skeleton, k0_part258_eq_skeleton, k0_part259_eq_skeleton, k0_part260_eq_skeleton, k0_part261_eq_skeleton, k0_part262_eq_skeleton, k0_part263_eq_skeleton, k0_part264_eq_skeleton, k0_part265_eq_skeleton, k0_part266_eq_skeleton, k0_part267_eq_skeleton, k0_part268_eq_skeleton, k0_part269_eq_skeleton, k0_part270_eq_skeleton, k0_part271_eq_skeleton, k0_part272_eq_skeleton, k0_part273_eq_skeleton, k0_part274_eq_skeleton, k0_part275_eq_skeleton, k0_part276_eq_skeleton, k0_part277_eq_skeleton, k0_part278_eq_skeleton, k0_part279_eq_skeleton, k0_part280_eq_skeleton, k0_part281_eq_skeleton, k0_part282_eq_skeleton, k0_part283_eq_skeleton, k0_part284_eq_skeleton, k0_part285_eq_skeleton, k0_part286_eq_skeleton, k0_part287_eq_skeleton, k0_part288_eq_skeleton, k0_part289_eq_skeleton, k0_part290_eq_skeleton, k0_part291_eq_skeleton, k0_part292_eq_skeleton, k0_part293_eq_skeleton, k0_part294_eq_skeleton, k0_part295_eq_skeleton, k0_part296_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%fs0, %hfs0, HS0⟩, ⟨%fs1, %hfs1, HS1⟩, ⟨%ds2, %fs2, -, HS2⟩, ⟨%ds3, %fs3, -, HS3⟩, ⟨%ds4, %fs4, -, HS4⟩, ⟨%ds5, %fs5, -, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg14.eq_unread hfs0; obtain rfl := harg15.eq_unread hfs1; obtain rfl := harg20.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]; · iexists _; iexact HS0
    isplitl [HS1]; · iexists _; iexact HS1
    isplitl [HS2]; · iexists _; iexact HS2
    isplitl [HS3]
    · iexists _, _; isplitr; swap; · iexact HS3
      ipureintro; rfl
    isplitl [HS4]
    · iexists _, _; isplitr; swap; · iexact HS4
      ipureintro; rfl
    isplitl [HS5]; · iexists _; iexact HS5
    iexists _; iexact HS6

end Cert.Kernel.Gen

end
-- ==== Proof.K.Frame.lean ====
/- The frame of the kernel as it is printed, at any float values: what the scratch carried from point to point holds,
   that the body takes one point to the next in each of its cases, and that the program runs to its end with its
   arguments unchanged and every semaphore at zero. Nothing is said of the results. The text follows the generated
   frame certificate, which is not written beside a proof of values. -/
module

public import proofs.«01_k».proof.Proof.K.RunC
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- Case A's pieces for scratch `arg14`, which the kernel carries between points, cover it: one of them a store of the WHOLE buffer (Lib/Ring.lean `sl_whole_mem`). -/
theorem scover0_A_0 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (y : S256x3840.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).1, y ∈ pc.1.set :=
  View.cover_of_wholeMem (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).1 (by sl_whole_mem) y

/-- What case A leaves in scratch `arg14`: its pieces read back over junk. -/
def sout0_A_0 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) : Vec F S256x3840 .f32 :=
  VS0_0.read (Elt F) (VS0_0.writes (Elt F) VS0_0.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).1)

/-- Case A's pieces for scratch `arg15`, which the kernel carries between points, cover it: 12 pieces of `S256x256` tiling it (Lib/Ring.lean `Piece.tiledL`). -/
theorem scover0_A_1 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (y : S256x1536.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).2.1 S256x256.size (by sl_kernel_rfl) y

/-- What case A leaves in scratch `arg15`: its pieces read back over junk. -/
def sout0_A_1 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) : Vec F S256x1536 .bf16 :=
  VS0_1.read (Elt F) (VS0_1.writes (Elt F) VS0_1.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).2.1)

/-- Case A's pieces for scratch `arg20`, which the kernel carries between points, cover it: 14 pieces of `S32x256` tiling it (Lib/Ring.lean `Piece.tiledL`). -/
theorem scover0_A_6 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (y : S32x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).2.2.1 S32x256.size (by sl_kernel_rfl) y

/-- What case A leaves in scratch `arg20`: its pieces read back over junk. -/
def sout0_A_6 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) : Vec F S32x256 .f32 :=
  VS0_6.read (Elt F) (VS0_6.writes (Elt F) VS0_6.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9).2.2.1)

/-- Case B's pieces for scratch `arg14`, which the kernel carries between points, cover it: 15 pieces of `S256x256` tiling it (Lib/Ring.lean `Piece.tiledL`). -/
theorem scover0_B_0 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) (y : S256x3840.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).1 S256x256.size (by sl_kernel_rfl) y

/-- What case B leaves in scratch `arg14`: its pieces read back over junk. -/
def sout0_B_0 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) : Vec F S256x3840 .f32 :=
  VS0_0.read (Elt F) (VS0_0.writes (Elt F) VS0_0.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).1)

/-- Case B's pieces for scratch `arg15`, which the kernel carries between points, cover it: 6 pieces of `S256x256` tiling it (Lib/Ring.lean `Piece.tiledL`). -/
theorem scover0_B_1 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) (y : S256x1536.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.1 S256x256.size (by sl_kernel_rfl) y

/-- What case B leaves in scratch `arg15`: its pieces read back over junk. -/
def sout0_B_1 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) : Vec F S256x1536 .bf16 :=
  VS0_1.read (Elt F) (VS0_1.writes (Elt F) VS0_1.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.1)

/-- Case B's pieces for scratch `arg20`, which the kernel carries between points, cover it: 7 pieces of `S32x256` tiling it (Lib/Ring.lean `Piece.tiledL`). -/
theorem scover0_B_6 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) (y : S32x256.Idx) :
    ∃ pc ∈ (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.2.1, y ∈ pc.1.set :=
  View.cover_of_tiledL (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.2.1 S32x256.size (by sl_kernel_rfl) y

/-- What case B leaves in scratch `arg20`: its pieces read back over junk. -/
def sout0_B_6 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : ¬cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) : Vec F S32x256 .f32 :=
  VS0_6.read (Elt F) (VS0_6.writes (Elt F) VS0_6.junk (kernelRun0_B c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.2.1)

/-- Case C's pieces for scratch `arg14`, which the kernel carries between points, cover it: 15 pieces of `S256x256` tiling it (Lib/Ring.lean `Piece.tiledL`). -/
theorem scover0_C_0 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) (y : S256x3840.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).1 S256x256.size (by sl_kernel_rfl) y

/-- What case C leaves in scratch `arg14`: its pieces read back over junk. -/
def sout0_C_0 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) : Vec F S256x3840 .f32 :=
  VS0_0.read (Elt F) (VS0_0.writes (Elt F) VS0_0.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).1)

/-- Case C's pieces for scratch `arg15`, which the kernel carries between points, cover it: 6 pieces of `S256x256` tiling it (Lib/Ring.lean `Piece.tiledL`). -/
theorem scover0_C_1 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) (y : S256x1536.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.1 S256x256.size (by sl_kernel_rfl) y

/-- What case C leaves in scratch `arg15`: its pieces read back over junk. -/
def sout0_C_1 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) : Vec F S256x1536 .bf16 :=
  VS0_1.read (Elt F) (VS0_1.writes (Elt F) VS0_1.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.1)

/-- Case C's pieces for scratch `arg20`, which the kernel carries between points, cover it: 7 pieces of `S32x256` tiling it (Lib/Ring.lean `Piece.tiledL`). -/
theorem scover0_C_6 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) (y : S32x256.Idx) :
    ∃ pc ∈ (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.2.1, y ∈ pc.1.set :=
  View.cover_of_tiledL (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.2.1 S32x256.size (by sl_kernel_rfl) y

/-- What case C leaves in scratch `arg20`: its pieces read back over junk. -/
def sout0_C_6 (c : Dev nD) (i : grid0.Coords) (arg1 : Memref sig .tc .vmem S256x1536 .bf16) (harg1 : arg1.IsWhole) (arg2 : Memref sig .tc .vmem S256x1536 .bf16) (harg2 : arg2.IsWhole) (arg3 : Memref sig .tc .vmem S1x1536 .f32) (harg3 : arg3.IsWhole) (arg4 : Memref sig .tc .vmem S1x1536 .f32) (harg4 : arg4.IsWhole) (arg5 : Memref sig .tc .vmem S768x3840 .i8) (harg5 : arg5.IsWhole) (arg6 : Memref sig .tc .vmem S1x48x3840 .i8) (harg6 : arg6.IsWhole) (arg7 : Memref sig .tc .vmem S1536x32 .bf16) (harg7 : arg7.IsWhole) (arg8 : Memref sig .tc .vmem S1536x32 .bf16) (harg8 : arg8.IsWhole) (arg9 : Memref sig .tc .vmem S32x3840 .bf16) (harg9 : arg9.IsWhole) (arg10 : Memref sig .tc .vmem S1x3840 .f32) (harg10 : arg10.IsWhole) (arg11 : Memref sig .tc .vmem S256x3840 .bf16) (harg11 : arg11.IsWhole) (arg12 : Memref sig .tc .vmem S256x768 .i8) (harg12 : arg12.IsWhole) (arg13 : Memref sig .tc .vmem S256x480 .i8) (harg13 : arg13.IsWhole) (arg14 : Memref sig .tc .vmem S256x3840 .f32) (harg14 : arg14.IsWhole) (arg15 : Memref sig .tc .vmem S256x1536 .bf16) (harg15 : arg15.IsWhole) (arg16 : Memref sig .tc .vmem S256x1536 .bf16) (harg16 : arg16.IsWhole) (arg17 : Memref sig .tc .vmem S256x768 .i8) (harg17 : arg17.IsWhole) (arg18 : Memref sig .tc .vmem S512x256 .i32) (harg18 : arg18.IsWhole) (arg19 : Memref sig .tc .vmem S48x3840 .i32) (harg19 : arg19.IsWhole) (arg20 : Memref sig .tc .vmem S32x256 .f32) (harg20 : arg20.IsWhole) (hc0 : ¬cond0_0 i) (hc1 : cond0_1 i)
    (x0 : Vec F S256x1536 .bf16) (x1 : Vec F S256x1536 .bf16) (x2 : Vec F S1x1536 .f32) (x3 : Vec F S1x1536 .f32) (x4 : Vec F S768x3840 .i8) (x5 : Vec F S1x48x3840 .i8) (x6 : Vec F S1536x32 .bf16) (x7 : Vec F S1536x32 .bf16) (x8 : Vec F S32x3840 .bf16) (x9 : Vec F S1x3840 .f32) (xs0 : Vec F S256x3840 .f32) (xs1 : Vec F S256x1536 .bf16) (xs6 : Vec F S32x256 .f32) : Vec F S32x256 .f32 :=
  VS0_6.read (Elt F) (VS0_6.writes (Elt F) VS0_6.junk (kernelRun0_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 x9 xs0 xs1 xs6).2.2.1)

/-! ## What the outputs hold after each point -/

/-- THE ACCUMULATION. What the outputs' staging buffers and the scratch the kernel carries between points hold after the body at position `n` (a tuple: the outputs in window order, then the scratch):
    the case the closed forms select at `n`, run at the point's memrefs and input blocks, an output it reads before covering
    at what this leaves at `n - 1` (its buffer is not written back between: `before0_W_κ`). An assignment of the conditions no point meets is no case (`False.elim`). -/
def outsAt0 (c : Dev nD) : (n : ℕ) → n < cfg0.N → Vec F S256x3840 .f32 × Vec F S256x1536 .bf16 × Vec F S32x256 .f32
  | 0, hn => (sout0_A_0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_1 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩), sout0_A_6 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) (ms0_3 ⟨0, hn⟩) (hs0_3 ⟨0, hn⟩) (ms0_4 ⟨0, hn⟩) (hs0_4 ⟨0, hn⟩) (ms0_5 ⟨0, hn⟩) (hs0_5 ⟨0, hn⟩) (ms0_6 ⟨0, hn⟩) (hs0_6 ⟨0, hn⟩) (ms0_7 ⟨0, hn⟩) (hs0_7 ⟨0, hn⟩) (ms0_8 ⟨0, hn⟩) (hs0_8 ⟨0, hn⟩) (ms0_9 ⟨0, hn⟩) (hs0_9 ⟨0, hn⟩) (ms0_10 ⟨0, hn⟩) (hs0_10 ⟨0, hn⟩) (ms0_11 ⟨0, hn⟩) (hs0_11 ⟨0, hn⟩) (ms0_12 ⟨0, hn⟩) (hs0_12 ⟨0, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨0, hn⟩).mpr (Nat.zero_mod _)) (fun h => (fun h => by (try dsimp only at h); omega) ((hcond0_1 ⟨0, hn⟩).mp h)) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (iblk m c 8 ⟨0, hn⟩) (iblk m c 9 ⟨0, hn⟩))
  | n + 1, hn =>
    if h0 : (n + 1) % 10 = 0 then
      if h1 : (n + 1) % 10 = 9 then
        False.elim (by have hN : n + 1 < 10 := lt_of_lt_of_eq hn (show cfg0.N = 10 from N_0); omega)
      else
        (sout0_A_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩), sout0_A_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 ⟨n + 1, hn⟩).mpr h0) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩))
    else
      if h1 : (n + 1) % 10 = 9 then
        (sout0_C_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2, sout0_C_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2, sout0_C_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) ((hcond0_1 ⟨n + 1, hn⟩).mpr h1) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2)
      else
        (sout0_B_0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2, sout0_B_1 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2, sout0_B_6 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) (ms0_3 ⟨n + 1, hn⟩) (hs0_3 ⟨n + 1, hn⟩) (ms0_4 ⟨n + 1, hn⟩) (hs0_4 ⟨n + 1, hn⟩) (ms0_5 ⟨n + 1, hn⟩) (hs0_5 ⟨n + 1, hn⟩) (ms0_6 ⟨n + 1, hn⟩) (hs0_6 ⟨n + 1, hn⟩) (ms0_7 ⟨n + 1, hn⟩) (hs0_7 ⟨n + 1, hn⟩) (ms0_8 ⟨n + 1, hn⟩) (hs0_8 ⟨n + 1, hn⟩) (ms0_9 ⟨n + 1, hn⟩) (hs0_9 ⟨n + 1, hn⟩) (ms0_10 ⟨n + 1, hn⟩) (hs0_10 ⟨n + 1, hn⟩) (ms0_11 ⟨n + 1, hn⟩) (hs0_11 ⟨n + 1, hn⟩) (ms0_12 ⟨n + 1, hn⟩) (hs0_12 ⟨n + 1, hn⟩) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 ⟨n + 1, hn⟩).mp h)) (fun h => h1 ((hcond0_1 ⟨n + 1, hn⟩).mp h)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩) (iblk m c 8 ⟨n + 1, hn⟩) (iblk m c 9 ⟨n + 1, hn⟩) (outsAt0 c n (Nat.lt_of_succ_lt hn)).1 (outsAt0 c n (Nat.lt_of_succ_lt hn)).2.1 (outsAt0 c n (Nat.lt_of_succ_lt hn)).2.2)

/-- `outsAt0` at a point of case A: that case's contents. -/
theorem outsAt0_A (c : Dev nD) (t : Fin cfg0.N) (h0 : t.val % 10 = 0) (h1 : ¬t.val % 10 = 9) :
    outsAt0 m c t.val t.isLt = (sout0_A_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t), sout0_A_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t), sout0_A_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)) := by
  obtain ⟨n, hn⟩ := t
  cases n with
  | zero => exact rfl
  | succ n => exact (dif_pos h0).trans ((dif_neg h1).trans rfl)

/-- `outsAt0` at a point of case B: that case's contents, over what the point before left. -/
theorem outsAt0_B (c : Dev nD) (t : Fin cfg0.N) (h0 : ¬t.val % 10 = 0) (h1 : ¬t.val % 10 = 9) :
    outsAt0 m c t.val t.isLt = (sout0_B_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_B_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_neg h1).trans rfl)

/-- `outsAt0` at a point of case C: that case's contents, over what the point before left. -/
theorem outsAt0_C (c : Dev nD) (t : Fin cfg0.N) (h0 : ¬t.val % 10 = 0) (h1 : t.val % 10 = 9) :
    outsAt0 m c t.val t.isLt = (sout0_C_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2, sout0_C_6 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (outsAt0 m c (t.val - 1) (Nat.lt_of_le_of_lt (Nat.sub_le _ _) t.isLt)).1 (outsAt0 m c (t.val - 1) (Nat.lt_of_le_of_lt (Nat.sub_le _ _) t.isLt)).2.1 (outsAt0 m c (t.val - 1) (Nat.lt_of_le_of_lt (Nat.sub_le _ _) t.isLt)).2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n` with a scratch the kernel CARRIES between points: before the first point the
    class's (Lib/Pipeline/Frame.lean `ΦA`: every scratch at anything); afterwards the scoped rest with each carried scratch
    at what the point before left in it (`outsAt0`'s scratch components), the others at anything, and the generator register
    at some state. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).1) ∗ owns (c : Thread nD τ) scM0_1 fullShare ((outsAt0 m c n hn).2.1) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c n hn).2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).1) ∗ owns (c : Thread nD τ) scM0_1 fullShare ((outsAt0 m c (n - 1) (by omega)).2.1) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ owns (c : Thread nD τ) scM0_6 fullShare ((outsAt0 m c (n - 1) (by omega)).2.2)) ∗ (∃ r, prngReg c r)) := by
  cases n with
  | zero => exact absurd rfl hz
  | succ n => rfl

/-! ## The pipeline's proof data -/

/-- The output windows this certificate FORGETS (10, 11, 12): nothing reads what the kernel leaves in them, so nothing
    of it is named (Lib/Pipeline/Dat.lean `Dat.toRForget`). -/
def forgets0 : Fin 13 → Bool := fun w => w.val == 10 || w.val == 11 || w.val == 12

/-- The proof data of the one pipeline on core `c`: the arrays as the region finds them (`V`); after the body at
    point `t` each input's buffer at its block and the outputs, FORGOTTEN, at `Dat.unnamed`; the invariant the class's
    (`PhiS`: the class's `ΦA` before the first point, then the scoped rest with the carried scratch at `outsAt0`'s component);
    nothing owed; each input's share of its array
    (`Pipeline.shareOf`: the full share of an array several windows stage, dealt among them). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := PhiS m c t.val (Nat.le_of_lt_succ t.isLt)
  q w := Pipeline.shareOf spec0 w
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (∃ d, owns (c : Thread nD τ) (ms0_10 t) fullShare d)
    ∗ (∃ d, owns (c : Thread nD τ) (ms0_11 t) fullShare d)
    ∗ (∃ d, owns (c : Thread nD τ) (ms0_12 t) fullShare d))

set_option maxHeartbeats 24000000 in
/-- The body at any point: the inputs' memrefs hold their blocks (`before0_W`); the closed forms say which case the point is in (`by_cases`), an output the case reads before covering holds what the point before left (`before0_W_κ`); so the
    run applies; the invariant hands the body the carried scratch at what the point before left (`PhiS_pos`; at anything at the first point, `PhiS_zero`), the other scratch buffers and the generator register at some state, and takes the carried scratch back at this point's contents (`PhiS_succ`, by `scoverK_κ_N`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9]
  rw [show (dats m 0 c).owesAt () t.succ = (dats m 0 c).owesAt () t.castSucc from rfl]
  rw [show (dats m 0 c).Φ t.succ = PhiS m c (t.val + 1) t.isLt from rfl, PhiS_succ]
  have hN : t.val < 10 := lt_of_lt_of_eq t.isLt (show cfg0.N = 10 from N_0)
  by_cases h0 : t.val % 10 = 0
  · by_cases h1 : t.val % 10 = 9
    · exfalso; omega
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · rw [PhiS_castSucc m c t, PhiS_zero m c _ _ hz, PhiA0_eq]
        rw [outsAt0_A m c t h0 h1]
        unfold sout0_A_0 sout0_A_1 sout0_A_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_A c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t)).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, ⟨%es0, HS0⟩, ⟨%es1, HS1⟩, ⟨%fT2, HS2⟩, HS3, HS4, ⟨%fT5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_A_0 c _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_A_1 c _ _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexact HS3
            isplitl [HS4]
            · iexact HS4
            isplitl [HS5]
            · iexists _; unfold owns; iexists _; isplitr
              swap; · iexact HS5
              ipureintro; rfl
            unfold owns; iexists _; isplitr
            swap; · iexact HS6
            ipureintro; exact View.read_writes_of_cover _ _ _ _ _ (scover0_A_6 c _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
      · exfalso; have hN : t.val < 10 := lt_of_lt_of_eq t.isLt (show cfg0.N = 10 from N_0); omega
  · by_cases h1 : t.val % 10 = 9
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · exfalso; have hN : t.val < 10 := lt_of_lt_of_eq t.isLt (show cfg0.N = 10 from N_0); omega
      · rw [PhiS_castSucc m c t, PhiS_pos m c _ _ hz]
        rw [outsAt0_C m c t h0 h1]
        unfold sout0_C_0 sout0_C_1 sout0_C_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, ⟨%es0, HS0⟩, ⟨%es1, HS1⟩, ⟨%fT2, HS2⟩, HS3, HS4, ⟨%fT5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_C_0 c _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_C_1 c _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexact HS3
            isplitl [HS4]
            · iexact HS4
            isplitl [HS5]
            · iexists _; unfold owns; iexists _; isplitr
              swap; · iexact HS5
              ipureintro; rfl
            unfold owns; iexists _; isplitr
            swap; · iexact HS6
            ipureintro; exact View.read_writes_of_cover _ _ _ _ _ (scover0_C_6 c _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12
    · rw [show (dats m 0 c).leavesExact 0 t = owns (c : Thread nD τ) (ms0_0 t) fullShare ((dats m 0 c).after 0 t) from by
      unfold Dat.leavesExact; rw [liveAt0_0 t], after0_0]
      rw [show (dats m 0 c).leavesExact 1 t = owns (c : Thread nD τ) (ms0_1 t) fullShare ((dats m 0 c).after 1 t) from by
      unfold Dat.leavesExact; rw [liveAt0_1 t], after0_1]
      rw [show (dats m 0 c).leavesExact 2 t = owns (c : Thread nD τ) (ms0_2 t) fullShare ((dats m 0 c).after 2 t) from by
      unfold Dat.leavesExact; rw [liveAt0_2 t], after0_2]
      rw [show (dats m 0 c).leavesExact 3 t = owns (c : Thread nD τ) (ms0_3 t) fullShare ((dats m 0 c).after 3 t) from by
      unfold Dat.leavesExact; rw [liveAt0_3 t], after0_3]
      rw [show (dats m 0 c).leavesExact 4 t = owns (c : Thread nD τ) (ms0_4 t) fullShare ((dats m 0 c).after 4 t) from by
      unfold Dat.leavesExact; rw [liveAt0_4 t], after0_4]
      rw [show (dats m 0 c).leavesExact 5 t = owns (c : Thread nD τ) (ms0_5 t) fullShare ((dats m 0 c).after 5 t) from by
      unfold Dat.leavesExact; rw [liveAt0_5 t], after0_5]
      rw [show (dats m 0 c).leavesExact 6 t = owns (c : Thread nD τ) (ms0_6 t) fullShare ((dats m 0 c).after 6 t) from by
      unfold Dat.leavesExact; rw [liveAt0_6 t], after0_6]
      rw [show (dats m 0 c).leavesExact 7 t = owns (c : Thread nD τ) (ms0_7 t) fullShare ((dats m 0 c).after 7 t) from by
      unfold Dat.leavesExact; rw [liveAt0_7 t], after0_7]
      rw [show (dats m 0 c).leavesExact 8 t = owns (c : Thread nD τ) (ms0_8 t) fullShare ((dats m 0 c).after 8 t) from by
      unfold Dat.leavesExact; rw [liveAt0_8 t], after0_8]
      rw [show (dats m 0 c).leavesExact 9 t = owns (c : Thread nD τ) (ms0_9 t) fullShare ((dats m 0 c).after 9 t) from by
      unfold Dat.leavesExact; rw [liveAt0_9 t], after0_9]
      by_cases hz : t.val = 0
      · exfalso; have hN : t.val < 10 := lt_of_lt_of_eq t.isLt (show cfg0.N = 10 from N_0); omega
      · rw [PhiS_castSucc m c t, PhiS_pos m c _ _ hz]
        rw [outsAt0_B m c t h0 h1]
        unfold sout0_B_0 sout0_B_1 sout0_B_6; (try dsimp only)
        iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
        iapply ((kernelRun0_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) _ _ _).2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexists _; iexact H10
        isplitl [H11]; · iexists _; iexact H11
        isplitl [H12]; · iexists _; iexact H12
        isplitl [HS0]; · iexact HS0
        isplitl [HS1]; · iexact HS1
        isplitl [HS2]; · iexact HS2
        isplitl [HS3]; · iexact HS3
        isplitl [HS4]; · iexact HS4
        isplitl [HS5]; · iexact HS5
        isplitl [HS6]; · iexact HS6
        iintro ⟨H0, H1, H2, H3, H4, H5, H6, H7, H8, H9, H10, H11, H12, ⟨%es0, HS0⟩, ⟨%es1, HS1⟩, ⟨%fT2, HS2⟩, HS3, HS4, ⟨%fT5, HS5⟩, ⟨%es6, HS6⟩⟩
        isplitl [HS0 HS1 HS2 HS3 HS4 HS5 HS6 Hg]
        · isplitl [HS0 HS1 HS2 HS3 HS4 HS5 HS6]
          · isplitl [HS0]
            · unfold owns; iexists _; isplitr
              swap; · iexact HS0
              ipureintro; exact View.read_writes_of_cover _ _ _ _ _ (scover0_B_0 c _ _ _ _ _ _ _ _ _ _ _ _ _ _ _ _ _ _ _ _ _ _ _ _ _ _ _ _ _ _ _ _ _ _ _ _ _ _ _ _ _ _ _ _ _ _ _ _ _ _ _ _ _ _ _ _)
            isplitl [HS1]
            · unfold owns; iexists _; isplitr
              swap; · iexact HS1
              ipureintro; exact View.read_writes_of_cover _ _ _ _ _ (scover0_B_1 c _ _ _ _ _ _ _ _ _ _ _ _ _ _ _ _ _ _ _ _ _ _ _ _ _ _ _ _ _ _ _ _ _ _ _ _ _ _ _ _ _ _ _ _ _ _ _ _ _ _ _ _ _ _ _ _)
            isplitl [HS2]
            · iexists _; unfold owns; iexists _; isplitr
              swap; · iexact HS2
              ipureintro; rfl
            isplitl [HS3]
            · iexact HS3
            isplitl [HS4]
            · iexact HS4
            isplitl [HS5]
            · iexists _; unfold owns; iexists _; isplitr
              swap; · iexact HS5
              ipureintro; rfl
            unfold owns; iexists _; isplitr
            swap; · iexact HS6
            ipureintro; exact View.read_writes_of_cover _ _ _ _ _ (scover0_B_6 c _ _ _ _ _ _ _ _ _ _ _ _ _ _ _ _ _ _ _ _ _ _ _ _ _ _ _ _ _ _ _ _ _ _ _ _ _ _ _ _ _ _ _ _ _ _ _ _ _ _ _ _ _ _ _ _)
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3, HS4, HS5, HS6⟩, Hg⟩
  isplitl [HS0 HS1 HS2 HS3 HS4 HS5 HS6]
  · isplitl [HS0]
    · iexists _; iexact HS0
    isplitl [HS1]
    · iexists _; iexact HS1
    isplitl [HS2]
    · iexact HS2
    isplitl [HS3]
    · iexact HS3
    isplitl [HS4]
    · iexact HS4
    isplitl [HS5]
    · iexact HS5
    iexists _; iexact HS6
  iexact Hg

/-- The same after the last point. -/
theorem hout (c : Dev nD) : (dats m 0 c).Φ (Fin.last cfg0.N) ⊢ Pipeline.ΦA spec0 c :=
  Phi_out m c _ (by rw [Fin.val_last]; have : cfg0.N = 10 := N_0; omega)

/-! ## The run and the frame -/

-- `θ_run_frame_track_forget_shared`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_track_forget_shared (Q' := _) cfgs (dats m) (0 : Fin 1) launch₀0 defs₀ Variants.none forgets0 m ρ main
    (hbody := fun c => (body_obligation m c).loose) (hq := fun _ _ _ => rfl)
    (howed := fun _ _ => rfl) (V := V m) (hmain := hmain m Variants.none) (hA := A_eq m) (hin := hin m) (hout := hout m)

/-- At the compiled mesh, for any values, from any memory with zero counters: every weakly fair execution of @main on the
    TensorCores terminates, and every final state has every INPUT array of the pipeline unchanged, nothing stated of the
    FORGOTTEN outputs (windows 10, 11, 12) (Lib/Pipeline/Frame.lean `RDat.FramePost` over the proof data with those windows
    forgotten, Dat.lean `Dat.toRForget`), and every other unscoped buffer at its region-entry contents. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- THE FRAME: `Cert.quiescent_Kernel`'s statement (Defs.lean) at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Gen

end
-- ==== Proof.KI.Stages.lean ====
module

public import proofs.«01_k».proof.KernelIdeal

@[expose] public section

/-!
The kernel's body as a program over stages.

The printed body repeats the same few stages many times: quantising a chunk of 256 columns of the activations,
and multiplying by one tile of 256 columns of the weights. Here each stage is written once, at a symbolic chunk
or tile number, as a program over the body's buffers whose stored values are named functions of the values
read; `Proof/KI/Body.lean` shows the printed body to be these stages in order.
-/

namespace Cert.KernelIdeal.Stage

open Idealize.ShloMosaic Idealize.SL.Sem
open Facts₀ Facts

variable {F : FTy → Type} [FloatOps F]
variable [Facts]

/-- The buffers the body works on: its windows' staging buffers and its scratch. -/
structure Args where
  a1 : Memref sig .tc .vmem S256x1536 .bf16
  h1 : a1.IsWhole
  a2 : Memref sig .tc .vmem S256x1536 .bf16
  h2 : a2.IsWhole
  a3 : Memref sig .tc .vmem S1x1536 .f32
  h3 : a3.IsWhole
  a4 : Memref sig .tc .vmem S1x1536 .f32
  h4 : a4.IsWhole
  a5 : Memref sig .tc .vmem S768x3840 .i8
  h5 : a5.IsWhole
  a6 : Memref sig .tc .vmem S1x48x3840 .i8
  h6 : a6.IsWhole
  a7 : Memref sig .tc .vmem S1536x32 .bf16
  h7 : a7.IsWhole
  a8 : Memref sig .tc .vmem S1536x32 .bf16
  h8 : a8.IsWhole
  a9 : Memref sig .tc .vmem S32x3840 .bf16
  h9 : a9.IsWhole
  a10 : Memref sig .tc .vmem S1x3840 .f32
  h10 : a10.IsWhole
  a11 : Memref sig .tc .vmem S256x3840 .bf16
  h11 : a11.IsWhole
  a12 : Memref sig .tc .vmem S256x768 .i8
  h12 : a12.IsWhole
  a13 : Memref sig .tc .vmem S256x480 .i8
  h13 : a13.IsWhole
  a14 : Memref sig .tc .vmem S256x3840 .f32
  h14 : a14.IsWhole
  a15 : Memref sig .tc .vmem S256x1536 .bf16
  h15 : a15.IsWhole
  a16 : Memref sig .tc .vmem S256x1536 .bf16
  h16 : a16.IsWhole
  a17 : Memref sig .tc .vmem S256x768 .i8
  h17 : a17.IsWhole
  a18 : Memref sig .tc .vmem S512x256 .i32
  h18 : a18.IsWhole
  a19 : Memref sig .tc .vmem S48x3840 .i32
  h19 : a19.IsWhole
  a20 : Memref sig .tc .vmem S32x256 .f32
  h20 : a20.IsWhole

/-! ## Offsets and their evidence -/

theorem inb_cols (c : Fin 6) : ∀ a, (![0, 256 * c.val] : Fin 2 → Nat) a + S256x256.size a ≤ S256x1536.size a := by
  revert c; decide
theorem inb_smooth (c : Fin 6) : ∀ a, (![0, 256 * c.val] : Fin 2 → Nat) a + S1x256.size a ≤ S1x1536.size a := by
  revert c; decide
theorem inb_down (c : Fin 6) : ∀ a, (![256 * c.val, 0] : Fin 2 → Nat) a + S256x32.size a ≤ S1536x32.size a := by
  revert c; decide
theorem inb_bytes (c : Fin 6) : ∀ a, (![0, 128 * c.val] : Fin 2 → Nat) a + S256x128.size a ≤ S256x768.size a := by
  revert c; decide
theorem inb_row (c : Fin 6) (g : Fin 8) :
    ∀ a, (![8 * c.val + g.val, 0] : Fin 2 → Nat) a + S1x256.size a ≤ S512x256.size a := by
  revert c g; decide
theorem inb_tile (n : Fin 15) : ∀ a, (![0, 256 * n.val] : Fin 2 → Nat) a + S256x256.size a ≤ S256x3840.size a := by
  revert n; decide
theorem inb_wtile (n : Fin 15) : ∀ a, (![0, 256 * n.val] : Fin 2 → Nat) a + S768x256.size a ≤ S768x3840.size a := by
  revert n; decide
theorem inb_srow (n : Fin 15) (g : Fin 48) :
    ∀ a, (![g.val, 256 * n.val] : Fin 2 → Nat) a + S1x256.size a ≤ S48x3840.size a := by
  revert n g; decide
theorem slices_group (g : Fin 8) : S256x256.Slices ![32 * g.val, 0] S32x256 := by
  fin_cases g
  exacts [slices_S256x256_o0_0_S32x256, slices_S256x256_o32_0_S32x256, slices_S256x256_o64_0_S32x256,
    slices_S256x256_o96_0_S32x256, slices_S256x256_o128_0_S32x256, slices_S256x256_o160_0_S32x256,
    slices_S256x256_o192_0_S32x256, slices_S256x256_o224_0_S32x256]
theorem packed_cols (c : Fin 6) :
    (Rect.unit (s := S256x1536) ![0, 256 * c.val] S256x256.size (inb_cols c)).PackedRows (EltTy.packing .bf16) := by
  fin_cases c
  exacts [packedbf16_S256x1536_S256x256_0_0, packedbf16_S256x1536_S256x256_0_256,
    packedbf16_S256x1536_S256x256_0_512, packedbf16_S256x1536_S256x256_0_768,
    packedbf16_S256x1536_S256x256_0_1024, packedbf16_S256x1536_S256x256_0_1280]
theorem packed_bytes (c : Fin 6) :
    (Rect.unit (s := S256x768) ![0, 128 * c.val] S256x128.size (inb_bytes c)).PackedRows (EltTy.packing .i8) := by
  fin_cases c
  exacts [packedi8_S256x768_S256x128_0_0, packedi8_S256x768_S256x128_0_128,
    packedi8_S256x768_S256x128_0_256, packedi8_S256x768_S256x128_0_384,
    packedi8_S256x768_S256x128_0_512, packedi8_S256x768_S256x128_0_640]

/-! ## The values the stages store -/

/-- A chunk of the activations times its smoothing factors, transposed: one column per token. -/
noncomputable def scaled (x : Vec F S256x256 .bf16) (s : Vec F S1x256 .f32) : FVec F S256x256 .f32 :=
  let u0 : FVec F S256x256 .bf16 := shapeCast S256x256 x shapeCasts_S256x256_S256x256
  let u1 : FVec F S256x256 .f32 := extf .f32 u0 bitsLt_bf16_f32
  let u2 : FVec F S1x256 .f32 := shapeCast S1x256 s shapeCasts_S1x256_S1x256
  let u3 : FVec F S256x256 .f32 := broadcastTo S256x256 u2 broadcasts_S1x256_S256x256
  let u4 : FVec F S256x256 .f32 := mulf u1 u3
  transpose S256x256 [1, 0] u4 transposes_S256x256_p1_0_S256x256

/-- The low-rank product so far, plus a chunk's. -/
noncomputable def lowStep (h : Vec F S32x256 .f32) (l : Vec F S256x32 .bf16) (xt : FVec F S256x256 .f32) : FVec F S32x256 .f32 :=
  let u0 : FVec F S256x256 .bf16 := truncf .bf16 xt bitsLt_bf16_f32
  let u1 : FVec F S32x256 .f32 := matmul dot_S256x32_S256x256_S32x256_0_0_1_1_n_n none l u0 (constant S32x256 .f32 0x00000000#32)
  let u2 : FVec F S32x256 .f32 := addf h u1
  shapeCast S32x256 u2 shapeCasts_S32x256_S32x256

/-- The 32 columns of group `g` of a chunk. -/
noncomputable def group (xt : FVec F S256x256 .f32) (g : Fin 8) : FVec F S32x256 .f32 :=
  extractStridedSlice S32x256 ![32 * g.val, 0] xt (slices_group g)

/-- A group's largest absolute value, per token. -/
noncomputable def amax (v : FVec F S32x256 .f32) : FVec F S1x256 .f32 :=
  let u0 : FVec F S32x256 .f32 := absf v
  let u1 : FVec F S256 .f32 := multiReduction .maximumf [0] S256 u0 0xFF800000#32 reduces_S32x256_S256 (.inl rfl) rfl
  shapeCast S1x256 u1 shapeCasts_S256_S1x256

/-- The biased exponent of a nonnegative number, counted against the powers of two. -/
noncomputable def expo (a : FVec F S1x256 .f32) : IVec S1x256 32 :=
  let u0 : FVec F S256x256 .f32 := broadcastTo S256x256 a broadcasts_S1x256_S256x256
  let u1 : IVec S256x256 32 := iota .tc S256x256 32 [0] iota_S256x256_d0_w32
  let u2 : IVec S256x256 32 := shli u1 (broadcast S256x256 (23#32))
  let u3 : FVec F S256x256 .f32 := bitcastToFloat .f32 u2
  let u4 : IVec S256x256 1 := cmpf .oge u0 u3
  let u5 : IVec S256x256 32 := select u4 (broadcast S256x256 (1#32)) (broadcast S256x256 (0#32))
  let u6 : IVec S256 32 := multiReductionI .add [0] S256 u5 0#32 reduces_S256x256_S256 rfl
  let u7 : IVec S1x256 32 := shapeCast S1x256 u6 shapeCasts_S256_S1x256
  subi u7 (broadcast S1x256 (1#32))

/-- The bit pattern of a nonnegative number, from its exponent. -/
noncomputable def floatBits (a : FVec F S1x256 .f32) (e : IVec S1x256 32) : IVec S1x256 32 :=
  let u0 : IVec S1x256 32 := shli e (broadcast S1x256 (23#32))
  let u1 : IVec S1x256 1 := cmpi .sgt e (broadcast S1x256 (0#32))
  let u2 : IVec S1x256 1 := cmpi .slt e (broadcast S1x256 (255#32))
  let u3 : IVec S1x256 1 := andi u1 u2
  let u4 : IVec S1x256 32 := shli e (broadcast S1x256 (23#32))
  let u5 : FVec F S1x256 .f32 := bitcastToFloat .f32 u4
  let u6 : FVec F S1x256 .f32 := divf a u5
  let u7 : FVec F S1x256 .f32 := subf u6 (broadcast S1x256 (Scalar.ofBits .f32 0x3F800000#32))
  let u8 : FVec F S1x256 .f32 := mulf u7 (broadcast S1x256 (Scalar.ofBits .f32 0x4B000000#32))
  let u9 : FVec F S1x256 .f32 := minimumf u8 (broadcast S1x256 (Scalar.ofBits .f32 0x4AFFFFFE#32))
  let u10 : IVec S1x256 32 := fptosi 32 u9
  let u11 : IVec S1x256 32 := select u3 u10 (broadcast S1x256 (0#32))
  ori u0 u11

/-- A group's scale byte, from the bits of its largest absolute value. -/
noncomputable def scaleOf (b : IVec S1x256 32) : IVec S1x256 32 :=
  let u0 : IVec S1x256 1 := cmpi .slt b (broadcast S1x256 (29360128#32))
  let u1 : IVec S1x256 32 := addi b (broadcast S1x256 (4194304#32))
  let u2 : IVec S1x256 32 := shrsi u1 (broadcast S1x256 (23#32))
  let u3 : IVec S1x256 32 := subi u2 (broadcast S1x256 (2#32))
  select u0 (broadcast S1x256 (127#32)) u3

/-- The scale bytes of a group. -/
noncomputable def scaleByte (v : FVec F S32x256 .f32) : IVec S1x256 32 :=
  scaleOf (floatBits (amax v) (expo (amax v)))

/-- The row of scale bytes stored for group `g`. -/
noncomputable def scaleRow (xt : FVec F S256x256 .f32) (g : Fin 8) : IVec S1x256 32 :=
  shapeCast S1x256 (scaleByte (group xt g)) shapeCasts_S1x256_S1x256

/-- A group divided by its scale and clipped. -/
noncomputable def clipped (v : FVec F S32x256 .f32) (sb : IVec S1x256 32) : FVec F S32x256 .f32 :=
  let u0 : IVec S1x256 32 := subi (broadcast S1x256 (254#32)) sb
  let u1 : IVec S1x256 32 := shli u0 (broadcast S1x256 (23#32))
  let u2 : FVec F S1x256 .f32 := bitcastToFloat .f32 u1
  let u3 : FVec F S32x256 .f32 := broadcastTo S32x256 u2 broadcasts_S1x256_S32x256
  let u4 : FVec F S32x256 .f32 := mulf v u3
  let u5 : FVec F S32x256 .f32 := maximumf (broadcast S32x256 (Scalar.ofBits .f32 0xC0C00000#32)) u4
  minimumf (broadcast S32x256 (Scalar.ofBits .f32 0x40C00000#32)) u5

/-- A row of scale bytes as the power-of-two factors of a group. -/
noncomputable def factor (sb : IVec S1x256 32) : FVec F S32x256 .bf16 :=
  let u0 : IVec S1x256 32 := shli sb (broadcast S1x256 (7#32))
  let u1 : IVec S1x256 32 := shli sb (broadcast S1x256 (23#32))
  let u2 : IVec S1x256 32 := ori u0 u1
  let u3 : IVec S1x256 32 := shapeCast S1x256 u2 shapeCasts_S1x256_S1x256
  let u4 : IVec S16x256 32 := broadcastTo S16x256 u3 broadcasts_S1x256_S16x256
  bitcastToFloat .bf16 (bitcast S32x256 16 u4 bitcasts_S16x256_w32_S32x256_w16)

/-- Eight groups one under the other. -/
noncomputable def stack8 {α : Type} (T : Fin 8 → S32x256.Idx → α) : S256x256.Idx → α :=
  concatenate S256x256 0 [⟨S32x256, T 0⟩, ⟨S32x256, T 1⟩, ⟨S32x256, T 2⟩, ⟨S32x256, T 3⟩, ⟨S32x256, T 4⟩, ⟨S32x256, T 5⟩, ⟨S32x256, T 6⟩, ⟨S32x256, T 7⟩]
    concatenates_S32x256_S32x256_S32x256_S32x256_S32x256_S32x256_S32x256_S32x256_S256x256_d0

/-- The clipped groups of a chunk. -/
noncomputable def clippedAll (xt : FVec F S256x256 .f32) : FVec F S256x256 .f32 :=
  stack8 (fun g => clipped (group xt g) (scaleByte (group xt g)))

/-- The four-bit codes of clipped values. -/
noncomputable def encode (t : FVec F S256x256 .f32) : IVec S256x256 32 :=
  let u0 : FVec F S256x256 .f32 := absf t
  let u1 : IVec S256x256 1 := cmpf .ogt u0 (broadcast S256x256 (Scalar.ofBits .f32 0x3E800000#32))
  let u2 : IVec S256x256 32 := select u1 (broadcast S256x256 (1#32)) (broadcast S256x256 (0#32))
  let u3 : IVec S256x256 1 := cmpf .oge u0 (broadcast S256x256 (Scalar.ofBits .f32 0x3F400000#32))
  let u4 : IVec S256x256 32 := select u3 (broadcast S256x256 (1#32)) (broadcast S256x256 (0#32))
  let u5 : IVec S256x256 32 := addi u2 u4
  let u6 : IVec S256x256 1 := cmpf .ogt u0 (broadcast S256x256 (Scalar.ofBits .f32 0x3FA00000#32))
  let u7 : IVec S256x256 32 := select u6 (broadcast S256x256 (1#32)) (broadcast S256x256 (0#32))
  let u8 : IVec S256x256 32 := addi u5 u7
  let u9 : IVec S256x256 1 := cmpf .oge u0 (broadcast S256x256 (Scalar.ofBits .f32 0x3FE00000#32))
  let u10 : IVec S256x256 32 := select u9 (broadcast S256x256 (1#32)) (broadcast S256x256 (0#32))
  let u11 : IVec S256x256 32 := addi u8 u10
  let u12 : IVec S256x256 1 := cmpf .ogt u0 (broadcast S256x256 (Scalar.ofBits .f32 0x40200000#32))
  let u13 : IVec S256x256 32 := select u12 (broadcast S256x256 (1#32)) (broadcast S256x256 (0#32))
  let u14 : IVec S256x256 32 := addi u11 u13
  let u15 : IVec S256x256 1 := cmpf .oge u0 (broadcast S256x256 (Scalar.ofBits .f32 0x40600000#32))
  let u16 : IVec S256x256 32 := select u15 (broadcast S256x256 (1#32)) (broadcast S256x256 (0#32))
  let u17 : IVec S256x256 32 := addi u14 u16
  let u18 : IVec S256x256 1 := cmpf .ogt u0 (broadcast S256x256 (Scalar.ofBits .f32 0x40A00000#32))
  let u19 : IVec S256x256 32 := select u18 (broadcast S256x256 (1#32)) (broadcast S256x256 (0#32))
  let u20 : IVec S256x256 32 := addi u17 u19
  let u21 : IVec S256x256 1 := cmpf .olt t (broadcast S256x256 (Scalar.ofBits .f32 0x00000000#32))
  let u22 : IVec S256x256 32 := select u21 (broadcast S256x256 (8#32)) (broadcast S256x256 (0#32))
  ori u20 u22

/-- The numbers four-bit codes stand for. -/
noncomputable def decodeA (q : IVec S256x256 32) : FVec F S256x256 .bf16 :=
  let u0 : IVec S256x256 32 := andi q (broadcast S256x256 (8#32))
  let u1 : IVec S256x256 1 := cmpi .ne u0 (broadcast S256x256 (0#32))
  let u2 : IVec S256x256 32 := andi q (broadcast S256x256 (7#32))
  let u3 : IVec S256x256 1 := cmpi .slt u2 (broadcast S256x256 (4#32))
  let u4 : IVec S256x256 1 := cmpi .slt u2 (broadcast S256x256 (6#32))
  let u5 : IVec S256x256 32 := muli (broadcast S256x256 (2#32)) u2
  let u6 : IVec S256x256 32 := subi u5 (broadcast S256x256 (4#32))
  let u7 : IVec S256x256 32 := muli (broadcast S256x256 (4#32)) u2
  let u8 : IVec S256x256 32 := subi u7 (broadcast S256x256 (16#32))
  let u9 : IVec S256x256 32 := select u4 u6 u8
  let u10 : IVec S256x256 32 := select u3 u2 u9
  let u11 : FVec F S256x256 .f32 := sitofp .f32 u10
  let u12 : FVec F S256x256 .f32 := mulf u11 (broadcast S256x256 (Scalar.ofBits .f32 0x3F000000#32))
  let u13 : FVec F S256x256 .f32 := subf (broadcast S256x256 (Scalar.ofBits .f32 0x00000000#32)) u12
  let u14 : FVec F S256x256 .f32 := select u1 u13 u12
  truncf .bf16 u14 bitsLt_bf16_f32

/-- A chunk's quantised activations, tokens down. -/
noncomputable def quantised (xt : FVec F S256x256 .f32) : FVec F S256x256 .bf16 :=
  shapeCast S256x256 (transpose S256x256 [1, 0] (mulf (decodeA (encode (clippedAll xt)))
    (stack8 (fun g => factor (F := F) (scaleByte (group xt g))))) transposes_S256x256_p1_0_S256x256) shapeCasts_S256x256_S256x256

/-- Eight codes in one word. -/
noncomputable def words (q : IVec S256x256 32) : IVec S32x256 32 :=
  let u0 : IVec S32x8x256 32 := shapeCast S32x8x256 q shapeCasts_S256x256_S32x8x256
  let u1 : IVec S32x1x256 32 := extractStridedSlice S32x1x256 ![0, 0, 0] u0 slices_S32x8x256_o0_0_0_S32x1x256
  let u2 : IVec S32x256 32 := shapeCast S32x256 u1 shapeCasts_S32x1x256_S32x256
  let u3 : IVec S32x1x256 32 := extractStridedSlice S32x1x256 ![0, 1, 0] u0 slices_S32x8x256_o0_1_0_S32x1x256
  let u4 : IVec S32x256 32 := shapeCast S32x256 u3 shapeCasts_S32x1x256_S32x256
  let u5 : IVec S32x256 32 := shli u4 (broadcast S32x256 (4#32))
  let u6 : IVec S32x256 32 := ori u2 u5
  let u7 : IVec S32x1x256 32 := extractStridedSlice S32x1x256 ![0, 2, 0] u0 slices_S32x8x256_o0_2_0_S32x1x256
  let u8 : IVec S32x256 32 := shapeCast S32x256 u7 shapeCasts_S32x1x256_S32x256
  let u9 : IVec S32x256 32 := shli u8 (broadcast S32x256 (8#32))
  let u10 : IVec S32x256 32 := ori u6 u9
  let u11 : IVec S32x1x256 32 := extractStridedSlice S32x1x256 ![0, 3, 0] u0 slices_S32x8x256_o0_3_0_S32x1x256
  let u12 : IVec S32x256 32 := shapeCast S32x256 u11 shapeCasts_S32x1x256_S32x256
  let u13 : IVec S32x256 32 := shli u12 (broadcast S32x256 (12#32))
  let u14 : IVec S32x256 32 := ori u10 u13
  let u15 : IVec S32x1x256 32 := extractStridedSlice S32x1x256 ![0, 4, 0] u0 slices_S32x8x256_o0_4_0_S32x1x256
  let u16 : IVec S32x256 32 := shapeCast S32x256 u15 shapeCasts_S32x1x256_S32x256
  let u17 : IVec S32x256 32 := shli u16 (broadcast S32x256 (16#32))
  let u18 : IVec S32x256 32 := ori u14 u17
  let u19 : IVec S32x1x256 32 := extractStridedSlice S32x1x256 ![0, 5, 0] u0 slices_S32x8x256_o0_5_0_S32x1x256
  let u20 : IVec S32x256 32 := shapeCast S32x256 u19 shapeCasts_S32x1x256_S32x256
  let u21 : IVec S32x256 32 := shli u20 (broadcast S32x256 (20#32))
  let u22 : IVec S32x256 32 := ori u18 u21
  let u23 : IVec S32x1x256 32 := extractStridedSlice S32x1x256 ![0, 6, 0] u0 slices_S32x8x256_o0_6_0_S32x1x256
  let u24 : IVec S32x256 32 := shapeCast S32x256 u23 shapeCasts_S32x1x256_S32x256
  let u25 : IVec S32x256 32 := shli u24 (broadcast S32x256 (24#32))
  let u26 : IVec S32x256 32 := ori u22 u25
  let u27 : IVec S32x1x256 32 := extractStridedSlice S32x1x256 ![0, 7, 0] u0 slices_S32x8x256_o0_7_0_S32x1x256
  let u28 : IVec S32x256 32 := shapeCast S32x256 u27 shapeCasts_S32x1x256_S32x256
  let u29 : IVec S32x256 32 := shli u28 (broadcast S32x256 (28#32))
  ori u26 u29

/-- Words with the sign taken off the codes that stand for zero. -/
noncomputable def clearZero (w : IVec S32x256 32) : IVec S32x256 32 :=
  let u0 : IVec S32x256 32 := andi w (broadcast S32x256 (2004318071#32))
  let u1 : IVec S32x256 32 := shli u0 (broadcast S32x256 (1#32))
  let u2 : IVec S32x256 32 := shli u0 (broadcast S32x256 (2#32))
  let u3 : IVec S32x256 32 := ori u1 u2
  let u4 : IVec S32x256 32 := shli u0 (broadcast S32x256 (3#32))
  let u5 : IVec S32x256 32 := ori u3 u4
  let u6 : IVec S32x256 32 := andi w u5
  let u7 : IVec S32x256 32 := andi u6 (broadcast S32x256 (2290649224#32))
  ori u0 u7

/-- Words as bytes, tokens down. -/
noncomputable def bytesOf (w : IVec S32x256 32) : IVec S256x128 8 :=
  let u0 : IVec S128x256 8 := bitcast S128x256 8 w bitcasts_S32x256_w32_S128x256_w8
  let u1 : IVec S128x256 32 := extui 32 u0 natLt_8_32
  let u2 : IVec S256x128 32 := transpose S256x128 [1, 0] u1 transposes_S128x256_p1_0_S256x128
  let u3 : IVec S256x128 8 := trunci 8 u2 natLt_8_32
  shapeCast S256x128 u3 shapeCasts_S256x128_S256x128

/-- A chunk's packed codes. -/
noncomputable def packed (xt : FVec F S256x256 .f32) : IVec S256x128 8 :=
  bytesOf (clearZero (words (encode (clippedAll xt))))

/-- A block's weight scale bytes as pairs of sixteen-bit factors. -/
noncomputable def scaleWords (s : Vec F S1x48x3840 .i8) : IVec S48x3840 32 :=
  let u0 : IVec S48x3840 8 := shapeCast S48x3840 s shapeCasts_S1x48x3840_S48x3840
  let u1 : IVec S48x3840 32 := extui 32 u0 natLt_8_32
  let u2 : IVec S48x3840 32 := shli u1 (broadcast S48x3840 (7#32))
  let u3 : IVec S48x3840 32 := shli u1 (broadcast S48x3840 (23#32))
  let u4 : IVec S48x3840 32 := ori u2 u3
  shapeCast S48x3840 u4 shapeCasts_S48x3840_S48x3840

/-- A tile's weight codes, two to a byte. -/
noncomputable def codesW (w : Vec F S768x256 .i8) : IVec S1536x256 32 :=
  let u0 : IVec S768x256 32 := extui 32 w natLt_8_32
  let u1 : IVec S768x256 32 := andi u0 (broadcast S768x256 (15#32))
  let u2 : IVec S768x1x256 32 := shapeCast S768x1x256 u1 shapeCasts_S768x256_S768x1x256
  let u3 : IVec S768x256 32 := shrsi u0 (broadcast S768x256 (4#32))
  let u4 : IVec S768x1x256 32 := shapeCast S768x1x256 u3 shapeCasts_S768x256_S768x1x256
  let u5 : IVec S768x2x256 32 := concatenate S768x2x256 1 [⟨S768x1x256, u2⟩, ⟨S768x1x256, u4⟩] concatenates_S768x1x256_S768x1x256_S768x2x256_d1
  shapeCast S1536x256 u5 shapeCasts_S768x2x256_S1536x256

/-- The numbers a tile's codes stand for. -/
noncomputable def decodeW (q : IVec S1536x256 32) : FVec F S1536x256 .bf16 :=
  let u0 : IVec S1536x256 32 := andi q (broadcast S1536x256 (8#32))
  let u1 : IVec S1536x256 1 := cmpi .ne u0 (broadcast S1536x256 (0#32))
  let u2 : IVec S1536x256 32 := andi q (broadcast S1536x256 (7#32))
  let u3 : IVec S1536x256 1 := cmpi .slt u2 (broadcast S1536x256 (4#32))
  let u4 : IVec S1536x256 1 := cmpi .slt u2 (broadcast S1536x256 (6#32))
  let u5 : IVec S1536x256 32 := muli (broadcast S1536x256 (2#32)) u2
  let u6 : IVec S1536x256 32 := subi u5 (broadcast S1536x256 (4#32))
  let u7 : IVec S1536x256 32 := muli (broadcast S1536x256 (4#32)) u2
  let u8 : IVec S1536x256 32 := subi u7 (broadcast S1536x256 (16#32))
  let u9 : IVec S1536x256 32 := select u4 u6 u8
  let u10 : IVec S1536x256 32 := select u3 u2 u9
  let u11 : FVec F S1536x256 .f32 := sitofp .f32 u10
  let u12 : FVec F S1536x256 .f32 := mulf u11 (broadcast S1536x256 (Scalar.ofBits .f32 0x3F000000#32))
  let u13 : FVec F S1536x256 .f32 := subf (broadcast S1536x256 (Scalar.ofBits .f32 0x00000000#32)) u12
  let u14 : FVec F S1536x256 .f32 := select u1 u13 u12
  truncf .bf16 u14 bitsLt_bf16_f32

/-- A row of scale words as a group's factors. -/
noncomputable def factorW (r : Vec F S1x256 .i32) : FVec F S32x256 .bf16 :=
  let u0 : IVec S1x256 32 := shapeCast S1x256 r shapeCasts_S1x256_S1x256
  let u1 : IVec S16x256 32 := broadcastTo S16x256 u0 broadcasts_S1x256_S16x256
  bitcastToFloat .bf16 (bitcast S32x256 16 u1 bitcasts_S16x256_w32_S32x256_w16)

/-- Forty-eight groups one under the other. -/
noncomputable def stack48 (T : Fin 48 → FVec F S32x256 .bf16) : FVec F S1536x256 .bf16 :=
  concatenate S1536x256 0
    (⟨S32x256, T 0⟩ ::
      ⟨S32x256, T 1⟩ ::
      ⟨S32x256, T 2⟩ ::
      ⟨S32x256, T 3⟩ ::
      ⟨S32x256, T 4⟩ ::
      ⟨S32x256, T 5⟩ ::
      ⟨S32x256, T 6⟩ ::
      ⟨S32x256, T 7⟩ ::
      ⟨S32x256, T 8⟩ ::
      ⟨S32x256, T 9⟩ ::
      ⟨S32x256, T 10⟩ ::
      ⟨S32x256, T 11⟩ ::
      ⟨S32x256, T 12⟩ ::
      ⟨S32x256, T 13⟩ ::
      ⟨S32x256, T 14⟩ ::
      ⟨S32x256, T 15⟩ ::
      ⟨S32x256, T 16⟩ ::
      ⟨S32x256, T 17⟩ ::
      ⟨S32x256, T 18⟩ ::
      ⟨S32x256, T 19⟩ ::
      ⟨S32x256, T 20⟩ ::
      ⟨S32x256, T 21⟩ ::
      ⟨S32x256, T 22⟩ ::
      ⟨S32x256, T 23⟩ ::
      ⟨S32x256, T 24⟩ ::
      ⟨S32x256, T 25⟩ ::
      ⟨S32x256, T 26⟩ ::
      ⟨S32x256, T 27⟩ ::
      ⟨S32x256, T 28⟩ ::
      ⟨S32x256, T 29⟩ ::
      ⟨S32x256, T 30⟩ ::
      ⟨S32x256, T 31⟩ ::
      ⟨S32x256, T 32⟩ ::
      ⟨S32x256, T 33⟩ ::
      ⟨S32x256, T 34⟩ ::
      ⟨S32x256, T 35⟩ ::
      ⟨S32x256, T 36⟩ ::
      ⟨S32x256, T 37⟩ ::
      ⟨S32x256, T 38⟩ ::
      ⟨S32x256, T 39⟩ ::
      ⟨S32x256, T 40⟩ ::
      ⟨S32x256, T 41⟩ ::
      ⟨S32x256, T 42⟩ ::
      ⟨S32x256, T 43⟩ ::
      ⟨S32x256, T 44⟩ ::
      ⟨S32x256, T 45⟩ ::
      ⟨S32x256, T 46⟩ ::
      ⟨S32x256, T 47⟩ :: [])
    concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S1536x256_d0

/-- A tile of the product so far, plus a block's. -/
noncomputable def tileStep (a : Vec F S256x256 .f32) (x : Vec F S256x1536 .bf16) (w : FVec F S1536x256 .bf16) (f : FVec F S1536x256 .bf16) : FVec F S256x256 .f32 :=
  let u0 : FVec F S1536x256 .bf16 := mulf w f
  let u1 : FVec F S256x256 .f32 := matmul dot_S256x1536_S1536x256_S256x256_1_0_0_1_n_n none x u0 (constant S256x256 .f32 0x00000000#32)
  let u2 : FVec F S256x256 .f32 := addf a u1
  shapeCast S256x256 u2 shapeCasts_S256x256_S256x256

/-- The result: the product, the low-rank part and the bias. -/
noncomputable def result (h : Vec F S32x256 .f32) (u : Vec F S32x3840 .bf16) (a : Vec F S256x3840 .f32) (b : Vec F S1x3840 .f32) : FVec F S256x3840 .bf16 :=
  let u0 : FVec F S256x32 .f32 := transpose S256x32 [1, 0] h transposes_S32x256_p1_0_S256x32
  let u1 : FVec F S256x32 .bf16 := truncf .bf16 u0 bitsLt_bf16_f32
  let u2 : FVec F S256x3840 .f32 := matmul dot_S256x32_S32x3840_S256x3840_1_0_0_1_n_n none u1 u (constant S256x3840 .f32 0x00000000#32)
  let u3 : FVec F S256x3840 .f32 := addf a u2
  let u4 : FVec F S1x3840 .f32 := shapeCast S1x3840 b shapeCasts_S1x3840_S1x3840
  let u5 : FVec F S256x3840 .f32 := broadcastTo S256x3840 u4 broadcasts_S1x3840_S256x3840
  let u6 : FVec F S256x3840 .f32 := addf u3 u5
  truncf .bf16 u6 bitsLt_bf16_f32

/-- The scale bytes, tokens down. -/
noncomputable def scalesOut (s : Vec F S512x256 .i32) : IVec S256x480 8 :=
  let u0 : IVec S256x512 32 := transpose S256x512 [1, 0] s transposes_S512x256_p1_0_S256x512
  let u1 : IVec S256x480 32 := extractStridedSlice S256x480 ![0, 0] u0 slices_S256x512_o0_0_S256x480
  trunci 8 u1 natLt_8_32

/-- The low-rank product kept: the new one while blocks are left, the one before at the last block. -/
noncomputable def lowKeep (i : grid0.Coords) (h h' : Vec F S32x256 .f32) : Vec F S32x256 .f32 :=
  shapeCast S32x256 (Scalar.select (Scalar.cmpf .ogt (Scalar.sitofp (F := F) .f32 (Scalar.extui
    (Scalar.cmpi .slt (Scalar.addi (BitVec.ofNat 32 (i 0).val) (1#32)) (10#32)))) (Scalar.ofBits .f32 0x00000000#32)) h' h)
    shapeCasts_S32x256_S32x256

/-! ## The stages -/

/-- The program of one grid point. -/
abbrev P (F : FTy → Type) [FloatOps F] (α : Type) := Prog (TpuEff nD τ sig (Elt F) Λ₀ .tc) α

/-- `f` over a list, in order. -/
noncomputable def each {α : Type} (f : α → P F PUnit) : List α → P F PUnit
  | [] => pure ⟨⟩
  | a :: l => f a >>= fun _ => each f l

/-- The row of scale bytes of group `g`: read, then stored. -/
noncomputable def groupP (A : Args) (row : Fin 2 → Nat) (hrow : ∀ a, row a + S1x256.size a ≤ S512x256.size a)
    (r : IVec S1x256 32) : P F PUnit := do
  let _ ← Prog.lift (.load A.a18 (Rect.unit (s := S512x256) row S1x256.size hrow).toLoadRect (View.loadsAt_vmem h_S1x256))
  Prog.lift (.store A.a18 (Rect.unit (s := S512x256) row S1x256.size hrow) r Finset.univ (View.stores_vmem_bits_univ h_S1x256 rfl) (.inl rfl))

/-- One chunk of the activations: its low-rank product added, its scale bytes, quantised values and packed codes
stored. -/
noncomputable def chunk (A : Args) (mx : Memref sig .tc .vmem S256x1536 .bf16) (ms : Memref sig .tc .vmem S1x1536 .f32)
    (ml : Memref sig .tc .vmem S1536x32 .bf16) (row : Fin 6 → Fin 8 → Fin 2 → Nat)
    (hrow : ∀ c g a, row c g a + S1x256.size a ≤ S512x256.size a) (c : Fin 6) : P F PUnit := do
  let x : Vec F S256x256 .bf16 ← Prog.lift (.load mx (Rect.unit (s := S256x1536) ![0, 256 * c.val] S256x256.size (inb_cols c)).toLoadRect (View.loadsAt_vmem h_S256x256))
  let s : Vec F S1x256 .f32 ← Prog.lift (.load ms (Rect.unit (s := S1x1536) ![0, 256 * c.val] S1x256.size (inb_smooth c)).toLoadRect (View.loadsAt_vmem h_S1x256))
  let h : Vec F S32x256 .f32 ← Prog.lift (.load A.a20 (Rect.unit (s := S32x256) ![0, 0] S32x256.size inb_S32x256_S32x256_0_0).toLoadRect (View.loadsAt_vmem h_S32x256))
  let l : Vec F S256x32 .bf16 ← Prog.lift (.load ml (Rect.unit (s := S1536x32) ![256 * c.val, 0] S256x32.size (inb_down c)).toLoadRect (View.loadsAt_vmem h_S256x32))
  let _ ← Prog.lift (.load A.a20 (Rect.unit (s := S32x256) ![0, 0] S32x256.size inb_S32x256_S32x256_0_0).toLoadRect (View.loadsAt_vmem h_S32x256))
  Prog.lift (.store A.a20 (Rect.unit (s := S32x256) ![0, 0] S32x256.size inb_S32x256_S32x256_0_0) (lowStep h l (scaled x s)) Finset.univ (View.stores_vmem_bits_univ h_S32x256 rfl) (.inl rfl))
  each (fun g => groupP A (row c g) (hrow c g) (scaleRow (scaled x s) g)) [0, 1, 2, 3, 4, 5, 6, 7]
  let _ ← Prog.lift (.load A.a15 (Rect.unit (s := S256x1536) ![0, 256 * c.val] S256x256.size (inb_cols c)).toLoadRect (View.loadsAt_vmem h_S256x256))
  Prog.lift (.store A.a15 (Rect.unit (s := S256x1536) ![0, 256 * c.val] S256x256.size (inb_cols c)) (quantised (scaled x s)) Finset.univ (View.stores_vmem h_S256x256 (A.h15.storeExact_slice rfl _ (packed_cols c)) (fun _ => rfl)) (.inl rfl))
  let _ ← Prog.lift (.load A.a17 (Rect.unit (s := S256x768) ![0, 128 * c.val] S256x128.size (inb_bytes c)).toLoadRect (View.loadsAt_vmem h_S256x128))
  Prog.lift (.store A.a17 (Rect.unit (s := S256x768) ![0, 128 * c.val] S256x128.size (inb_bytes c)) (packed (scaled x s)) Finset.univ (View.stores_vmem h_S256x128 (A.h17.storeExact_slice rfl _ (packed_bytes c)) (fun _ => rfl)) (.inl rfl))

/-- The rows of a tile's scale words. -/
noncomputable def rows (A : Args) (n : Fin 15) : List (Fin 48) → P F (List (Vec F S1x256 .i32))
  | [] => pure []
  | g :: l => Prog.lift (.load A.a19 (Rect.unit (s := S48x3840) ![g.val, 256 * n.val] S1x256.size (inb_srow n g)).toLoadRect (View.loadsAt_vmem h_S1x256)) >>= fun r =>
      rows A n l >>= fun rs => pure (r :: rs)

/-- Row `k` of a list of rows. -/
noncomputable def nth : List (Vec F S1x256 .i32) → Nat → Vec F S1x256 .i32
  | [], _ => broadcast S1x256 (0#32)
  | r :: _, 0 => r
  | _ :: l, k + 1 => nth l k

/-- The rows' numbers. -/
def rowList : List (Fin 48) := [0, 1, 2, 3, 4, 5, 6, 7, 8, 9, 10, 11, 12, 13, 14, 15, 16, 17, 18, 19, 20, 21, 22, 23, 24, 25, 26, 27, 28, 29, 30, 31, 32, 33, 34, 35, 36, 37, 38, 39, 40, 41, 42, 43, 44, 45, 46, 47]

/-- One tile of the product. -/
noncomputable def tile (A : Args) (n : Fin 15) : P F PUnit := do
  let w : Vec F S768x256 .i8 ← Prog.lift (.load A.a5 (Rect.unit (s := S768x3840) ![0, 256 * n.val] S768x256.size (inb_wtile n)).toLoadRect (View.loadsAt_vmem h_S768x256))
  let rs ← rows A n rowList
  let a : Vec F S256x256 .f32 ← Prog.lift (.load A.a14 (Rect.unit (s := S256x3840) ![0, 256 * n.val] S256x256.size (inb_tile n)).toLoadRect (View.loadsAt_vmem h_S256x256))
  let x : Vec F S256x1536 .bf16 ← Prog.lift (.load A.a16 (Rect.unit (s := S256x1536) ![0, 0] S256x1536.size inb_S256x1536_S256x1536_0_0).toLoadRect (View.loadsAt_vmem h_S256x1536))
  let _ ← Prog.lift (.load A.a14 (Rect.unit (s := S256x3840) ![0, 256 * n.val] S256x256.size (inb_tile n)).toLoadRect (View.loadsAt_vmem h_S256x256))
  Prog.lift (.store A.a14 (Rect.unit (s := S256x3840) ![0, 256 * n.val] S256x256.size (inb_tile n)) (tileStep a x (decodeW (codesW (F := F) w)) (stack48 fun g => factorW (nth rs g.val))) Finset.univ (View.stores_vmem_bits_univ h_S256x256 rfl) (.inl rfl))

/-- The rows of the scale bytes a chunk stores at grid point `i`: those of the next block. -/
def rowNext (i : grid0.Coords) (c : Fin 6) (g : Fin 8) : Fin 2 → Nat :=
  k0_off1 i (BitVec.ofNat 32 (8 * c.val)) (BitVec.ofNat 32 g.val)

/-- The rows of the scale bytes of the first block. -/
def rowFirst (c : Fin 6) (g : Fin 8) : Fin 2 → Nat := ![8 * c.val + g.val, 0]

/-- The first point's beginning: the accumulators cleared and the first block quantised. -/
noncomputable def start (A : Args) : P F PUnit := do
  let _ ← Prog.lift (.load A.a14 (Rect.unit (s := S256x3840) ![0, 0] S256x3840.size inb_S256x3840_S256x3840_0_0).toLoadRect (View.loadsAt_vmem h_S256x3840))
  Prog.lift (.store A.a14 (Rect.unit (s := S256x3840) ![0, 0] S256x3840.size inb_S256x3840_S256x3840_0_0) (shapeCast S256x3840 (broadcast S256x3840 (Scalar.ofBits (F := F) .f32 0x00000000#32)) shapeCasts_S256x3840_S256x3840) Finset.univ (View.stores_vmem_bits_univ h_S256x3840 rfl) (.inl rfl))
  let _ ← Prog.lift (.load A.a20 (Rect.unit (s := S32x256) ![0, 0] S32x256.size inb_S32x256_S32x256_0_0).toLoadRect (View.loadsAt_vmem h_S32x256))
  Prog.lift (.store A.a20 (Rect.unit (s := S32x256) ![0, 0] S32x256.size inb_S32x256_S32x256_0_0) (shapeCast S32x256 (broadcast S32x256 (Scalar.ofBits (F := F) .f32 0x00000000#32)) shapeCasts_S32x256_S32x256) Finset.univ (View.stores_vmem_bits_univ h_S32x256 rfl) (.inl rfl))
  each (chunk A A.a2 A.a4 A.a8 rowFirst (fun c g => inb_row c g)) [0, 1, 2, 3, 4, 5]

/-- Every point's beginning: the block at hand taken over, its packed codes stored, its weight scales spread. -/
noncomputable def takeOver (A : Args) : P F PUnit := do
  let x : Vec F S256x1536 .bf16 ← Prog.lift (.load A.a15 (Rect.unit (s := S256x1536) ![0, 0] S256x1536.size inb_S256x1536_S256x1536_0_0).toLoadRect (View.loadsAt_vmem h_S256x1536))
  let _ ← Prog.lift (.load A.a16 (Rect.unit (s := S256x1536) ![0, 0] S256x1536.size inb_S256x1536_S256x1536_0_0).toLoadRect (View.loadsAt_vmem h_S256x1536))
  Prog.lift (.store A.a16 (Rect.unit (s := S256x1536) ![0, 0] S256x1536.size inb_S256x1536_S256x1536_0_0) (shapeCast S256x1536 x shapeCasts_S256x1536_S256x1536) Finset.univ (View.stores_vmem h_S256x1536 (A.h16.storeExact_slice rfl _ packedbf16_S256x1536_S256x1536_0_0) (fun _ => rfl)) (.inl rfl))
  let p : Vec F S256x768 .i8 ← Prog.lift (.load A.a17 (Rect.unit (s := S256x768) ![0, 0] S256x768.size inb_S256x768_S256x768_0_0).toLoadRect (View.loadsAt_vmem h_S256x768))
  let _ ← Prog.lift (.load A.a12 (Rect.unit (s := S256x768) ![0, 0] S256x768.size inb_S256x768_S256x768_0_0).toLoadRect (View.loadsAt_vmem h_S256x768))
  Prog.lift (.store A.a12 (Rect.unit (s := S256x768) ![0, 0] S256x768.size inb_S256x768_S256x768_0_0) p Finset.univ (View.stores_vmem h_S256x768 (A.h12.storeExact_slice rfl _ packedi8_S256x768_S256x768_0_0) (fun _ => rfl)) (.inl rfl))
  let s : Vec F S1x48x3840 .i8 ← Prog.lift (.load A.a6 (Rect.unit (s := S1x48x3840) ![0, 0, 0] S1x48x3840.size inb_S1x48x3840_S1x48x3840_0_0_0).toLoadRect (View.loadsAt_vmem h_S1x48x3840))
  let _ ← Prog.lift (.load A.a19 (Rect.unit (s := S48x3840) ![0, 0] S48x3840.size inb_S48x3840_S48x3840_0_0).toLoadRect (View.loadsAt_vmem h_S48x3840))
  Prog.lift (.store A.a19 (Rect.unit (s := S48x3840) ![0, 0] S48x3840.size inb_S48x3840_S48x3840_0_0) (scaleWords (F := F) s) Finset.univ (View.stores_vmem_bits_univ h_S48x3840 rfl) (.inl rfl))

/-- Tile `n` and, for the first six, chunk `n` of the next block after it. -/
noncomputable def tileChunk (A : Args) (i : grid0.Coords) (n : Fin 6) : P F PUnit := do
  tile A (n.castLE (by decide))
  chunk A A.a1 A.a3 A.a7 (rowNext i) (fun c g => k0_off1_inb i c g) n

/-- The last point's end: the result and the scale bytes. -/
noncomputable def finish (A : Args) : P F PUnit := do
  let h : Vec F S32x256 .f32 ← Prog.lift (.load A.a20 (Rect.unit (s := S32x256) ![0, 0] S32x256.size inb_S32x256_S32x256_0_0).toLoadRect (View.loadsAt_vmem h_S32x256))
  let u : Vec F S32x3840 .bf16 ← Prog.lift (.load A.a9 (Rect.unit (s := S32x3840) ![0, 0] S32x3840.size inb_S32x3840_S32x3840_0_0).toLoadRect (View.loadsAt_vmem h_S32x3840))
  let a : Vec F S256x3840 .f32 ← Prog.lift (.load A.a14 (Rect.unit (s := S256x3840) ![0, 0] S256x3840.size inb_S256x3840_S256x3840_0_0).toLoadRect (View.loadsAt_vmem h_S256x3840))
  let b : Vec F S1x3840 .f32 ← Prog.lift (.load A.a10 (Rect.unit (s := S1x3840) ![0, 0] S1x3840.size inb_S1x3840_S1x3840_0_0).toLoadRect (View.loadsAt_vmem h_S1x3840))
  let _ ← Prog.lift (.load A.a11 (Rect.unit (s := S256x3840) ![0, 0] S256x3840.size inb_S256x3840_S256x3840_0_0).toLoadRect (View.loadsAt_vmem h_S256x3840))
  Prog.lift (.store A.a11 (Rect.unit (s := S256x3840) ![0, 0] S256x3840.size inb_S256x3840_S256x3840_0_0) (result h u a b) Finset.univ (View.stores_vmem h_S256x3840 (A.h11.storeExact_slice rfl _ packedbf16_S256x3840_S256x3840_0_0) (fun _ => rfl)) (.inl rfl))
  let s : Vec F S512x256 .i32 ← Prog.lift (.load A.a18 (Rect.unit (s := S512x256) ![0, 0] S512x256.size inb_S512x256_S512x256_0_0).toLoadRect (View.loadsAt_vmem h_S512x256))
  let _ ← Prog.lift (.load A.a13 (Rect.unit (s := S256x480) ![0, 0] S256x480.size inb_S256x480_S256x480_0_0).toLoadRect (View.loadsAt_vmem h_S256x480))
  Prog.lift (.store A.a13 (Rect.unit (s := S256x480) ![0, 0] S256x480.size inb_S256x480_S256x480_0_0) (scalesOut (F := F) s) Finset.univ (View.stores_vmem h_S256x480 (A.h13.storeExact_slice rfl _ packedi8_S256x480_S256x480_0_0) (fun _ => rfl)) (.inl rfl))

/-- The point's main part: the tiles and the next block's chunks. -/
noncomputable def mainPart (A : Args) (i : grid0.Coords) : P F PUnit := do
  takeOver A
  let h : Vec F S32x256 .f32 ← Prog.lift (.load A.a20 (Rect.unit (s := S32x256) ![0, 0] S32x256.size inb_S32x256_S32x256_0_0).toLoadRect (View.loadsAt_vmem h_S32x256))
  each (tileChunk A i) [0, 1, 2, 3, 4, 5]
  each (tile A) [6, 7, 8, 9, 10, 11, 12, 13, 14]
  let h' : Vec F S32x256 .f32 ← Prog.lift (.load A.a20 (Rect.unit (s := S32x256) ![0, 0] S32x256.size inb_S32x256_S32x256_0_0).toLoadRect (View.loadsAt_vmem h_S32x256))
  let _ ← Prog.lift (.load A.a20 (Rect.unit (s := S32x256) ![0, 0] S32x256.size inb_S32x256_S32x256_0_0).toLoadRect (View.loadsAt_vmem h_S32x256))
  Prog.lift (.store A.a20 (Rect.unit (s := S32x256) ![0, 0] S32x256.size inb_S32x256_S32x256_0_0) (lowKeep i h h') Finset.univ (View.stores_vmem_bits_univ h_S32x256 rfl) (.inl rfl))
  if k0_cond2 i = 1#1 then finish A else pure ⟨⟩
  pure ⟨⟩

/-- The first point's condition, as the body computes it. -/
def atStart (i : grid0.Coords) : BitVec 1 :=
  Scalar.cmpi .ne (Scalar.extui (Scalar.cmpi .eq (BitVec.ofNat 32 (i 0).val) (0#32))) (0#32)

end Cert.KernelIdeal.Stage
-- ==== Proof.KI.Body.lean ====
module

public import proofs.«01_k».proof.Proof.KI.Stages
public import Idealize.ShloMosaic.Lib.Pipeline.Regions

@[expose] public section

/-!
The printed body is its stages.

Whether the first block is quantised at the start depends on the point; the rest is the same at every point.
-/

namespace Cert.KernelIdeal.Stage

open Idealize.ShloMosaic Idealize.SL.Sem
open Idealize.ShloMosaic.Pipeline
open Facts₀ Facts

variable {F : FTy → Type} [FloatOps F]
variable [Facts]

/-- The printed body at the buffers of `A`. -/
noncomputable abbrev body (A : Args) (i : grid0.Coords) : P F PUnit :=
  cc0_svdquant i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20

/-- What the printed body's first window does after the start, with the values it hands on. -/
noncomputable def opening (A : Args) (i : grid0.Coords) : P F (Σ' (arg0 : BitVec 32) (v21 : BitVec 32) (v25 : F .f32) (v26 : Vec F S32x256 .f32) (v28 : IVec S768x256 32), BitVec 32) := do
  takeOver A
  let h : Vec F S32x256 .f32 ← Prog.lift (.load A.a20 (Rect.unit (s := S32x256) ![0, 0] S32x256.size inb_S32x256_S32x256_0_0).toLoadRect (View.loadsAt_vmem h_S32x256))
  let w : Vec F S768x256 .i8 ← Prog.lift (.load A.a5 (Rect.unit (s := S768x3840) ![0, 0] S768x256.size inb_S768x3840_S768x256_0_0).toLoadRect (View.loadsAt_vmem h_S768x256))
  pure ⟨BitVec.ofNat 32 (i 0).val, Scalar.minsi (Scalar.addi (BitVec.ofNat 32 (i 0).val) 1#32) 9#32,
    Scalar.sitofp .f32 (Scalar.extui (Scalar.cmpi .slt (Scalar.addi (BitVec.ofNat 32 (i 0).val) 1#32) 10#32)), h,
    extui 32 w natLt_8_32, 15#32⟩

set_option maxRecDepth 100000 in
theorem opening_eq (A : Args) (i : grid0.Coords) :
    k0_part103 (F := F) i A.a1 A.h1 A.a2 A.h2 A.a3 A.h3 A.a4 A.h4 A.a5 A.h5 A.a6 A.h6 A.a7 A.h7 A.a8 A.h8 A.a9 A.h9 A.a10 A.h10 A.a11 A.h11 A.a12 A.h12 A.a13 A.h13 A.a14 A.h14 A.a15 A.h15 A.a16 A.h16 A.a17 A.h17 A.a18 A.h18 A.a19 A.h19 A.a20 A.h20 =
      if atStart i = 1#1 then (start A >>= fun _ => opening A i) else opening A i := by
  chain_rfl

set_option maxRecDepth 100000 in
theorem body_eq (A : Args) (i : grid0.Coords) :
    body (F := F) A i = if atStart i = 1#1 then (start A >>= fun _ => mainPart A i) else mainPart A i := by
  unfold body cc0_svdquant k0_part297
  rw [opening_eq]
  by_cases h : atStart i = 1#1
  · rw [if_pos h, if_pos h, Prog.bind_assoc, Prog.bind_assoc]
    refine congrArg (start A >>= ·) (funext fun _ => ?_)
    chain_rfl
  · rw [if_neg h, if_neg h]
    chain_rfl

end Cert.KernelIdeal.Stage
-- ==== Proof.KI.Runs.lean ====
module

public import proofs.«01_k».proof.Proof.KI.Body
public import proofs.«01_k».proof.Proof.Gen.KernelIdeal.Launch
public import Idealize.ShloMosaic.Lib.VecWindow

@[expose] public section

/-!
Running a stage on the contents of the buffers.

`St` is the contents of the body's twenty buffers. `Runs A p s a s'` says that the program `p`, from the buffers of
`A` at contents `s`, ends with result `a` and the buffers at contents `s'`.
-/

namespace Cert.KernelIdeal.Stage

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The contents of the body's buffers. -/
structure St (F : FTy → Type) [FloatOps F] where
  x1 : Vec F S256x1536 .bf16
  x2 : Vec F S256x1536 .bf16
  x3 : Vec F S1x1536 .f32
  x4 : Vec F S1x1536 .f32
  x5 : Vec F S768x3840 .i8
  x6 : Vec F S1x48x3840 .i8
  x7 : Vec F S1536x32 .bf16
  x8 : Vec F S1536x32 .bf16
  x9 : Vec F S32x3840 .bf16
  x10 : Vec F S1x3840 .f32
  x11 : Vec F S256x3840 .bf16
  x12 : Vec F S256x768 .i8
  x13 : Vec F S256x480 .i8
  x14 : Vec F S256x3840 .f32
  x15 : Vec F S256x1536 .bf16
  x16 : Vec F S256x1536 .bf16
  x17 : Vec F S256x768 .i8
  x18 : Vec F S512x256 .i32
  x19 : Vec F S48x3840 .i32
  x20 : Vec F S32x256 .f32

/-- The buffers of `A` held at contents `s`. -/
noncomputable def Own (c : Dev nD) (A : Args) (s : St F) : sProp 𝕄 :=
  iprop(owns (c : Thread nD τ) A.a1 fullShare s.x1 ∗ owns (c : Thread nD τ) A.a2 fullShare s.x2
    ∗ owns (c : Thread nD τ) A.a3 fullShare s.x3 ∗ owns (c : Thread nD τ) A.a4 fullShare s.x4
    ∗ owns (c : Thread nD τ) A.a5 fullShare s.x5 ∗ owns (c : Thread nD τ) A.a6 fullShare s.x6
    ∗ owns (c : Thread nD τ) A.a7 fullShare s.x7 ∗ owns (c : Thread nD τ) A.a8 fullShare s.x8
    ∗ owns (c : Thread nD τ) A.a9 fullShare s.x9 ∗ owns (c : Thread nD τ) A.a10 fullShare s.x10
    ∗ owns (c : Thread nD τ) A.a11 fullShare s.x11 ∗ owns (c : Thread nD τ) A.a12 fullShare s.x12
    ∗ owns (c : Thread nD τ) A.a13 fullShare s.x13 ∗ owns (c : Thread nD τ) A.a14 fullShare s.x14
    ∗ owns (c : Thread nD τ) A.a15 fullShare s.x15 ∗ owns (c : Thread nD τ) A.a16 fullShare s.x16
    ∗ owns (c : Thread nD τ) A.a17 fullShare s.x17 ∗ owns (c : Thread nD τ) A.a18 fullShare s.x18
    ∗ owns (c : Thread nD τ) A.a19 fullShare s.x19 ∗ owns (c : Thread nD τ) A.a20 fullShare s.x20)

section
variable (F)
/-- One of the buffers: which it is, where its contents stand in `St`, and that it can be taken out of the whole. -/
structure Cell (sh : Shape) (e : EltTy) where
  mem : Args → Memref sig .tc .vmem sh e
  get : St F → Vec F sh e
  set : St F → Vec F sh e → St F
  eta : ∀ s, set s (get s) = s
  focus : ∀ (c : Dev nD) (A : Args) (s : St F),
    (Own c A s : sProp 𝕄) ⊢ iprop(owns (c : Thread nD τ) (mem A) fullShare (get s)
      ∗ (∀ v, owns (c : Thread nD τ) (mem A) fullShare v -∗ Own c A (set s v)))

end

/-- From `A`'s buffers at `s` the program ends with `a` and the buffers at `s'`. -/
def Runs {α : Type} (A : Args) (p : P F α) (s : St F) (a : α) (s' : St F) : Prop :=
  ∀ (c : Dev nD) (Q : α → sProp 𝕄),
    (Own c A s : sProp 𝕄) ⊢ iprop((Own c A s' -∗ Q a) -∗ wp frame (wpE (defs₀ (F := F)) Variants.none c none) Set.univ p Q)

theorem Runs.pure {α : Type} (A : Args) (s : St F) (a : α) : Runs A (Pure.pure a) s a s := by
  intro c Q
  iintro H W
  rw [show (Pure.pure a : P F α) = Prog.ret a from rfl]
  iapply (le_wp_ret _ _ _ a Q)
  iapply W; iexact H

theorem Runs.bind {α β : Type} {A : Args} {p : P F α} {f : α → P F β} {s s' s'' : St F} {a : α} {b : β}
    (hp : Runs A p s a s') (hf : Runs A (f a) s' b s'') : Runs A (p >>= f) s b s'' := by
  intro c Q
  rw [wp_bind]
  iintro H W
  ihave X := hp c (fun a => wp frame (wpE (defs₀ (F := F)) Variants.none c none) Set.univ (f a) Q) $$ H
  iapply X
  iintro H
  ihave Y := hf c Q $$ H
  iapply Y; iexact W

theorem Runs.load {sh : Shape} {e : EltTy} (C : Cell F sh e) (A : Args) (s : St F) {off size : Fin sh.rank → ℕ}
    (inb : ∀ a, off a + size a ≤ sh.size a) (hl : (C.mem A).view.LoadsAt (Rect.unit off size inb).toLoadRect) :
    Runs A (Prog.lift (.load (C.mem A) (Rect.unit off size inb).toLoadRect hl)) s
      (VecWindow.window (C.get s) off size inb) s := by
  intro c Q
  have h := C.focus c A s
  iintro H W
  ihave X := h $$ H
  icases X with ⟨Ho, Hr⟩
  unfold owns
  icases Ho with ⟨%f, %hf, Hf⟩
  rw [show (Prog.lift (.load (C.mem A) (Rect.unit off size inb).toLoadRect hl) : P F _)
    = .op (.load (C.mem A) (Rect.unit off size inb).toLoadRect hl) Prog.ret from rfl]
  ihave Y := (wp_load (defs := defs₀ (F := F)) Variants.none (c : Thread nD τ) none Set.univ (m := C.mem A) (r := (Rect.unit off size inb).toLoadRect) (hl := hl) (k := Prog.ret) (Q := Q) (f := f)
    (S := (C.mem A).view.set) (q := fullShare) ((C.mem A).view.setOn_subset_set _)) $$ Hf
  iapply Y
  iintro Hf
  iapply (le_wp_ret _ _ _ _ Q)
  rw [View.readAt_unit _ f inb rfl inb, hf]
  iapply W
  ihave Z := Hr $$ %(C.get s)
  rw [C.eta]
  iapply Z
  iexists f
  isplitr
  · ipureintro; exact hf
  iexact Hf

theorem Runs.store {sh : Shape} {e : EltTy} (C : Cell F sh e) (A : Args) (s : St F) {off size : Fin sh.rank → ℕ}
    (inb : ∀ a, off a + size a ≤ sh.size a) (w : (Rect.unit off size inb).shape.Idx → Elt F e)
    (hx : ((C.mem A).access (Rect.unit off size inb)).Stores Finset.univ)
    (hm : (Finset.univ : Finset (Rect.unit off size inb).shape.Idx) = Finset.univ ∨ ∀ a, (Rect.unit off size inb).stride a = 1) :
    Runs A (Prog.lift (.store (C.mem A) (Rect.unit off size inb) w Finset.univ hx hm)) s
      ⟨⟩ (C.set s (VecWindow.put (C.get s) off size w)) := by
  intro c Q
  have h := C.focus c A s
  iintro H W
  ihave X := h $$ H
  icases X with ⟨Ho, Hr⟩
  unfold owns
  icases Ho with ⟨%f, %hf, Hf⟩
  rw [show (Prog.lift (.store (C.mem A) (Rect.unit off size inb) w Finset.univ hx hm) : P F _)
    = .op (.store (C.mem A) (Rect.unit off size inb) w Finset.univ hx hm) Prog.ret from rfl]
  ihave Y := (wp_store_writes₀ (defs := defs₀ (F := F)) Variants.none (c : Thread nD τ) none Set.univ (m := C.mem A) (w := w) (hx := hx) (hm := hm)
    (k := Prog.ret) (Q := Q) (f := f) (S := (C.mem A).view.set) (by show ((C.mem A).view.slice (Rect.unit off size inb)).set ⊆ _; rw [View.set_slice]; exact (C.mem A).view.setOn_subset_set _)) $$ Hf
  iapply Y
  iintro Hf
  iapply (le_wp_ret _ _ _ _ Q)
  iapply W
  ihave Z := Hr $$ %(VecWindow.put (C.get s) off size w)
  iapply Z
  iexists _
  isplitr
  · ipureintro
    rw [View.read_writes_cons_put (C.mem A).view f inb w [] rfl, View.writes_nil, hf]
  iexact Hf

/-! ## The twenty buffers, one by one -/

section Pick

theorem pick_here {V : Type} (O : V → sProp 𝕄) (v : V) (R : sProp 𝕄) : iprop(O v ∗ R) ⊢ iprop(O v ∗ (∀ w, O w -∗ (O w ∗ R))) := by
  iintro ⟨H, HR⟩
  isplitl [H]; · iexact H
  iintro %w Hw
  isplitl [Hw]; · iexact Hw
  iexact HR

theorem pick_last {V : Type} (O : V → sProp 𝕄) (v : V) : O v ⊢ iprop(O v ∗ (∀ w, O w -∗ O w)) := by
  iintro H
  isplitl [H]; · iexact H
  iintro %w Hw
  iexact Hw

theorem pick_next {V : Type} (O : V → sProp 𝕄) (v : V) (R T : sProp 𝕄) (T' : V → sProp 𝕄)
    (h : T ⊢ iprop(O v ∗ (∀ w, O w -∗ T' w))) : iprop(R ∗ T) ⊢ iprop(O v ∗ (∀ w, O w -∗ (R ∗ T' w))) := by
  iintro ⟨HR, HT⟩
  ihave X := h $$ HT
  icases X with ⟨H, HW⟩
  isplitl [H]; · iexact H
  iintro %w Hw
  isplitl [HR]; · iexact HR
  ihave Y := HW $$ %w
  iapply Y; iexact Hw

end Pick

noncomputable def cell1 : Cell F S256x1536 .bf16 where
  mem A := A.a1
  get s := s.x1
  set s v := { s with x1 := v }
  eta _ := rfl
  focus c A s := by
    unfold Own
    let o : Vec F S256x1536 .bf16 → sProp 𝕄 := fun v => owns (c : Thread nD τ) A.a1 fullShare v
    exact pick_here (F := F) o s.x1 _

noncomputable def cell2 : Cell F S256x1536 .bf16 where
  mem A := A.a2
  get s := s.x2
  set s v := { s with x2 := v }
  eta _ := rfl
  focus c A s := by
    unfold Own
    let o : Vec F S256x1536 .bf16 → sProp 𝕄 := fun v => owns (c : Thread nD τ) A.a2 fullShare v
    iterate 1 refine pick_next (F := F) o s.x2 _ _ _ ?_
    exact pick_here (F := F) o s.x2 _

noncomputable def cell3 : Cell F S1x1536 .f32 where
  mem A := A.a3
  get s := s.x3
  set s v := { s with x3 := v }
  eta _ := rfl
  focus c A s := by
    unfold Own
    let o : Vec F S1x1536 .f32 → sProp 𝕄 := fun v => owns (c : Thread nD τ) A.a3 fullShare v
    iterate 2 refine pick_next (F := F) o s.x3 _ _ _ ?_
    exact pick_here (F := F) o s.x3 _

noncomputable def cell4 : Cell F S1x1536 .f32 where
  mem A := A.a4
  get s := s.x4
  set s v := { s with x4 := v }
  eta _ := rfl
  focus c A s := by
    unfold Own
    let o : Vec F S1x1536 .f32 → sProp 𝕄 := fun v => owns (c : Thread nD τ) A.a4 fullShare v
    iterate 3 refine pick_next (F := F) o s.x4 _ _ _ ?_
    exact pick_here (F := F) o s.x4 _

noncomputable def cell5 : Cell F S768x3840 .i8 where
  mem A := A.a5
  get s := s.x5
  set s v := { s with x5 := v }
  eta _ := rfl
  focus c A s := by
    unfold Own
    let o : Vec F S768x3840 .i8 → sProp 𝕄 := fun v => owns (c : Thread nD τ) A.a5 fullShare v
    iterate 4 refine pick_next (F := F) o s.x5 _ _ _ ?_
    exact pick_here (F := F) o s.x5 _

noncomputable def cell6 : Cell F S1x48x3840 .i8 where
  mem A := A.a6
  get s := s.x6
  set s v := { s with x6 := v }
  eta _ := rfl
  focus c A s := by
    unfold Own
    let o : Vec F S1x48x3840 .i8 → sProp 𝕄 := fun v => owns (c : Thread nD τ) A.a6 fullShare v
    iterate 5 refine pick_next (F := F) o s.x6 _ _ _ ?_
    exact pick_here (F := F) o s.x6 _

noncomputable def cell7 : Cell F S1536x32 .bf16 where
  mem A := A.a7
  get s := s.x7
  set s v := { s with x7 := v }
  eta _ := rfl
  focus c A s := by
    unfold Own
    let o : Vec F S1536x32 .bf16 → sProp 𝕄 := fun v => owns (c : Thread nD τ) A.a7 fullShare v
    iterate 6 refine pick_next (F := F) o s.x7 _ _ _ ?_
    exact pick_here (F := F) o s.x7 _

noncomputable def cell8 : Cell F S1536x32 .bf16 where
  mem A := A.a8
  get s := s.x8
  set s v := { s with x8 := v }
  eta _ := rfl
  focus c A s := by
    unfold Own
    let o : Vec F S1536x32 .bf16 → sProp 𝕄 := fun v => owns (c : Thread nD τ) A.a8 fullShare v
    iterate 7 refine pick_next (F := F) o s.x8 _ _ _ ?_
    exact pick_here (F := F) o s.x8 _

noncomputable def cell9 : Cell F S32x3840 .bf16 where
  mem A := A.a9
  get s := s.x9
  set s v := { s with x9 := v }
  eta _ := rfl
  focus c A s := by
    unfold Own
    let o : Vec F S32x3840 .bf16 → sProp 𝕄 := fun v => owns (c : Thread nD τ) A.a9 fullShare v
    iterate 8 refine pick_next (F := F) o s.x9 _ _ _ ?_
    exact pick_here (F := F) o s.x9 _

noncomputable def cell10 : Cell F S1x3840 .f32 where
  mem A := A.a10
  get s := s.x10
  set s v := { s with x10 := v }
  eta _ := rfl
  focus c A s := by
    unfold Own
    let o : Vec F S1x3840 .f32 → sProp 𝕄 := fun v => owns (c : Thread nD τ) A.a10 fullShare v
    iterate 9 refine pick_next (F := F) o s.x10 _ _ _ ?_
    exact pick_here (F := F) o s.x10 _

noncomputable def cell11 : Cell F S256x3840 .bf16 where
  mem A := A.a11
  get s := s.x11
  set s v := { s with x11 := v }
  eta _ := rfl
  focus c A s := by
    unfold Own
    let o : Vec F S256x3840 .bf16 → sProp 𝕄 := fun v => owns (c : Thread nD τ) A.a11 fullShare v
    iterate 10 refine pick_next (F := F) o s.x11 _ _ _ ?_
    exact pick_here (F := F) o s.x11 _

noncomputable def cell12 : Cell F S256x768 .i8 where
  mem A := A.a12
  get s := s.x12
  set s v := { s with x12 := v }
  eta _ := rfl
  focus c A s := by
    unfold Own
    let o : Vec F S256x768 .i8 → sProp 𝕄 := fun v => owns (c : Thread nD τ) A.a12 fullShare v
    iterate 11 refine pick_next (F := F) o s.x12 _ _ _ ?_
    exact pick_here (F := F) o s.x12 _

noncomputable def cell13 : Cell F S256x480 .i8 where
  mem A := A.a13
  get s := s.x13
  set s v := { s with x13 := v }
  eta _ := rfl
  focus c A s := by
    unfold Own
    let o : Vec F S256x480 .i8 → sProp 𝕄 := fun v => owns (c : Thread nD τ) A.a13 fullShare v
    iterate 12 refine pick_next (F := F) o s.x13 _ _ _ ?_
    exact pick_here (F := F) o s.x13 _

noncomputable def cell14 : Cell F S256x3840 .f32 where
  mem A := A.a14
  get s := s.x14
  set s v := { s with x14 := v }
  eta _ := rfl
  focus c A s := by
    unfold Own
    let o : Vec F S256x3840 .f32 → sProp 𝕄 := fun v => owns (c : Thread nD τ) A.a14 fullShare v
    iterate 13 refine pick_next (F := F) o s.x14 _ _ _ ?_
    exact pick_here (F := F) o s.x14 _

noncomputable def cell15 : Cell F S256x1536 .bf16 where
  mem A := A.a15
  get s := s.x15
  set s v := { s with x15 := v }
  eta _ := rfl
  focus c A s := by
    unfold Own
    let o : Vec F S256x1536 .bf16 → sProp 𝕄 := fun v => owns (c : Thread nD τ) A.a15 fullShare v
    iterate 14 refine pick_next (F := F) o s.x15 _ _ _ ?_
    exact pick_here (F := F) o s.x15 _

noncomputable def cell16 : Cell F S256x1536 .bf16 where
  mem A := A.a16
  get s := s.x16
  set s v := { s with x16 := v }
  eta _ := rfl
  focus c A s := by
    unfold Own
    let o : Vec F S256x1536 .bf16 → sProp 𝕄 := fun v => owns (c : Thread nD τ) A.a16 fullShare v
    iterate 15 refine pick_next (F := F) o s.x16 _ _ _ ?_
    exact pick_here (F := F) o s.x16 _

noncomputable def cell17 : Cell F S256x768 .i8 where
  mem A := A.a17
  get s := s.x17
  set s v := { s with x17 := v }
  eta _ := rfl
  focus c A s := by
    unfold Own
    let o : Vec F S256x768 .i8 → sProp 𝕄 := fun v => owns (c : Thread nD τ) A.a17 fullShare v
    iterate 16 refine pick_next (F := F) o s.x17 _ _ _ ?_
    exact pick_here (F := F) o s.x17 _

noncomputable def cell18 : Cell F S512x256 .i32 where
  mem A := A.a18
  get s := s.x18
  set s v := { s with x18 := v }
  eta _ := rfl
  focus c A s := by
    unfold Own
    let o : Vec F S512x256 .i32 → sProp 𝕄 := fun v => owns (c : Thread nD τ) A.a18 fullShare v
    iterate 17 refine pick_next (F := F) o s.x18 _ _ _ ?_
    exact pick_here (F := F) o s.x18 _

noncomputable def cell19 : Cell F S48x3840 .i32 where
  mem A := A.a19
  get s := s.x19
  set s v := { s with x19 := v }
  eta _ := rfl
  focus c A s := by
    unfold Own
    let o : Vec F S48x3840 .i32 → sProp 𝕄 := fun v => owns (c : Thread nD τ) A.a19 fullShare v
    iterate 18 refine pick_next (F := F) o s.x19 _ _ _ ?_
    exact pick_here (F := F) o s.x19 _

noncomputable def cell20 : Cell F S32x256 .f32 where
  mem A := A.a20
  get s := s.x20
  set s v := { s with x20 := v }
  eta _ := rfl
  focus c A s := by
    unfold Own
    let o : Vec F S32x256 .f32 → sProp 𝕄 := fun v => owns (c : Thread nD τ) A.a20 fullShare v
    iterate 19 refine pick_next (F := F) o s.x20 _ _ _ ?_
    exact pick_last (F := F) o s.x20

end Cert.KernelIdeal.Stage
-- ==== Proof.KI.Exec.lean ====
module

public import proofs.«01_k».proof.Proof.KI.Runs

@[expose] public section

/-!
What each stage leaves in the buffers.

For each stage the contents of the buffers after it, as a function of those before it, and that the stage, run,
leaves them so; then the same of the whole body.
-/

namespace Cert.KernelIdeal.Stage

open Idealize.ShloMosaic Idealize.ShloMosaic.TcCoe
open Idealize.SL Idealize.SL.Sem
open VecWindow
open Facts₀ Facts

variable {F : FTy → Type} [FloatOps F]

/-- A buffer read through a window. -/
noncomputable def rd {sh : Shape} {e : EltTy} (C : Cell F sh e) (off size : Fin sh.rank → ℕ)
    (inb : ∀ a, off a + size a ≤ sh.size a) (s : St F) : (Rect.unit off size inb).shape.Idx → Elt F e :=
  window (C.get s) off size inb

/-- A window of a buffer overwritten. -/
noncomputable def wr {sh : Shape} {e : EltTy} (C : Cell F sh e) (off size : Fin sh.rank → ℕ)
    (w : ((a : Fin sh.rank) → Fin (size a)) → Elt F e) (s : St F) : St F :=
  C.set s (put (C.get s) off size w)

/-- A state function over a list, in order. -/
def eachSt {α : Type} (st : α → St F → St F) : List α → St F → St F
  | [], s => s
  | a :: l, s => eachSt st l (st a s)

theorem runs_each {α : Type} {A : Args} {f : α → P F PUnit} {st : α → St F → St F}
    (h : ∀ a s, Runs A (f a) s ⟨⟩ (st a s)) : ∀ (l : List α) (s : St F), Runs A (each f l) s ⟨⟩ (eachSt st l s)
  | [], s => Runs.pure A s _
  | a :: l, s => Runs.bind (h a s) (runs_each h l _)

/-- A chunk's scaled activations, read from the buffers. -/
noncomputable def chunkXt (X : Cell F S256x1536 .bf16) (S : Cell F S1x1536 .f32) (c : Fin 6) (s : St F) :
    FVec F S256x256 .f32 :=
  scaled (rd X ![0, 256 * c.val] S256x256.size (inb_cols c) s) (rd S ![0, 256 * c.val] S1x256.size (inb_smooth c) s)

/-- After a chunk. -/
noncomputable def chunkSt (X : Cell F S256x1536 .bf16) (S : Cell F S1x1536 .f32) (L : Cell F S1536x32 .bf16)
    (row : Fin 6 → Fin 8 → Fin 2 → Nat) (c : Fin 6) (s : St F) : St F :=
  wr cell17 ![0, 128 * c.val] S256x128.size (packed (chunkXt X S c s))
    (wr cell15 ![0, 256 * c.val] S256x256.size (quantised (chunkXt X S c s))
      (eachSt (fun g => wr cell18 (row c g) S1x256.size (scaleRow (chunkXt X S c s) g)) [0, 1, 2, 3, 4, 5, 6, 7]
        (wr cell20 ![0, 0] S32x256.size (lowStep (rd cell20 ![0, 0] S32x256.size inb_S32x256_S32x256_0_0 s)
          (rd L ![256 * c.val, 0] S256x32.size (inb_down c) s) (chunkXt X S c s)) s)))

theorem runs_groupP (A : Args) (row : Fin 2 → Nat) (hrow) (r : IVec S1x256 32) (s : St F) :
    Runs A (groupP A row hrow r) s ⟨⟩ (wr cell18 row S1x256.size r s) :=
  Runs.bind (Runs.load cell18 A s hrow _) (Runs.store cell18 A s hrow r _ _)

theorem runs_chunk (A : Args) (X : Cell F S256x1536 .bf16) (S : Cell F S1x1536 .f32) (L : Cell F S1536x32 .bf16)
    (row : Fin 6 → Fin 8 → Fin 2 → Nat) (hrow) (c : Fin 6) (s : St F) :
    Runs A (chunk A (X.mem A) (S.mem A) (L.mem A) row hrow c) s ⟨⟩ (chunkSt X S L row c s) := by
  unfold chunk
  refine Runs.bind (Runs.load X A s _ _) ?_
  refine Runs.bind (Runs.load S A s _ _) ?_
  refine Runs.bind (Runs.load cell20 A s _ _) ?_
  refine Runs.bind (Runs.load L A s _ _) ?_
  refine Runs.bind (Runs.load cell20 A s _ _) ?_
  refine Runs.bind (Runs.store cell20 A s _ _ _ _) ?_
  refine Runs.bind (runs_each (fun g s => runs_groupP A _ _ _ s) _ _) ?_
  refine Runs.bind (Runs.load cell15 A _ _ _) ?_
  refine Runs.bind (Runs.store cell15 A _ _ _ _ _) ?_
  refine Runs.bind (Runs.load cell17 A _ _ _) ?_
  exact Runs.store cell17 A _ _ _ _ _

theorem runs_rows (A : Args) (n : Fin 15) (s : St F) : ∀ l : List (Fin 48),
    Runs A (rows A n l) s (l.map fun g => rd cell19 ![g.val, 256 * n.val] S1x256.size (inb_srow n g) s) s
  | [] => Runs.pure A s _
  | g :: l => Runs.bind (Runs.load cell19 A s _ _) (Runs.bind (runs_rows A n s l) (Runs.pure A s _))

/-- After a tile. -/
noncomputable def tileSt (n : Fin 15) (s : St F) : St F :=
  wr cell14 ![0, 256 * n.val] S256x256.size
    (tileStep (rd cell14 ![0, 256 * n.val] S256x256.size (inb_tile n) s)
      (rd cell16 ![0, 0] S256x1536.size inb_S256x1536_S256x1536_0_0 s)
      (decodeW (codesW (F := F) (rd cell5 ![0, 256 * n.val] S768x256.size (inb_wtile n) s)))
      (stack48 fun g => factorW (nth (rowList.map fun g => rd cell19 ![g.val, 256 * n.val] S1x256.size (inb_srow n g) s) g.val))) s

theorem runs_tile (A : Args) (n : Fin 15) (s : St F) : Runs A (tile A n) s ⟨⟩ (tileSt n s) := by
  unfold tile
  refine Runs.bind (Runs.load cell5 A s _ _) ?_
  refine Runs.bind (runs_rows A n s rowList) ?_
  refine Runs.bind (Runs.load cell14 A s _ _) ?_
  refine Runs.bind (Runs.load cell16 A s _ _) ?_
  refine Runs.bind (Runs.load cell14 A s _ _) ?_
  exact Runs.store cell14 A s _ _ _ _

/-- After the first point's beginning. -/
noncomputable def startSt (s : St F) : St F :=
  eachSt (chunkSt cell2 cell4 cell8 rowFirst) [0, 1, 2, 3, 4, 5]
    (wr cell20 ![0, 0] S32x256.size (shapeCast S32x256 (broadcast S32x256 (Scalar.ofBits (F := F) .f32 0x00000000#32)) shapeCasts_S32x256_S32x256)
      (wr cell14 ![0, 0] S256x3840.size (shapeCast S256x3840 (broadcast S256x3840 (Scalar.ofBits (F := F) .f32 0x00000000#32)) shapeCasts_S256x3840_S256x3840) s))

theorem runs_start (A : Args) (s : St F) : Runs A (start A) s ⟨⟩ (startSt s) := by
  unfold start
  refine Runs.bind (Runs.load cell14 A s _ _) ?_
  refine Runs.bind (Runs.store cell14 A s _ _ _ _) ?_
  refine Runs.bind (Runs.load cell20 A _ _ _) ?_
  refine Runs.bind (Runs.store cell20 A _ _ _ _ _) ?_
  exact runs_each (fun c s => runs_chunk A cell2 cell4 cell8 rowFirst _ c s) _ _

/-- After the block at hand is taken over. -/
noncomputable def takeOverSt (s : St F) : St F :=
  wr cell19 ![0, 0] S48x3840.size (scaleWords (F := F) (rd cell6 ![0, 0, 0] S1x48x3840.size inb_S1x48x3840_S1x48x3840_0_0_0 s))
    (wr cell12 ![0, 0] S256x768.size (rd cell17 ![0, 0] S256x768.size inb_S256x768_S256x768_0_0 s)
      (wr cell16 ![0, 0] S256x1536.size (shapeCast S256x1536 (rd cell15 ![0, 0] S256x1536.size inb_S256x1536_S256x1536_0_0 s) shapeCasts_S256x1536_S256x1536) s))

theorem runs_takeOver (A : Args) (s : St F) : Runs A (takeOver A) s ⟨⟩ (takeOverSt s) := by
  unfold takeOver
  refine Runs.bind (Runs.load cell15 A s _ _) ?_
  refine Runs.bind (Runs.load cell16 A s _ _) ?_
  refine Runs.bind (Runs.store cell16 A s _ _ _ _) ?_
  refine Runs.bind (Runs.load cell17 A _ _ _) ?_
  refine Runs.bind (Runs.load cell12 A _ _ _) ?_
  refine Runs.bind (Runs.store cell12 A _ _ _ _ _) ?_
  refine Runs.bind (Runs.load cell6 A _ _ _) ?_
  refine Runs.bind (Runs.load cell19 A _ _ _) ?_
  exact Runs.store cell19 A _ _ _ _ _

/-- After a tile and the chunk that follows it. -/
noncomputable def tileChunkSt (i : grid0.Coords) (n : Fin 6) (s : St F) : St F :=
  chunkSt cell1 cell3 cell7 (rowNext i) n (tileSt (n.castLE (by decide)) s)

theorem runs_tileChunk (A : Args) (i : grid0.Coords) (n : Fin 6) (s : St F) :
    Runs A (tileChunk A i n) s ⟨⟩ (tileChunkSt i n s) :=
  Runs.bind (runs_tile A _ s) (runs_chunk A cell1 cell3 cell7 (rowNext i) _ n _)

/-- After the last point's end. -/
noncomputable def finishSt (s : St F) : St F :=
  wr cell13 ![0, 0] S256x480.size (scalesOut (F := F) (rd cell18 ![0, 0] S512x256.size inb_S512x256_S512x256_0_0 s))
    (wr cell11 ![0, 0] S256x3840.size (result (rd cell20 ![0, 0] S32x256.size inb_S32x256_S32x256_0_0 s)
      (rd cell9 ![0, 0] S32x3840.size inb_S32x3840_S32x3840_0_0 s) (rd cell14 ![0, 0] S256x3840.size inb_S256x3840_S256x3840_0_0 s)
      (rd cell10 ![0, 0] S1x3840.size inb_S1x3840_S1x3840_0_0 s)) s)

theorem runs_finish (A : Args) (s : St F) : Runs A (finish A) s ⟨⟩ (finishSt s) := by
  unfold finish
  refine Runs.bind (Runs.load cell20 A s _ _) ?_
  refine Runs.bind (Runs.load cell9 A s _ _) ?_
  refine Runs.bind (Runs.load cell14 A s _ _) ?_
  refine Runs.bind (Runs.load cell10 A s _ _) ?_
  refine Runs.bind (Runs.load cell11 A s _ _) ?_
  refine Runs.bind (Runs.store cell11 A s _ _ _ _) ?_
  refine Runs.bind (Runs.load cell18 A _ _ _) ?_
  refine Runs.bind (Runs.load cell13 A _ _ _) ?_
  exact Runs.store cell13 A _ _ _ _ _

/-- After the tiles and the next block's chunks. -/
noncomputable def tilesSt (i : grid0.Coords) (s : St F) : St F :=
  eachSt tileSt [6, 7, 8, 9, 10, 11, 12, 13, 14] (eachSt (tileChunkSt i) [0, 1, 2, 3, 4, 5] s)

/-- After the low-rank product is kept or put back. -/
noncomputable def keepSt (i : grid0.Coords) (h : Vec F S32x256 .f32) (s : St F) : St F :=
  wr cell20 ![0, 0] S32x256.size (lowKeep i h (rd cell20 ![0, 0] S32x256.size inb_S32x256_S32x256_0_0 s)) s

/-- After a point's main part but for the last point's end. -/
noncomputable def midSt (i : grid0.Coords) (s : St F) : St F :=
  keepSt i (rd cell20 ![0, 0] S32x256.size inb_S32x256_S32x256_0_0 (takeOverSt s)) (tilesSt i (takeOverSt s))

theorem runs_mainPart (A : Args) (i : grid0.Coords) (s : St F) :
    Runs A (mainPart A i) s ⟨⟩ (if k0_cond2 i = 1#1 then finishSt (midSt i s) else midSt i s) := by
  unfold mainPart
  refine Runs.bind (runs_takeOver A s) ?_
  refine Runs.bind (Runs.load cell20 A _ _ _) ?_
  refine Runs.bind (runs_each (runs_tileChunk A i) _ _) ?_
  refine Runs.bind (runs_each (runs_tile A) _ _) ?_
  refine Runs.bind (Runs.load cell20 A _ _ _) ?_
  refine Runs.bind (Runs.load cell20 A _ _ _) ?_
  refine Runs.bind (Runs.store cell20 A _ _ _ _ _) ?_
  by_cases h : k0_cond2 i = 1#1
  · simp only [if_pos h]
    exact Runs.bind (runs_finish A _) (Runs.pure A _ _)
  · simp only [if_neg h]
    exact Runs.bind (Runs.pure A _ _) (Runs.pure A _ _)

/-- After the body. -/
noncomputable def bodySt (i : grid0.Coords) (s : St F) : St F :=
  let s' := if atStart i = 1#1 then startSt s else s
  if k0_cond2 i = 1#1 then finishSt (midSt i s') else midSt i s'

/-- The printed body leaves the buffers at `bodySt`. -/
theorem runs_body (A : Args) (i : grid0.Coords) (s : St F) : Runs A (body A i) s ⟨⟩ (bodySt i s) := by
  rw [body_eq]
  unfold bodySt
  by_cases h : atStart i = 1#1
  · simp only [if_pos h]
    exact Runs.bind (runs_start A s) (runs_mainPart A i _)
  · simp only [if_neg h]
    exact runs_mainPart A i _

end Cert.KernelIdeal.Stage
-- ==== Proof.KI.Point.lean ====
module

public import proofs.«01_k».proof.Proof.KI.Exec
public import Idealize.ShloMosaic.Lib.Pointwise
public import Idealize.ShloMosaic.Lib.BitcastPair

@[expose] public section

/-!
The stages' values, element by element.

Over the extended reals, each value a stage stores, at an index, by the scalar functions below.
-/

noncomputable section

namespace Cert.KernelIdeal.Stage

open Idealize.ShloMosaic Idealize.ShloMosaic.Pointwise
open Facts₀ Facts

/-! ## Scalars -/

/-- The largest of thirty-two absolute values. -/
def kAmax (v : Fin 32 → EReal) : EReal :=
  Finset.fold max (Ideal.ofBits FTy.f32 4286578688#32) (fun x => FloatOps.absf (F := Ideal) (φ := .f32) (v x)) Finset.univ

/-- The biased exponent of a nonnegative number. -/
def kExpo (a : EReal) : BitVec 32 :=
  IntOp.subi
      (Finset.fold IntOp.addi (0#32)
        (fun x : Fin 256 =>
          if Ideal.ofBits FTy.f32 (IntOp.shli ArithUnit.vector (BitVec.ofNat 32 x.val) 23#32) ≤ a then 1#32
          else 0#32)
        Finset.univ)
      1#32

/-- The bits of a nonnegative number whose biased exponent is `e`. -/
def kBits (a : EReal) (e : BitVec 32) : BitVec 32 :=
  IntOp.ori (IntOp.shli ArithUnit.vector e 23#32)
      (Scalar.select
        (IntOp.andi (IntOp.cmpi CmpIPredicate.sgt e 0#32)
          (IntOp.cmpi CmpIPredicate.slt e 255#32))
        (FloatOps.fptosi (F := Ideal) (φ := .f32) 32
          (min
            ((Ideal.div a (Ideal.ofBits FTy.f32 (IntOp.shli ArithUnit.vector e 23#32)) - 1) *
              Ideal.ofBits FTy.f32 1258291200#32)
            (Ideal.ofBits FTy.f32 1258291198#32)))
        0#32)

/-- The scale byte from the bits. -/
def kScale (b : BitVec 32) : BitVec 32 :=
  Scalar.select (IntOp.cmpi CmpIPredicate.slt b 29360128#32) 127#32
    (IntOp.subi (IntOp.shrsi ArithUnit.vector (IntOp.addi b 4194304#32) 23#32) 2#32)

/-- The scale byte of a group whose largest absolute value is `a`. -/
def kSb (a : EReal) : BitVec 32 := kScale (kBits a (kExpo a))

/-- A value divided by its scale and clipped. -/
def kClip (v : EReal) (sb : BitVec 32) : EReal :=
  min (Ideal.ofBits FTy.f32 1086324736#32)
      (max (Ideal.ofBits FTy.f32 3233808384#32)
        (v * Ideal.ofBits FTy.f32 (IntOp.shli ArithUnit.vector (IntOp.subi (254#32) sb) 23#32)))

/-- The code of a clipped value. -/
def kCode (t : EReal) : BitVec 32 :=
  IntOp.ori
      (IntOp.addi
        (IntOp.addi
          (IntOp.addi
            (IntOp.addi
              (IntOp.addi
                (IntOp.addi (if Ideal.ofBits FTy.f32 1048576000#32 < FloatOps.absf (F := Ideal) (φ := .f32) t then 1#32 else 0#32)
                  (if Ideal.ofBits FTy.f32 1061158912#32 ≤ FloatOps.absf (F := Ideal) (φ := .f32) t then 1#32 else 0#32))
                (if Ideal.ofBits FTy.f32 1067450368#32 < FloatOps.absf (F := Ideal) (φ := .f32) t then 1#32 else 0#32))
              (if Ideal.ofBits FTy.f32 1071644672#32 ≤ FloatOps.absf (F := Ideal) (φ := .f32) t then 1#32 else 0#32))
            (if Ideal.ofBits FTy.f32 1075838976#32 < FloatOps.absf (F := Ideal) (φ := .f32) t then 1#32 else 0#32))
          (if Ideal.ofBits FTy.f32 1080033280#32 ≤ FloatOps.absf (F := Ideal) (φ := .f32) t then 1#32 else 0#32))
        (if Ideal.ofBits FTy.f32 1084227584#32 < FloatOps.absf (F := Ideal) (φ := .f32) t then 1#32 else 0#32))
      (if t < 0 then 8#32 else 0#32)

/-- The number a code stands for. -/
def kDec (q : BitVec 32) : EReal :=
  Scalar.select (IntOp.cmpi CmpIPredicate.ne (IntOp.andi q 8#32) 0#32)
      (0 -
        FloatOps.sitofp (F := Ideal) FTy.f32
            (Scalar.select (IntOp.cmpi CmpIPredicate.slt (IntOp.andi q 7#32) 4#32)
              (IntOp.andi q 7#32)
              (Scalar.select (IntOp.cmpi CmpIPredicate.slt (IntOp.andi q 7#32) 6#32)
                (IntOp.subi (IntOp.muli (2#32) (IntOp.andi q 7#32)) 4#32)
                (IntOp.subi (IntOp.muli (4#32) (IntOp.andi q 7#32)) 16#32))) *
          Ideal.ofBits FTy.f32 1056964608#32)
      (FloatOps.sitofp (F := Ideal) FTy.f32
          (Scalar.select (IntOp.cmpi CmpIPredicate.slt (IntOp.andi q 7#32) 4#32)
            (IntOp.andi q 7#32)
            (Scalar.select (IntOp.cmpi CmpIPredicate.slt (IntOp.andi q 7#32) 6#32)
              (IntOp.subi (IntOp.muli (2#32) (IntOp.andi q 7#32)) 4#32)
              (IntOp.subi (IntOp.muli (4#32) (IntOp.andi q 7#32)) 16#32))) *
        Ideal.ofBits FTy.f32 1056964608#32)

/-- A scale byte twice in a word, as two sixteen-bit numbers. -/
def kPair (sb : BitVec 32) : BitVec 32 :=
  IntOp.ori (IntOp.shli ArithUnit.vector sb 7#32) (IntOp.shli ArithUnit.vector sb 23#32)

/-- The number in half `p` of a word. -/
def kHalf (w : BitVec 32) (p : ℕ) : EReal := Ideal.ofBits FTy.bf16 (w.extractLsb' (16 * p) 16)

/-- Eight codes in one word. -/
def kWord (w : ℕ → BitVec 32) : BitVec 32 :=
  IntOp.ori
      (IntOp.ori
        (IntOp.ori
          (IntOp.ori
            (IntOp.ori
              (IntOp.ori
                (IntOp.ori (w 0) (IntOp.shli ArithUnit.vector (w 1) 4#32))
                (IntOp.shli ArithUnit.vector (w 2) 8#32))
              (IntOp.shli ArithUnit.vector (w 3) 12#32))
            (IntOp.shli ArithUnit.vector (w 4) 16#32))
          (IntOp.shli ArithUnit.vector (w 5) 20#32))
        (IntOp.shli ArithUnit.vector (w 6) 24#32))
      (IntOp.shli ArithUnit.vector (w 7) 28#32)

/-- A word with the sign taken off the codes that stand for zero. -/
def kClear (w : BitVec 32) : BitVec 32 :=
  IntOp.ori (IntOp.andi w 2004318071#32)
    (IntOp.andi (IntOp.andi w
      (IntOp.ori (IntOp.ori (IntOp.shli ArithUnit.vector (IntOp.andi w 2004318071#32) 1#32)
        (IntOp.shli ArithUnit.vector (IntOp.andi w 2004318071#32) 2#32))
        (IntOp.shli ArithUnit.vector (IntOp.andi w 2004318071#32) 3#32))) 2290649224#32)

/-- The code in half `d % 2` of a byte. -/
def kNibble (b : BitVec 8) (d : ℕ) : BitVec 32 :=
  if d % 2 < 1 then IntOp.andi (BitVec.setWidth 32 b) 15#32
    else IntOp.shrsi ArithUnit.vector (BitVec.setWidth 32 b) 4#32

/-! ## The stages -/

variable [Facts]

theorem scaled_apply (x : Vec Ideal S256x256 .bf16) (s : Vec Ideal S1x256 .f32) (d t : Fin 256) :
    scaled x s (ix2 d t) = x (ix2 t d) * s (ix2 0 d) := by
  pointwise [scaled]

theorem lowStep_apply (h : Vec Ideal S32x256 .f32) (l : Vec Ideal S256x32 .bf16) (xt : FVec Ideal S256x256 .f32) (j : Fin 32) (t : Fin 256) :
    lowStep h l xt (ix2 j t) = h (ix2 j t) + ∑ k : Fin 256, l (ix2 k j) * xt (ix2 k t) := by
  pointwise [lowStep]

theorem amax_apply (v : FVec Ideal S32x256 .f32) (t : Fin 256) :
    amax v (ix2 0 t) = kAmax fun k => v (ix2 k t) := by
  pointwise [amax]
  rfl

theorem expo_apply (v : FVec Ideal S1x256 .f32) (t : Fin 256) : expo v (ix2 0 t) = kExpo (v (ix2 0 t)) := by
  pointwise [expo]
  rfl

theorem floatBits_apply (v : FVec Ideal S1x256 .f32) (e) (t : Fin 256) :
    floatBits v e (ix2 0 t) = kBits (v (ix2 0 t)) (e (ix2 0 t)) := by
  pointwise [floatBits]
  rfl

theorem scaleOf_apply (b : IVec S1x256 32) (t : Fin 256) : scaleOf b (ix2 0 t) = kScale (b (ix2 0 t)) := by
  pointwise [scaleOf]
  rfl

theorem group_apply (xt : FVec Ideal S256x256 .f32) (g : Fin 8) (k : Fin 32) (t : Fin 256) :
    group xt g (ix2 k t) = xt (ix2 ⟨32 * g.val + k.val, by omega⟩ t) := by
  pointwise [group]

theorem scaleByte_apply (v : FVec Ideal S32x256 .f32) (t : Fin 256) :
    scaleByte v (ix2 0 t) = kSb (kAmax fun k => v (ix2 k t)) := by
  unfold scaleByte kSb
  rw [scaleOf_apply, floatBits_apply, expo_apply, amax_apply]

theorem scaleRow_apply (xt : FVec Ideal S256x256 .f32) (g : Fin 8) (t : Fin 256) :
    scaleRow xt g (ix2 0 t) = kSb (kAmax fun k => xt (ix2 ⟨32 * g.val + k.val, by omega⟩ t)) := by
  pointwise [scaleRow]
  rw [scaleByte_apply]
  simp only [group_apply]

theorem encode_apply (v : FVec Ideal S256x256 .f32) (d t : Fin 256) : encode v (ix2 d t) = kCode (v (ix2 d t)) := by
  pointwise [encode]
  rfl

theorem clipped_apply (v : FVec Ideal S32x256 .f32) (sb) (d : Fin 32) (t : Fin 256) :
    clipped v sb (ix2 d t) = kClip (v (ix2 d t)) (sb (ix2 0 t)) := by
  pointwise [clipped]
  rfl

theorem decodeA_apply (v) (d : Fin 256) (t : Fin 256) : decodeA (F := Ideal) v (ix2 d t) = kDec (v (ix2 d t)) := by
  pointwise [decodeA]
  rfl

theorem decodeW_apply (v) (d : Fin 1536) (t : Fin 256) : decodeW (F := Ideal) v (ix2 d t) = kDec (v (ix2 d t)) := by
  pointwise [decodeW]
  rfl

theorem tileStep_apply (a) (x) (w) (f) (d : Fin 256) (t : Fin 256) :
    tileStep (F := Ideal) a x w f (ix2 d t) = a (ix2 d t) + ∑ k : Fin 1536, x (ix2 d k) * (w (ix2 k t) * f (ix2 k t)) := by
  pointwise [tileStep]

theorem bitcast_halves (x : IVec S16x256 32) (d : Fin 32) (t : Fin 256) (h) :
    bitcast S32x256 16 x h (ix2 d t) = (x (ix2 ⟨d.val / 2, by omega⟩ t)).extractLsb' (16 * (d.val % 2)) 16 := by
  rw [bitcast_32_16]
  congr 1
  refine congrArg x ?_
  refine funext fun a => ?_
  match a with
  | ⟨0, _⟩ => exact Fin.ext rfl
  | ⟨1, _⟩ => exact Fin.ext rfl

theorem factorW_apply (r) (d : Fin 32) (t : Fin 256) :
    factorW (F := Ideal) r (ix2 d t) = kHalf (r (ix2 0 t)) (d.val % 2) := by
  pointwise [factorW]
  rw [bitcast_halves]
  pointwise
  rfl

theorem factor_apply (sb) (d : Fin 32) (t : Fin 256) :
    factor (F := Ideal) sb (ix2 d t) = kHalf (kPair (sb (ix2 0 t))) (d.val % 2) := by
  pointwise [factor]
  rw [bitcast_halves]
  pointwise
  rfl

theorem codesW_apply (w) (d : Fin 1536) (t : Fin 256) :
    codesW (F := Ideal) w (ix2 d t) = kNibble (w (ix2 ⟨d.val / 2, by omega⟩ t)) d.val := by
  pointwise [codesW]
  rfl

theorem words_apply (w) (d : Fin 32) (t : Fin 256) :
    words w (ix2 d t) = kWord fun i => if h : i < 8 then w (ix2 ⟨d.val * 8 + i, by omega⟩ t) else 0#32 := by
  pointwise [words]
  rfl

theorem clearZero_apply (w : IVec S32x256 32) (d : Fin 32) (t : Fin 256) : clearZero w (ix2 d t) = kClear (w (ix2 d t)) := by
  pointwise [clearZero]
  rfl

theorem bytesOf_apply (w : IVec S32x256 32) (d : Fin 128) (t : Fin 256) :
    bytesOf w (ix2 t d) = (w (ix2 ⟨d.val / 4, by omega⟩ t)).extractLsb' (8 * (d.val % 4)) 8 := by
  pointwise [bytesOf]
  apply BitVec.eq_of_getLsbD_eq
  intro i hi
  rw [BitVec.getLsbD_setWidth, BitVec.getLsbD_setWidth, bitcast_getLsbD _ _ _ i hi (by decide), BitVec.getLsbD_extractLsb']
  have e1 : (d.val * 8 + i) / 32 = d.val / 4 := by omega
  have e2 : (d.val * 8 + i) % 32 = 8 * (d.val % 4) + i := by omega
  have e3 : i < 32 := by omega
  simp only [hi, e3, decide_true, Bool.true_and]
  show (w _).getLsbD ((d.val * 8 + i) % 32) = _
  rw [e2]
  congr 1
  refine congrArg w ?_
  refine funext fun a => ?_
  match a with
  | ⟨0, _⟩ => exact Fin.ext e1
  | ⟨1, _⟩ => exact Fin.ext rfl

theorem result_apply (h u a b) (d : Fin 3840) (t : Fin 256) :
    result (F := Ideal) h u a b (ix2 t d) = a (ix2 t d) + ∑ x : Fin 32, h (ix2 x t) * u (ix2 x d) + b (ix2 0 d) := by
  pointwise [result]

theorem scalesOut_apply (h) (d : Fin 480) (t : Fin 256) :
    scalesOut (F := Ideal) h (ix2 t d) = BitVec.setWidth 8 (h (ix2 ⟨d.val, by omega⟩ t)) := by
  pointwise [scalesOut]

theorem scaleWords_apply (h) (d : Fin 3840) (t : Fin 48) :
    scaleWords (F := Ideal) h (ix2 t d) = kPair (BitVec.setWidth 32 (h (ix3 0 t d))) := by
  pointwise [scaleWords]
  rfl

theorem stack8_apply {α : Type} (T : Fin 8 → S32x256.Idx → α) (d : Fin 256) (t : Fin 256) :
    stack8 T (ix2 d t) = T ⟨d.val / 32, by omega⟩ (ix2 ⟨d.val % 32, by omega⟩ t) := by
  refine (Idealize.ShloMosaic.concatenate_ofFn_apply (t := S256x256) (s₁ := S32x256) 0 T
    concatenates_S32x256_S32x256_S32x256_S32x256_S32x256_S32x256_S32x256_S32x256_S256x256_d0
    rfl 32 rfl (ix2 d t) ⟨d.val / 32, by omega⟩ rfl (ix2 ⟨d.val % 32, by omega⟩ t) rfl ?_)
  intro b hb
  match b, hb with
  | ⟨0, _⟩, hb => exact absurd rfl hb
  | ⟨1, _⟩, _ => rfl

theorem stack48_apply (T : Fin 48 → FVec Ideal S32x256 .bf16) (d : Fin 1536) (t : Fin 256) :
    stack48 T (ix2 d t) = T ⟨d.val / 32, by omega⟩ (ix2 ⟨d.val % 32, by omega⟩ t) := by
  refine (Idealize.ShloMosaic.concatenate_ofFn_apply (t := S1536x256) (s₁ := S32x256) 0 T
    concatenates_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S32x256_S1536x256_d0
    rfl 32 rfl (ix2 d t) ⟨d.val / 32, by omega⟩ rfl (ix2 ⟨d.val % 32, by omega⟩ t) rfl ?_)
  intro b hb
  match b, hb with
  | ⟨0, _⟩, hb => exact absurd rfl hb
  | ⟨1, _⟩, _ => rfl

end Cert.KernelIdeal.Stage
-- ==== Proof.KI.Math.lean ====
module

public import proofs.«01_k».proof.Proof.KI.Point

@[expose] public section

/-!
The kernel's function, as a whole.

The quantised activations, packed codes, scales and sums of the whole problem, as functions of the arguments, and
that a chunk's values are theirs.
-/

noncomputable section

namespace Cert.KernelIdeal.Stage

open Idealize.ShloMosaic Idealize.ShloMosaic.Pointwise
open Facts₀ Facts

/-- The arguments by plain indices: activations, smoothing factors, weight codes and scales, the two low-rank
factors, and the bias. -/
structure Data where
  x : ℕ → ℕ → EReal
  s : ℕ → EReal
  wp : ℕ → ℕ → BitVec 8
  ws : ℕ → ℕ → BitVec 8
  ld : ℕ → ℕ → EReal
  lu : ℕ → ℕ → EReal
  bi : ℕ → EReal

namespace Data

variable (D : Data)

/-- The scaled activations. -/
def xs (t d : ℕ) : EReal := D.x t d * D.s d
/-- A group's scale byte. -/
def sb (t g : ℕ) : BitVec 32 := kSb (kAmax fun k => D.xs t (32 * g + k.val))
/-- An activation's code. -/
def code (t d : ℕ) : BitVec 32 := kCode (kClip (D.xs t d) (D.sb t (d / 32)))
/-- A quantised activation. -/
def xq (t d : ℕ) : EReal := kDec (D.code t d) * kHalf (kPair (D.sb t (d / 32))) (d % 2)
/-- A byte of packed codes. -/
def byte (t j : ℕ) : BitVec 8 :=
  (kClear (kWord fun i => if i < 8 then D.code t (8 * (j / 4) + i) else 0#32)).extractLsb' (8 * (j % 4)) 8
/-- A weight. -/
def wq (d n : ℕ) : EReal := kDec (kNibble (D.wp (d / 2) n) d) * kHalf (kPair ((D.ws (d / 32) n).setWidth 32)) (d % 2)
/-- The product over the first `k` columns of the activations. -/
def acc (k t n : ℕ) : EReal := ∑ d ∈ Finset.range k, D.xq t d * D.wq d n
/-- The low-rank product over the first `k` columns. -/
def low (k j t : ℕ) : EReal := ∑ d ∈ Finset.range k, D.ld d j * D.xs t d

theorem acc_add (k l t n : ℕ) :
    D.acc (k + l) t n = D.acc k t n + ∑ d : Fin l, D.xq t (k + d.val) * D.wq (k + d.val) n := by
  unfold acc
  rw [Finset.sum_range_add, ← Fin.sum_univ_eq_sum_range (fun d => D.xq t (k + d) * D.wq (k + d) n)]

theorem low_add (k l j t : ℕ) :
    D.low (k + l) j t = D.low k j t + ∑ d : Fin l, D.ld (k + d.val) j * D.xs t (k + d.val) := by
  unfold low
  rw [Finset.sum_range_add, ← Fin.sum_univ_eq_sum_range (fun d => D.ld (k + d) j * D.xs t (k + d))]

end Data

/-- A matrix by plain indices, `z` outside. -/
def at2 {α : Type} {m n : ℕ} (z : α) (A : (⟨2, ![m, n]⟩ : Shape).Idx → α) (i j : ℕ) : α :=
  if h : i < m ∧ j < n then A (ix2 ⟨i, h.1⟩ ⟨j, h.2⟩) else z

/-- A vector by plain indices, `z` outside. -/
def at1 {α : Type} {m : ℕ} (z : α) (A : (⟨1, ![m]⟩ : Shape).Idx → α) (i : ℕ) : α :=
  if h : i < m then A (ix1 (⟨i, h⟩ : Fin m)) else z

theorem at2_val {α : Type} {m n : ℕ} (z : α) (A : (⟨2, ![m, n]⟩ : Shape).Idx → α) {i j : ℕ} (i' : Fin m) (j' : Fin n)
    (hi : i'.val = i) (hj : j'.val = j) : A (ix2 i' j') = at2 z A i j := by
  subst hi hj
  unfold at2
  rw [dif_pos (⟨i'.isLt, j'.isLt⟩ : i'.val < m ∧ j'.val < n)]

theorem at1_val {α : Type} {m : ℕ} (z : α) (A : (⟨1, ![m]⟩ : Shape).Idx → α) {i : ℕ} (i' : Fin m)
    (hi : i'.val = i) : A (ix1 i') = at1 z A i := by
  subst hi
  unfold at1
  rw [dif_pos i'.isLt]

/-- The problem's data, from its seven arguments. -/
def Data.of (a0 : (⟨3, ![2, 128, 15360]⟩ : Shape).Idx → EReal) (a1 : (⟨1, ![15360]⟩ : Shape).Idx → EReal)
    (a2 : (⟨2, ![7680, 3840]⟩ : Shape).Idx → BitVec 8) (a3 : (⟨2, ![480, 3840]⟩ : Shape).Idx → BitVec 8)
    (a4 : (⟨2, ![15360, 32]⟩ : Shape).Idx → EReal) (a5 : (⟨2, ![32, 3840]⟩ : Shape).Idx → EReal)
    (a6 : (⟨1, ![3840]⟩ : Shape).Idx → EReal) : Data where
  x t d := if h : t < 256 ∧ d < 15360 then a0 (ix3 ⟨t / 128, by omega⟩ ⟨t % 128, by omega⟩ ⟨d, h.2⟩) else 0
  s := at1 0 a1
  wp := at2 0 a2
  ws := at2 0 a3
  ld := at2 0 a4
  lu := at2 0 a5
  bi := at1 0 a6

variable [Facts]

/-- The scaled activations of the 256 columns from column `256 q` on. -/
def IsChunk (D : Data) (q : ℕ) (xt : FVec Ideal S256x256 .f32) : Prop :=
  ∀ d t : Fin 256, xt (ix2 d t) = D.xs t.val (256 * q + d.val)

variable {D : Data} {q : ℕ} {xt : FVec Ideal S256x256 .f32} (h : IsChunk D q xt)
include h

theorem scaleRow_chunk (g : Fin 8) (t : Fin 256) : scaleRow xt g (ix2 0 t) = D.sb t.val (8 * q + g.val) := by
  rw [scaleRow_apply]
  unfold Data.sb
  refine congrArg kSb (congrArg kAmax (funext fun k => ?_))
  rw [h]
  exact congrArg _ (by show 256 * q + (32 * g.val + k.val) = _; omega)

theorem scaleByte_chunk (g : Fin 8) (t : Fin 256) : scaleByte (group xt g) (ix2 0 t) = D.sb t.val (8 * q + g.val) := by
  rw [scaleByte_apply]
  unfold Data.sb
  refine congrArg kSb (congrArg kAmax (funext fun k => ?_))
  rw [group_apply, h]
  exact congrArg _ (by show 256 * q + (32 * g.val + k.val) = _; omega)

theorem code_chunk (d t : Fin 256) : encode (clippedAll xt) (ix2 d t) = D.code t.val (256 * q + d.val) := by
  rw [encode_apply]
  unfold clippedAll Data.code
  rw [stack8_apply, clipped_apply, scaleByte_chunk h, group_apply, h]
  have e1 : 256 * q + (32 * (d.val / 32) + d.val % 32) = 256 * q + d.val := by omega
  have e2 : 8 * q + d.val / 32 = (256 * q + d.val) / 32 := by omega
  dsimp only
  rw [e1, e2]

theorem quantised_chunk (d t : Fin 256) : quantised xt (ix2 t d) = D.xq t.val (256 * q + d.val) := by
  unfold quantised
  pointwise
  rw [decodeA_apply, code_chunk h, stack8_apply, factor_apply, scaleByte_chunk h]
  unfold Data.xq
  have e2 : 8 * q + d.val / 32 = (256 * q + d.val) / 32 := by omega
  have e3 : d.val % 32 % 2 = (256 * q + d.val) % 2 := by omega
  dsimp only
  rw [e2, e3]

theorem packed_chunk (t : Fin 256) (j : Fin 128) : packed xt (ix2 t j) = D.byte t.val (128 * q + j.val) := by
  unfold packed
  rw [bytesOf_apply, clearZero_apply, words_apply]
  unfold Data.byte
  have e1 : (128 * q + j.val) % 4 = j.val % 4 := by omega
  rw [e1]
  refine congrArg (fun w : ℕ → BitVec 32 => (kClear (kWord w)).extractLsb' (8 * (j.val % 4)) 8) (funext fun i => ?_)
  by_cases hi : i < 8
  · rw [dif_pos hi, if_pos hi, code_chunk h]
    exact congrArg _ (by show 256 * q + (j.val / 4 * 8 + i) = _; omega)
  · rw [dif_neg hi, if_neg hi]

end Cert.KernelIdeal.Stage
-- ==== Proof.KI.Keep.lean ====
module

public import proofs.«01_k».proof.Proof.KI.Exec

@[expose] public section

/-!
What each stage leaves alone.

A function of the buffers' contents that does not see the buffers a stage writes is not changed by the stage.
-/

namespace Cert.KernelIdeal.Stage

open Idealize.ShloMosaic
open VecWindow
open Facts₀ Facts

variable {F : FTy → Type} [FloatOps F] {β : Type} (π : St F → β)

/-- `π` does not see the cell. -/
def Blind {sh : Shape} {e : EltTy} (C : Cell F sh e) : Prop := ∀ s v, π (C.set s v) = π s

variable {π}

theorem wr_keep {sh : Shape} {e : EltTy} {C : Cell F sh e} (h : Blind π C) (off size : Fin sh.rank → ℕ) (w) (s : St F) :
    π (wr C off size w s) = π s := h _ _

theorem eachSt_keep {α : Type} {st : α → St F → St F} (h : ∀ a s, π (st a s) = π s) :
    ∀ (l : List α) (s : St F), π (eachSt st l s) = π s
  | [], _ => rfl
  | a :: l, s => (eachSt_keep h l (st a s)).trans (h a s)

theorem chunkSt_keep (h15 : Blind π cell15) (h17 : Blind π cell17) (h18 : Blind π cell18) (h20 : Blind π cell20)
    (X : Cell F S256x1536 .bf16) (S : Cell F S1x1536 .f32) (L : Cell F S1536x32 .bf16) (row) (c : Fin 6) (s : St F) :
    π (chunkSt X S L row c s) = π s := by
  unfold chunkSt
  rw [wr_keep h17, wr_keep h15, eachSt_keep (fun a s => wr_keep h18 _ _ _ s), wr_keep h20]

theorem tileSt_keep (h14 : Blind π cell14) (n : Fin 15) (s : St F) : π (tileSt n s) = π s := wr_keep h14 _ _ _ s

theorem takeOverSt_keep (h12 : Blind π cell12) (h16 : Blind π cell16) (h19 : Blind π cell19) (s : St F) :
    π (takeOverSt s) = π s := by
  unfold takeOverSt
  rw [wr_keep h19, wr_keep h12, wr_keep h16]

theorem startSt_keep (h14 : Blind π cell14) (h15 : Blind π cell15) (h17 : Blind π cell17) (h18 : Blind π cell18)
    (h20 : Blind π cell20) (s : St F) : π (startSt s) = π s := by
  unfold startSt
  rw [eachSt_keep (fun a s => chunkSt_keep h15 h17 h18 h20 _ _ _ _ a s), wr_keep h20, wr_keep h14]

theorem tileChunkSt_keep (h14 : Blind π cell14) (h15 : Blind π cell15) (h17 : Blind π cell17) (h18 : Blind π cell18)
    (h20 : Blind π cell20) (i) (n) (s : St F) : π (tileChunkSt i n s) = π s := by
  unfold tileChunkSt
  rw [chunkSt_keep h15 h17 h18 h20, tileSt_keep h14]

theorem tilesSt_keep (h14 : Blind π cell14) (h15 : Blind π cell15) (h17 : Blind π cell17) (h18 : Blind π cell18)
    (h20 : Blind π cell20) (i) (s : St F) : π (tilesSt i s) = π s := by
  unfold tilesSt
  rw [eachSt_keep (fun a s => tileSt_keep h14 a s), eachSt_keep (fun a s => tileChunkSt_keep h14 h15 h17 h18 h20 i a s)]

theorem midSt_keep (h12 : Blind π cell12) (h14 : Blind π cell14) (h15 : Blind π cell15) (h16 : Blind π cell16)
    (h17 : Blind π cell17) (h18 : Blind π cell18) (h19 : Blind π cell19) (h20 : Blind π cell20) (i) (s : St F) :
    π (midSt i s) = π s := by
  unfold midSt keepSt
  rw [wr_keep h20, tilesSt_keep h14 h15 h17 h18 h20, takeOverSt_keep h12 h16 h19]

theorem finishSt_keep (h11 : Blind π cell11) (h13 : Blind π cell13) (s : St F) : π (finishSt s) = π s := by
  unfold finishSt
  rw [wr_keep h13, wr_keep h11]

theorem bodySt_keep (h11 : Blind π cell11) (h12 : Blind π cell12) (h13 : Blind π cell13) (h14 : Blind π cell14)
    (h15 : Blind π cell15) (h16 : Blind π cell16) (h17 : Blind π cell17) (h18 : Blind π cell18) (h19 : Blind π cell19)
    (h20 : Blind π cell20) (i) (s : St F) : π (bodySt i s) = π s := by
  unfold bodySt
  by_cases h : atStart i = 1#1 <;> by_cases h' : k0_cond2 i = 1#1 <;> simp only [if_pos, if_neg, h, h', not_false_eq_true] <;>
    simp only [finishSt_keep h11 h13, midSt_keep h12 h14 h15 h16 h17 h18 h19 h20, startSt_keep h14 h15 h17 h18 h20]

/-- What the body leaves alone if it is not the last point's. -/
theorem bodySt_keep' (h12 : Blind π cell12) (h14 : Blind π cell14)
    (h15 : Blind π cell15) (h16 : Blind π cell16) (h17 : Blind π cell17) (h18 : Blind π cell18) (h19 : Blind π cell19)
    (h20 : Blind π cell20) (i) (s : St F) (h' : ¬ k0_cond2 i = 1#1) : π (bodySt i s) = π s := by
  unfold bodySt
  by_cases h : atStart i = 1#1 <;> simp only [if_pos, if_neg, h, h', not_false_eq_true] <;>
    simp only [midSt_keep h12 h14 h15 h16 h17 h18 h19 h20, startSt_keep h14 h15 h17 h18 h20]

end Cert.KernelIdeal.Stage
-- ==== Proof.KI.Step.lean ====
module

public import proofs.«01_k».proof.Proof.KI.Math
public import proofs.«01_k».proof.Proof.KI.Keep

@[expose] public section

/-!
A grid point, in numbers.

What the stages of a grid point leave in the buffers, entry by entry.
-/

noncomputable section

namespace Cert.KernelIdeal.Stage

open Idealize.ShloMosaic Idealize.ShloMosaic.Pointwise
open VecWindow
open Facts₀ Facts

/-! ## Windows of a matrix -/

section
variable {α : Type} {m n a b : ℕ}

theorem put_in (x : (⟨2, ![m, n]⟩ : Shape).Idx → α) (o p : ℕ) (w : ((⟨2, ![a, b]⟩ : Shape).Idx) → α) (i : Fin m) (j : Fin n)
    (h0 : o ≤ i.val) (h1 : i.val < o + a) (h2 : p ≤ j.val) (h3 : j.val < p + b) :
    put (s := ⟨2, ![m, n]⟩) x ![o, p] ![a, b] w (ix2 i j) = w (ix2 ⟨i.val - o, by omega⟩ ⟨j.val - p, by omega⟩) := by
  have h : ∀ c : Fin 2, (![o, p] : Fin 2 → ℕ) c ≤ (ix2 i j c).val ∧ (ix2 i j c).val < (![o, p] : Fin 2 → ℕ) c + (![a, b] : Fin 2 → ℕ) c := fun c => by
    match c with
    | ⟨0, _⟩ => exact ⟨h0, h1⟩
    | ⟨1, _⟩ => exact ⟨h2, h3⟩
  refine (dif_pos h).trans (congrArg w (funext fun c => ?_))
  match c with
  | ⟨0, _⟩ => rfl
  | ⟨1, _⟩ => rfl

theorem put_out0 (x : (⟨2, ![m, n]⟩ : Shape).Idx → α) (o p : ℕ) (w : ((⟨2, ![a, b]⟩ : Shape).Idx) → α) (i : Fin m) (j : Fin n)
    (h : i.val < o ∨ o + a ≤ i.val) :
    put (s := ⟨2, ![m, n]⟩) x ![o, p] ![a, b] w (ix2 i j) = x (ix2 i j) := by
  refine dif_neg fun hc => ?_
  have e : o ≤ i.val ∧ i.val < o + a := hc 0
  omega

theorem put_out1 (x : (⟨2, ![m, n]⟩ : Shape).Idx → α) (o p : ℕ) (w : ((⟨2, ![a, b]⟩ : Shape).Idx) → α) (i : Fin m) (j : Fin n)
    (h : j.val < p ∨ p + b ≤ j.val) :
    put (s := ⟨2, ![m, n]⟩) x ![o, p] ![a, b] w (ix2 i j) = x (ix2 i j) := by
  refine dif_neg fun hc => ?_
  have e : p ≤ j.val ∧ j.val < p + b := hc 1
  omega

/-- A put over the whole leaves the payload. -/
theorem put_whole (x : (⟨2, ![m, n]⟩ : Shape).Idx → α) (w : ((⟨2, ![m, n]⟩ : Shape).Idx) → α) (i : Fin m) (j : Fin n) :
    put (s := ⟨2, ![m, n]⟩) x ![0, 0] ![m, n] w (ix2 i j) = w (ix2 i j) :=
  put_in x 0 0 w i j (by omega) (by omega) (by omega) (by omega)

theorem window_ix2 (x : (⟨2, ![m, n]⟩ : Shape).Idx → α) (o p : ℕ)
    (inb : ∀ c, (![o, p] : Fin 2 → ℕ) c + (![a, b] : Fin 2 → ℕ) c ≤ (⟨2, ![m, n]⟩ : Shape).size c) (i : Fin a) (j : Fin b)
    (h0 : o + i.val < m) (h1 : p + j.val < n) :
    window (s := ⟨2, ![m, n]⟩) x ![o, p] ![a, b] inb (ix2 i j) = x (ix2 ⟨o + i.val, h0⟩ ⟨p + j.val, h1⟩) := by
  refine congrArg x (funext fun c => Fin.ext ?_)
  match c with
  | ⟨0, _⟩ => show o + 1 * i.val = o + i.val; omega
  | ⟨1, _⟩ => show p + 1 * j.val = p + j.val; omega

end

/-! ## Lists of steps -/

section
variable {P : ℕ → St Ideal → Prop}

theorem each_six {st : Fin 6 → St Ideal → St Ideal} (h : ∀ c s, P c.val s → P (c.val + 1) (st c s)) {s : St Ideal} (h0 : P 0 s) :
    P 6 (eachSt st [0, 1, 2, 3, 4, 5] s) :=
  h 5 _ (h 4 _ (h 3 _ (h 2 _ (h 1 _ (h 0 _ h0)))))

theorem each_eight {st : Fin 8 → St Ideal → St Ideal} (h : ∀ c s, P c.val s → P (c.val + 1) (st c s)) {s : St Ideal} (h0 : P 0 s) :
    P 8 (eachSt st [0, 1, 2, 3, 4, 5, 6, 7] s) :=
  h 7 _ (h 6 _ (h 5 _ (h 4 _ (h 3 _ (h 2 _ (h 1 _ (h 0 _ h0)))))))

theorem each_nine {st : Fin 15 → St Ideal → St Ideal} (h : ∀ c s, P c.val s → P (c.val + 1) (st c s)) {s : St Ideal} (h0 : P 6 s) :
    P 15 (eachSt st [6, 7, 8, 9, 10, 11, 12, 13, 14] s) :=
  h 14 _ (h 13 _ (h 12 _ (h 11 _ (h 10 _ (h 9 _ (h 8 _ (h 7 _ (h 6 _ h0))))))))

end

theorem nth_rowList (f : Fin 48 → Vec Ideal S1x256 .i32) (g : Fin 48) : nth (rowList.map f) g.val = f g := by
  fin_cases g <;> rfl

theorem kNibble_congr (v : BitVec 8) {d d' : ℕ} (h : d % 2 = d' % 2) : kNibble v d = kNibble v d' := by
  unfold kNibble
  rw [h]

variable [Facts] (D : Data)

/-! ## A chunk -/

/-- The buffers `X`, `S`, `L` hold block `b` of the activations, the smoothing factors and the first factor. -/
structure Src (b : ℕ) (X : Cell Ideal S256x1536 .bf16) (S : Cell Ideal S1x1536 .f32) (L : Cell Ideal S1536x32 .bf16) (s : St Ideal) : Prop where
  xs : ∀ (t : Fin 256) (d : Fin 1536), X.get s (ix2 t d) * S.get s (ix2 0 d) = D.xs t.val (1536 * b + d.val)
  ld : ∀ (d : Fin 1536) (j : Fin 32), L.get s (ix2 d j) = D.ld (1536 * b + d.val) j.val

/-- What the buffers hold after the first `n` chunks of block `b`, from the low-rank product `h0`. -/
structure ChunkDone (b n : ℕ) (h0 : ℕ → ℕ → EReal) (s : St Ideal) : Prop where
  x15 : ∀ (t : Fin 256) (y : Fin 1536), y.val < 256 * n → s.x15 (ix2 t y) = D.xq t.val (1536 * b + y.val)
  x17 : ∀ (t : Fin 256) (y : Fin 768), y.val < 128 * n → s.x17 (ix2 t y) = D.byte t.val (768 * b + y.val)
  x18 : ∀ (r : Fin 512) (t : Fin 256), r.val < 48 * b + 8 * n → s.x18 (ix2 r t) = D.sb t.val r.val
  x20 : ∀ (j : Fin 32) (t : Fin 256), s.x20 (ix2 j t)
    = h0 j.val t.val + ∑ d ∈ Finset.range (256 * n), D.ld (1536 * b + d) j.val * D.xs t.val (1536 * b + d)

variable {D}

theorem chunkXt_isChunk {b : ℕ} {X S L} {s : St Ideal} (h : Src D b X S L s) (c : Fin 6) :
    IsChunk D (6 * b + c.val) (chunkXt X S c s) := by
  intro d t
  unfold chunkXt
  rw [scaled_apply]
  have e1 : rd X ![0, 256 * c.val] S256x256.size (inb_cols c) s (ix2 t d) = X.get s (ix2 t ⟨256 * c.val + d.val, by omega⟩) :=
    (window_ix2 (m := 256) (n := 1536) (a := 256) (b := 256) (X.get s) 0 (256 * c.val) (inb_cols c) t d (by omega) (by omega)).trans
      (congrArg (fun k => X.get s (ix2 k _)) (Fin.ext (by simp)))
  have e2 : rd S ![0, 256 * c.val] S1x256.size (inb_smooth c) s (ix2 0 d) = S.get s (ix2 0 ⟨256 * c.val + d.val, by omega⟩) :=
    (window_ix2 (m := 1) (n := 1536) (a := 1) (b := 256) (S.get s) 0 (256 * c.val) (inb_smooth c) 0 d (by simp) (by omega))
  rw [e1, e2, h.xs]
  exact congrArg _ (by show 1536 * b + (256 * c.val + d.val) = _; omega)

theorem wr15 (off size w) (s : St Ideal) : (wr cell15 off size w s).x15 = put (s := S256x1536) s.x15 off size w := rfl
theorem wr17 (off size w) (s : St Ideal) : (wr cell17 off size w s).x17 = put (s := S256x768) s.x17 off size w := rfl
theorem wr18 (off size w) (s : St Ideal) : (wr cell18 off size w s).x18 = put (s := S512x256) s.x18 off size w := rfl
theorem wr20 (off size w) (s : St Ideal) : (wr cell20 off size w s).x20 = put (s := S32x256) s.x20 off size w := rfl
theorem wr14 (off size w) (s : St Ideal) : (wr cell14 off size w s).x14 = put (s := S256x3840) s.x14 off size w := rfl

section
variable (X : Cell Ideal S256x1536 .bf16) (S : Cell Ideal S1x1536 .f32) (L : Cell Ideal S1536x32 .bf16)
  (row : Fin 6 → Fin 8 → Fin 2 → Nat) (c : Fin 6) (s : St Ideal)

theorem chunkSt_x15 : (chunkSt X S L row c s).x15
    = put (s := S256x1536) s.x15 ![0, 256 * c.val] S256x256.size (quantised (chunkXt X S c s)) := by
  unfold chunkSt
  refine (wr_keep (π := fun s : St Ideal => s.x15) (C := cell17) (fun _ _ => rfl) _ _ _ _).trans ?_
  refine (wr15 _ _ _ _).trans (congrArg (fun v => put (s := S256x1536) v ![0, 256 * c.val] S256x256.size (quantised (chunkXt X S c s))) ?_)
  refine (eachSt_keep (π := fun s : St Ideal => s.x15) (fun a s => wr_keep (C := cell18) (fun _ _ => rfl) _ _ _ s) _ _).trans ?_
  exact wr_keep (π := fun s : St Ideal => s.x15) (C := cell20) (fun _ _ => rfl) _ _ _ _

theorem chunkSt_x17 : (chunkSt X S L row c s).x17
    = put (s := S256x768) s.x17 ![0, 128 * c.val] S256x128.size (packed (chunkXt X S c s)) := by
  unfold chunkSt
  refine (wr17 _ _ _ _).trans (congrArg (fun v => put (s := S256x768) v ![0, 128 * c.val] S256x128.size (packed (chunkXt X S c s))) ?_)
  refine (wr_keep (π := fun s : St Ideal => s.x17) (C := cell15) (fun _ _ => rfl) _ _ _ _).trans ?_
  refine (eachSt_keep (π := fun s : St Ideal => s.x17) (fun a s => wr_keep (C := cell18) (fun _ _ => rfl) _ _ _ s) _ _).trans ?_
  exact wr_keep (π := fun s : St Ideal => s.x17) (C := cell20) (fun _ _ => rfl) _ _ _ _

theorem chunkSt_x20 : (chunkSt X S L row c s).x20 = put (s := S32x256) s.x20 ![0, 0] S32x256.size
    (lowStep (rd cell20 ![0, 0] S32x256.size inb_S32x256_S32x256_0_0 s)
      (rd L ![256 * c.val, 0] S256x32.size (inb_down c) s) (chunkXt X S c s)) := by
  unfold chunkSt
  refine (wr_keep (π := fun s : St Ideal => s.x20) (C := cell17) (fun _ _ => rfl) _ _ _ _).trans ?_
  refine (wr_keep (π := fun s : St Ideal => s.x20) (C := cell15) (fun _ _ => rfl) _ _ _ _).trans ?_
  refine (eachSt_keep (π := fun s : St Ideal => s.x20) (fun a s => wr_keep (C := cell18) (fun _ _ => rfl) _ _ _ s) _ _).trans ?_
  exact wr20 _ _ _ _

/-- The rows of scale bytes a chunk stores. -/
def rowsSt (xt : FVec Ideal S256x256 .f32) (row : Fin 8 → Fin 2 → Nat) (s : St Ideal) : St Ideal :=
  eachSt (fun g => wr cell18 (row g) S1x256.size (scaleRow xt g)) [0, 1, 2, 3, 4, 5, 6, 7] s

theorem chunkSt_x18 : ∃ s', s'.x18 = s.x18 ∧ (chunkSt X S L row c s).x18 = (rowsSt (chunkXt X S c s) (row c) s').x18 := by
  refine ⟨wr cell20 ![0, 0] S32x256.size (lowStep (rd cell20 ![0, 0] S32x256.size inb_S32x256_S32x256_0_0 s)
    (rd L ![256 * c.val, 0] S256x32.size (inb_down c) s) (chunkXt X S c s)) s,
    wr_keep (π := fun s : St Ideal => s.x18) (C := cell20) (fun _ _ => rfl) _ _ _ _, ?_⟩
  unfold chunkSt
  refine (wr_keep (π := fun s : St Ideal => s.x18) (C := cell17) (fun _ _ => rfl) _ _ _ _).trans ?_
  exact wr_keep (π := fun s : St Ideal => s.x18) (C := cell15) (fun _ _ => rfl) _ _ _ _

end

theorem rows_step {q o : ℕ} {xt} (hc : IsChunk D q xt) {row : Fin 8 → Fin 2 → Nat} (ho : o = 8 * q) (hrow : ∀ g, row g = ![o + g.val, 0])
    {s : St Ideal} (h : ∀ (r : Fin 512) (t : Fin 256), r.val < o → s.x18 (ix2 r t) = D.sb t.val r.val) :
    ∀ (r : Fin 512) (t : Fin 256), r.val < o + 8 → (rowsSt xt row s).x18 (ix2 r t) = D.sb t.val r.val := by
  unfold rowsSt
  refine each_eight (P := fun k u => ∀ (r : Fin 512) (t : Fin 256), r.val < o + k → u.x18 (ix2 r t) = D.sb t.val r.val)
    (fun g u hu r t hr => ?_) h
  rw [wr18, hrow]
  by_cases hb : o + g.val ≤ r.val
  · refine (put_in (m := 512) (n := 256) (a := 1) (b := 256) _ (o + g.val) 0 _ r t hb (by omega) (by omega) (by omega)).trans ?_
    have e0 : (⟨r.val - (o + g.val), by omega⟩ : Fin 1) = 0 := Fin.ext (by simp; omega)
    rw [e0, show (⟨t.val - 0, by omega⟩ : Fin 256) = t from Fin.ext (by simp)]
    rw [scaleRow_chunk hc]
    exact congrArg _ (by omega)
  · refine (put_out0 (m := 512) (n := 256) (a := 1) (b := 256) _ (o + g.val) 0 _ r t (by omega)).trans ?_
    exact hu r t (by omega)

section
variable {b : ℕ} {X : Cell Ideal S256x1536 .bf16} {S : Cell Ideal S1x1536 .f32} {L : Cell Ideal S1536x32 .bf16}
  {row : Fin 6 → Fin 8 → Fin 2 → Nat} (hrow : ∀ c g, row c g = ![48 * b + 8 * c.val + g.val, 0])
  (c : Fin 6) {h0 : ℕ → ℕ → EReal} {s : St Ideal} (h : Src D b X S L s) (hd : ChunkDone D b c.val h0 s)
include h hd

theorem chunk_step15 (t : Fin 256) (y : Fin 1536) (hy : y.val < 256 * (c.val + 1)) :
    (chunkSt X S L row c s).x15 (ix2 t y) = D.xq t.val (1536 * b + y.val) := by
  rw [chunkSt_x15]
  by_cases hb : 256 * c.val ≤ y.val
  · refine (put_in (m := 256) (n := 1536) (a := 256) (b := 256) _ 0 (256 * c.val) _ t y (by omega) (by omega) hb (by omega)).trans ?_
    rw [show (⟨t.val - 0, by omega⟩ : Fin 256) = t from Fin.ext (by simp)]
    rw [quantised_chunk (chunkXt_isChunk h c)]
    exact congrArg _ (by show 256 * (6 * b + c.val) + (y.val - 256 * c.val) = _; omega)
  · refine (put_out1 (m := 256) (n := 1536) (a := 256) (b := 256) _ 0 (256 * c.val) _ t y (by omega)).trans ?_
    exact hd.x15 t y (by omega)

theorem chunk_step17 (t : Fin 256) (y : Fin 768) (hy : y.val < 128 * (c.val + 1)) :
    (chunkSt X S L row c s).x17 (ix2 t y) = D.byte t.val (768 * b + y.val) := by
  rw [chunkSt_x17]
  by_cases hb : 128 * c.val ≤ y.val
  · refine (put_in (m := 256) (n := 768) (a := 256) (b := 128) _ 0 (128 * c.val) _ t y (by omega) (by omega) hb (by omega)).trans ?_
    rw [show (⟨t.val - 0, by omega⟩ : Fin 256) = t from Fin.ext (by simp)]
    rw [packed_chunk (chunkXt_isChunk h c)]
    exact congrArg _ (by show 128 * (6 * b + c.val) + (y.val - 128 * c.val) = _; omega)
  · refine (put_out1 (m := 256) (n := 768) (a := 256) (b := 128) _ 0 (128 * c.val) _ t y (by omega)).trans ?_
    exact hd.x17 t y (by omega)

theorem chunk_step20 (j : Fin 32) (t : Fin 256) : (chunkSt X S L row c s).x20 (ix2 j t)
    = h0 j.val t.val + ∑ d ∈ Finset.range (256 * (c.val + 1)), D.ld (1536 * b + d) j.val * D.xs t.val (1536 * b + d) := by
  rw [chunkSt_x20]
  refine (put_whole (m := 32) (n := 256) _ _ j t).trans ?_
  rw [lowStep_apply]
  have e1 : rd cell20 ![0, 0] S32x256.size inb_S32x256_S32x256_0_0 s (ix2 j t) = s.x20 (ix2 j t) :=
    (window_ix2 (m := 32) (n := 256) (a := 32) (b := 256) s.x20 0 0 inb_S32x256_S32x256_0_0 j t (by omega) (by omega)).trans
      (congrArg₂ (fun a b => s.x20 (ix2 a b)) (Fin.ext (by simp)) (Fin.ext (by simp)))
  have e2 : ∀ k : Fin 256, rd L ![256 * c.val, 0] S256x32.size (inb_down c) s (ix2 k j) = D.ld (1536 * b + (256 * c.val + k.val)) j.val := fun k =>
    (window_ix2 (m := 1536) (n := 32) (a := 256) (b := 32) (L.get s) (256 * c.val) 0 (inb_down c) k j (by omega) (by omega)).trans
      ((congrArg (fun b => L.get s (ix2 _ b)) (Fin.ext (by simp))).trans (h.ld ⟨256 * c.val + k.val, by omega⟩ j))
  have e3 : ∀ k : Fin 256, chunkXt X S c s (ix2 k t) = D.xs t.val (1536 * b + (256 * c.val + k.val)) := fun k =>
    (chunkXt_isChunk h c k t).trans (congrArg _ (by omega))
  rw [e1, hd.x20]
  simp only [e2, e3]
  rw [show 256 * (c.val + 1) = 256 * c.val + 256 by omega, Finset.sum_range_add, add_assoc,
    ← Fin.sum_univ_eq_sum_range (fun d => D.ld (1536 * b + (256 * c.val + d)) j.val * D.xs t.val (1536 * b + (256 * c.val + d)))]

include hrow in
theorem chunk_step18 (r : Fin 512) (t : Fin 256) (hr : r.val < 48 * b + 8 * (c.val + 1)) :
    (chunkSt X S L row c s).x18 (ix2 r t) = D.sb t.val r.val := by
  obtain ⟨s', hs', e⟩ := chunkSt_x18 X S L row c s
  rw [e]
  exact rows_step (chunkXt_isChunk h c) (o := 48 * b + 8 * c.val) (by omega) (fun g => hrow c g)
    (fun r t hr => by rw [hs']; exact hd.x18 r t hr) r t (by omega)

include hrow in
theorem chunk_step : ChunkDone D b (c.val + 1) h0 (chunkSt X S L row c s) :=
  ⟨chunk_step15 c h hd, chunk_step17 c h hd, chunk_step18 hrow c h hd, chunk_step20 c h hd⟩

end

/-! ## A tile -/

variable (D)

/-- What the buffers of a tile hold at block `b`. -/
structure TileSrc (b : ℕ) (s : St Ideal) : Prop where
  x5 : ∀ (r : Fin 768) (n : Fin 3840), s.x5 (ix2 r n) = D.wp (768 * b + r.val) n.val
  x16 : ∀ (t : Fin 256) (d : Fin 1536), s.x16 (ix2 t d) = D.xq t.val (1536 * b + d.val)
  x19 : ∀ (g : Fin 48) (n : Fin 3840), s.x19 (ix2 g n) = kPair ((D.ws (48 * b + g.val) n.val).setWidth 32)

/-- What the accumulator holds after the first `n` tiles of block `b`. -/
def TileDone (b n : ℕ) (s : St Ideal) : Prop :=
  ∀ (t : Fin 256) (y : Fin 3840), s.x14 (ix2 t y) = if y.val < 256 * n then D.acc (1536 * (b + 1)) t.val y.val else D.acc (1536 * b) t.val y.val

variable {D}

theorem tile_step {b : ℕ} (n : Fin 15) {s : St Ideal} (h : TileSrc D b s) (hd : TileDone D b n.val s) :
    TileDone D b (n.val + 1) (tileSt n s) := by
  intro t y
  have hn := n.isLt
  show put (s := S256x3840) s.x14 ![0, 256 * n.val] S256x256.size _ (ix2 t y) = _
  by_cases hb : 256 * n.val ≤ y.val ∧ y.val < 256 * n.val + 256
  · rw [if_pos (by omega)]
    refine (put_in (m := 256) (n := 3840) (a := 256) (b := 256) _ 0 (256 * n.val) _ t y (by omega) (by omega) hb.1 (by omega)).trans ?_
    rw [show (⟨t.val - 0, by omega⟩ : Fin 256) = t from Fin.ext (by simp)]
    generalize hj : (⟨y.val - 256 * n.val, by omega⟩ : Fin 256) = j
    have hj' : 256 * n.val + j.val = y.val := by rw [← hj]; show 256 * n.val + (y.val - 256 * n.val) = _; omega
    rw [tileStep_apply]
    have e1 : rd cell14 ![0, 256 * n.val] S256x256.size (inb_tile n) s (ix2 t j) = D.acc (1536 * b) t.val y.val :=
      (window_ix2 (m := 256) (n := 3840) (a := 256) (b := 256) s.x14 0 (256 * n.val) (inb_tile n) t j (by omega) (by omega)).trans
        ((congrArg₂ (fun a b => s.x14 (ix2 a b)) (Fin.ext (by simp)) (Fin.ext hj')).trans ((hd t y).trans (if_neg (by omega))))
    have e2 : ∀ k : Fin 1536, rd cell16 ![0, 0] S256x1536.size inb_S256x1536_S256x1536_0_0 s (ix2 t k) = D.xq t.val (1536 * b + k.val) := fun k =>
      (window_ix2 (m := 256) (n := 1536) (a := 256) (b := 1536) s.x16 0 0 inb_S256x1536_S256x1536_0_0 t k (by omega) (by omega)).trans
        ((congrArg₂ (fun a b => s.x16 (ix2 a b)) (Fin.ext (by simp)) (Fin.ext (by simp))).trans (h.x16 t k))
    have e3 : ∀ r : Fin 768, rd cell5 ![0, 256 * n.val] S768x256.size (inb_wtile n) s (ix2 r j) = D.wp (768 * b + r.val) y.val := fun r =>
      (window_ix2 (m := 768) (n := 3840) (a := 768) (b := 256) s.x5 0 (256 * n.val) (inb_wtile n) r j (by omega) (by omega)).trans
        ((congrArg₂ (fun a b => s.x5 (ix2 a b)) (Fin.ext (by simp)) (Fin.ext hj')).trans (h.x5 r y))
    have e4 : ∀ g : Fin 48, rd cell19 ![g.val, 256 * n.val] S1x256.size (inb_srow n g) s (ix2 0 j) = kPair ((D.ws (48 * b + g.val) y.val).setWidth 32) := fun g =>
      (window_ix2 (m := 48) (n := 3840) (a := 1) (b := 256) s.x19 g.val (256 * n.val) (inb_srow n g) 0 j (by simp) (by omega)).trans
        ((congrArg₂ (fun a b => s.x19 (ix2 a b)) (Fin.ext (by simp)) (Fin.ext hj')).trans (h.x19 g y))
    rw [e1, Nat.mul_add, Nat.mul_one, D.acc_add]
    refine congrArg _ (Finset.sum_congr rfl fun k _ => ?_)
    rw [e2, decodeW_apply, codesW_apply, e3, stack48_apply, factorW_apply, nth_rowList, e4]
    unfold Data.wq
    have h1 : 768 * b + k.val / 2 = (1536 * b + k.val) / 2 := by omega
    have h2 : 48 * b + k.val / 32 = (1536 * b + k.val) / 32 := by omega
    have h3 : k.val % 32 % 2 = (1536 * b + k.val) % 2 := by omega
    have h4 : ∀ v, kNibble v k.val = kNibble v (1536 * b + k.val) := fun v => kNibble_congr v (by omega)
    dsimp only
    rw [h1, h2, h3, h4]
  · refine (put_out1 (m := 256) (n := 3840) (a := 256) (b := 256) _ 0 (256 * n.val) _ t y (by omega)).trans ((hd t y).trans ?_)
    by_cases hy : y.val < 256 * n.val
    · rw [if_pos hy, if_pos (by omega)]
    · rw [if_neg hy, if_neg (by omega)]

end Cert.KernelIdeal.Stage
-- ==== Proof.KI.Whole.lean ====
module

public import proofs.«01_k».proof.Proof.KI.Step

@[expose] public section

/-!
A whole grid point, in numbers.

From what the buffers hold before a point to what they hold after it.
-/

noncomputable section

namespace Cert.KernelIdeal.Stage

open Idealize.ShloMosaic Idealize.ShloMosaic.Pointwise
open VecWindow
open Facts₀ Facts

variable [Facts]

/-- The rows of the next block's scale bytes. -/
theorem rowNext_eq (i : grid0.Coords) (hi : (i 0).val < 10) (c : Fin 6) (g : Fin 8) :
    rowNext i c g = ![48 * min ((i 0).val + 1) 9 + 8 * c.val + g.val, 0] := by
  unfold rowNext k0_off1
  have key : ∀ (n : Fin 10) (c : Fin 6) (g : Fin 8), (Scalar.indexCast (Scalar.addi (Scalar.addi (Scalar.muli
      (Scalar.minsi (Scalar.addi (BitVec.ofNat 32 n.val) (1#32)) (9#32)) (48#32)) (BitVec.ofNat 32 (8 * c.val))) (BitVec.ofNat 32 g.val))).toNat
      = 48 * min (n.val + 1) 9 + 8 * c.val + g.val := by decide +kernel
  have e := key ⟨(i 0).val, hi⟩ c g
  dsimp only at e ⊢
  rw [e]

theorem lowKeep_next (i : grid0.Coords) (hi : (i 0).val < 9) (h h' : Vec Ideal S32x256 .f32) : lowKeep i h h' = h' := by
  have key : ∀ n : Fin 9, Scalar.extui (Scalar.cmpi .slt (Scalar.addi (BitVec.ofNat 32 n.val) (1#32)) (10#32)) = (1#32 : BitVec 32) := by decide +kernel
  funext y
  obtain ⟨j, t, rfl⟩ : ∃ (j : Fin 32) (t : Fin 256), y = ix2 j t := ⟨y 0, y 1, eq_ix2 y⟩
  unfold lowKeep
  have e := key ⟨(i 0).val, hi⟩
  dsimp only at e
  rw [e]
  pointwise
  rw [if_pos (by norm_num)]

theorem lowKeep_last (i : grid0.Coords) (hi : (i 0).val = 9) (h h' : Vec Ideal S32x256 .f32) : lowKeep i h h' = h := by
  have key : Scalar.extui (Scalar.cmpi .slt (Scalar.addi (BitVec.ofNat 32 9) (1#32)) (10#32)) = (0#32 : BitVec 32) := by decide +kernel
  funext y
  obtain ⟨j, t, rfl⟩ : ∃ (j : Fin 32) (t : Fin 256), y = ix2 j t := ⟨y 0, y 1, eq_ix2 y⟩
  unfold lowKeep
  rw [hi, key]
  pointwise
  rw [if_neg (by norm_num)]

variable (D : Data)

/-- What the scratch holds after point `n`. -/
structure Good (n : ℕ) (x14 : Vec Ideal S256x3840 .f32) (x15 : Vec Ideal S256x1536 .bf16) (x17 : Vec Ideal S256x768 .i8)
    (x18 : Vec Ideal S512x256 .i32) (x20 : Vec Ideal S32x256 .f32) : Prop where
  h14 : ∀ (t : Fin 256) (y : Fin 3840), x14 (ix2 t y) = D.acc (1536 * (n + 1)) t.val y.val
  h15 : ∀ (t : Fin 256) (y : Fin 1536), x15 (ix2 t y) = D.xq t.val (1536 * min (n + 1) 9 + y.val)
  h17 : ∀ (t : Fin 256) (y : Fin 768), x17 (ix2 t y) = D.byte t.val (768 * min (n + 1) 9 + y.val)
  h18 : ∀ (r : Fin 512) (t : Fin 256), r.val < 48 * (min (n + 1) 9 + 1) → x18 (ix2 r t) = D.sb t.val r.val
  h20 : ∀ (j : Fin 32) (t : Fin 256), x20 (ix2 j t) = D.low (1536 * (min (n + 1) 9 + 1)) j.val t.val

/-- What the scratch holds once block `n` is at hand. -/
structure Ready (n : ℕ) (s : St Ideal) : Prop where
  h14 : ∀ (t : Fin 256) (y : Fin 3840), s.x14 (ix2 t y) = D.acc (1536 * n) t.val y.val
  h15 : ∀ (t : Fin 256) (y : Fin 1536), s.x15 (ix2 t y) = D.xq t.val (1536 * n + y.val)
  h17 : ∀ (t : Fin 256) (y : Fin 768), s.x17 (ix2 t y) = D.byte t.val (768 * n + y.val)
  h18 : ∀ (r : Fin 512) (t : Fin 256), r.val < 48 * (n + 1) → s.x18 (ix2 r t) = D.sb t.val r.val
  h20 : ∀ (j : Fin 32) (t : Fin 256), s.x20 (ix2 j t) = D.low (1536 * (n + 1)) j.val t.val

variable {D}

/-- Block sums of the low-rank product. -/
theorem low_block (n j t : ℕ) :
    D.low (1536 * n) j t + ∑ d ∈ Finset.range (256 * 6), D.ld (1536 * n + d) j * D.xs t (1536 * n + d) = D.low (1536 * (n + 1)) j t := by
  rw [show 1536 * (n + 1) = 1536 * n + 256 * 6 by omega]
  unfold Data.low
  rw [Finset.sum_range_add]

theorem src_chunk {b : ℕ} {X S L} {s s' : St Ideal} (eX : X.get s' = X.get s) (eS : S.get s' = S.get s) (eL : L.get s' = L.get s)
    (h : Src D b X S L s) : Src D b X S L s' :=
  ⟨fun t d => by rw [eX, eS]; exact h.xs t d, fun d j => by rw [eL]; exact h.ld d j⟩

theorem x14_chunk (X S L row c) (s : St Ideal) : (chunkSt X S L row c s).x14 = s.x14 :=
  chunkSt_keep (π := fun s : St Ideal => s.x14) (fun _ _ => rfl) (fun _ _ => rfl) (fun _ _ => rfl) (fun _ _ => rfl) X S L row c s

section
variable {X : Cell Ideal S256x1536 .bf16} {S : Cell Ideal S1x1536 .f32} {L : Cell Ideal S1536x32 .bf16}

/-- The cells of a block do not see what a chunk writes. -/
structure Apart (X : Cell Ideal S256x1536 .bf16) (S : Cell Ideal S1x1536 .f32) (L : Cell Ideal S1536x32 .bf16) : Prop where
  x14 : Blind X.get cell14 ∧ Blind S.get cell14 ∧ Blind L.get cell14
  x15 : Blind X.get cell15 ∧ Blind S.get cell15 ∧ Blind L.get cell15
  x17 : Blind X.get cell17 ∧ Blind S.get cell17 ∧ Blind L.get cell17
  x18 : Blind X.get cell18 ∧ Blind S.get cell18 ∧ Blind L.get cell18
  x20 : Blind X.get cell20 ∧ Blind S.get cell20 ∧ Blind L.get cell20

theorem src_chunkSt (h : Apart X S L) {b : ℕ} (row c) {s : St Ideal} (hs : Src D b X S L s) : Src D b X S L (chunkSt X S L row c s) :=
  src_chunk (chunkSt_keep h.x15.1 h.x17.1 h.x18.1 h.x20.1 X S L row c s) (chunkSt_keep h.x15.2.1 h.x17.2.1 h.x18.2.1 h.x20.2.1 X S L row c s)
    (chunkSt_keep h.x15.2.2 h.x17.2.2 h.x18.2.2 h.x20.2.2 X S L row c s) hs

theorem src_wr14 (h : Apart X S L) {b : ℕ} (off size w) {s : St Ideal} (hs : Src D b X S L s) : Src D b X S L (wr cell14 off size w s) :=
  src_chunk (wr_keep h.x14.1 _ _ _ s) (wr_keep h.x14.2.1 _ _ _ s) (wr_keep h.x14.2.2 _ _ _ s) hs

theorem src_wr20 (h : Apart X S L) {b : ℕ} (off size w) {s : St Ideal} (hs : Src D b X S L s) : Src D b X S L (wr cell20 off size w s) :=
  src_chunk (wr_keep h.x20.1 _ _ _ s) (wr_keep h.x20.2.1 _ _ _ s) (wr_keep h.x20.2.2 _ _ _ s) hs

end

theorem apart_first : Apart cell2 cell4 cell8 :=
  ⟨⟨fun _ _ => rfl, fun _ _ => rfl, fun _ _ => rfl⟩, ⟨fun _ _ => rfl, fun _ _ => rfl, fun _ _ => rfl⟩, ⟨fun _ _ => rfl, fun _ _ => rfl, fun _ _ => rfl⟩,
    ⟨fun _ _ => rfl, fun _ _ => rfl, fun _ _ => rfl⟩, ⟨fun _ _ => rfl, fun _ _ => rfl, fun _ _ => rfl⟩⟩

theorem apart_next : Apart cell1 cell3 cell7 :=
  ⟨⟨fun _ _ => rfl, fun _ _ => rfl, fun _ _ => rfl⟩, ⟨fun _ _ => rfl, fun _ _ => rfl, fun _ _ => rfl⟩, ⟨fun _ _ => rfl, fun _ _ => rfl, fun _ _ => rfl⟩,
    ⟨fun _ _ => rfl, fun _ _ => rfl, fun _ _ => rfl⟩, ⟨fun _ _ => rfl, fun _ _ => rfl, fun _ _ => rfl⟩⟩

/-- The first point's cleared accumulators. -/
theorem cleared14 (s : St Ideal) (w) (t : Fin 256) (y : Fin 3840) :
    (wr cell20 ![0, 0] S32x256.size w (wr cell14 ![0, 0] S256x3840.size (shapeCast S256x3840 (broadcast S256x3840
      (Scalar.ofBits (F := Ideal) .f32 0x00000000#32)) shapeCasts_S256x3840_S256x3840) s)).x14 (ix2 t y) = 0 := by
  refine (congrFun (wr_keep (π := fun s : St Ideal => s.x14) (C := cell20) (fun _ _ => rfl) _ _ _ _) _).trans ?_
  rw [wr14]
  refine (put_whole (m := 256) (n := 3840) _ _ t y).trans ?_
  pointwise

theorem cleared20 (s : St Ideal) (t : Fin 32) (y : Fin 256) :
    (wr cell20 ![0, 0] S32x256.size (shapeCast S32x256 (broadcast S32x256 (Scalar.ofBits (F := Ideal) .f32 0x00000000#32)) shapeCasts_S32x256_S32x256) s).x20 (ix2 t y) = 0 := by
  rw [wr20]
  refine (put_whole (m := 32) (n := 256) _ _ t y).trans ?_
  pointwise

theorem rowFirst_eq (c : Fin 6) (g : Fin 8) : rowFirst c g = ![48 * 0 + 8 * c.val + g.val, 0] := by
  unfold rowFirst
  rw [Nat.mul_zero, Nat.zero_add]

/-- The first point's beginning. -/
theorem start_ready {s : St Ideal} (h : Src D 0 cell2 cell4 cell8 s) : Ready D 0 (startSt s) := by
  have key : Src D 0 cell2 cell4 cell8 (startSt s) ∧ (∀ (t : Fin 256) (y : Fin 3840), (startSt s).x14 (ix2 t y) = 0)
      ∧ ChunkDone D 0 6 (fun _ _ => 0) (startSt s) := by
    unfold startSt
    refine each_six (P := fun n s => Src D 0 cell2 cell4 cell8 s ∧ (∀ (t : Fin 256) (y : Fin 3840), s.x14 (ix2 t y) = 0)
      ∧ ChunkDone D 0 n (fun _ _ => 0) s) (fun c s hs => ⟨?_, ?_, ?_⟩) ⟨?_, ?_, ?_⟩
    · exact src_chunkSt apart_first _ _ hs.1
    · intro t y
      rw [x14_chunk]
      exact hs.2.1 t y
    · exact chunk_step rowFirst_eq c hs.1 hs.2.2
    · exact src_wr20 apart_first _ _ _ (src_wr14 apart_first _ _ _ h)
    · exact cleared14 s _
    · refine ⟨fun t y hy => absurd hy (by omega), fun t y hy => absurd hy (by omega), fun r t hr => absurd hr (by omega), fun j t => ?_⟩
      refine (cleared20 _ j t).trans ?_
      simp
  obtain ⟨h1, h2, h3⟩ := key
  refine ⟨fun t y => (h2 t y).trans (by simp [Data.acc]), fun t y => h3.x15 t y (by omega), fun t y => h3.x17 t y (by omega),
    fun r t hr => h3.x18 r t (by omega), fun j t => ?_⟩
  rw [h3.x20, ← low_block 0]
  simp [Data.low]

/-! ## The main part -/

variable (D)

/-- What a point reads of its inputs, and of the block at hand. -/
structure Reads (n : ℕ) (s : St Ideal) : Prop where
  next : Src D (min (n + 1) 9) cell1 cell3 cell7 s
  x5 : ∀ (r : Fin 768) (y : Fin 3840), s.x5 (ix2 r y) = D.wp (768 * n + r.val) y.val
  x6 : ∀ (g : Fin 48) (y : Fin 3840), s.x6 (ix3 0 g y) = D.ws (48 * n + g.val) y.val
  x9 : ∀ (j : Fin 32) (y : Fin 3840), s.x9 (ix2 j y) = D.lu j.val y.val
  x10 : ∀ y : Fin 3840, s.x10 (ix2 0 y) = D.bi y.val

variable {D}

theorem wr16 (off size w) (s : St Ideal) : (wr cell16 off size w s).x16 = put (s := S256x1536) s.x16 off size w := rfl
theorem wr12 (off size w) (s : St Ideal) : (wr cell12 off size w s).x12 = put (s := S256x768) s.x12 off size w := rfl
theorem wr19 (off size w) (s : St Ideal) : (wr cell19 off size w s).x19 = put (s := S48x3840) s.x19 off size w := rfl
theorem wr11 (off size w) (s : St Ideal) : (wr cell11 off size w s).x11 = put (s := S256x3840) s.x11 off size w := rfl
theorem wr13 (off size w) (s : St Ideal) : (wr cell13 off size w s).x13 = put (s := S256x480) s.x13 off size w := rfl

theorem window_whole {α : Type} {m n : ℕ} (x : (⟨2, ![m, n]⟩ : Shape).Idx → α)
    (inb : ∀ c, (![0, 0] : Fin 2 → ℕ) c + (![m, n] : Fin 2 → ℕ) c ≤ (⟨2, ![m, n]⟩ : Shape).size c) (i : Fin m) (j : Fin n) :
    window (s := ⟨2, ![m, n]⟩) x ![0, 0] ![m, n] inb (ix2 i j) = x (ix2 i j) :=
  (window_ix2 x 0 0 inb i j (by omega) (by omega)).trans (congrArg₂ (fun a b => x (ix2 a b)) (Fin.ext (by simp)) (Fin.ext (by simp)))

theorem takeOver_x16 (s : St Ideal) (t : Fin 256) (y : Fin 1536) : (takeOverSt s).x16 (ix2 t y) = s.x15 (ix2 t y) := by
  unfold takeOverSt
  refine (congrFun (wr_keep (π := fun s : St Ideal => s.x16) (C := cell19) (fun _ _ => rfl) _ _ _ _) _).trans ?_
  refine (congrFun (wr_keep (π := fun s : St Ideal => s.x16) (C := cell12) (fun _ _ => rfl) _ _ _ _) _).trans ?_
  rw [wr16]
  refine (put_whole (m := 256) (n := 1536) _ _ t y).trans ?_
  pointwise
  exact window_whole s.x15 inb_S256x1536_S256x1536_0_0 t y

theorem takeOver_x12 (s : St Ideal) (t : Fin 256) (y : Fin 768) : (takeOverSt s).x12 (ix2 t y) = s.x17 (ix2 t y) := by
  unfold takeOverSt
  refine (congrFun (wr_keep (π := fun s : St Ideal => s.x12) (C := cell19) (fun _ _ => rfl) _ _ _ _) _).trans ?_
  rw [wr12]
  refine (put_whole (m := 256) (n := 768) _ _ t y).trans ?_
  exact window_whole s.x17 inb_S256x768_S256x768_0_0 t y

theorem takeOver_x19 (s : St Ideal) (g : Fin 48) (y : Fin 3840) :
    (takeOverSt s).x19 (ix2 g y) = kPair (BitVec.setWidth 32 (s.x6 (ix3 0 g y))) := by
  unfold takeOverSt
  rw [wr19]
  refine (put_whole (m := 48) (n := 3840) _ _ g y).trans ?_
  rw [scaleWords_apply]
  refine congrArg (fun v : BitVec 8 => kPair (BitVec.setWidth 32 v)) ?_
  refine congrArg s.x6 (funext fun c => Fin.ext ?_)
  match c with
  | ⟨0, _⟩ => rfl
  | ⟨1, _⟩ => show 0 + 1 * g.val = g.val; omega
  | ⟨2, _⟩ => show 0 + 1 * y.val = y.val; omega

theorem src_takeOver {b : ℕ} {s : St Ideal} (h : Src D b cell1 cell3 cell7 s) : Src D b cell1 cell3 cell7 (takeOverSt s) :=
  src_chunk (takeOverSt_keep (π := cell1.get) (fun _ _ => rfl) (fun _ _ => rfl) (fun _ _ => rfl) s)
    (takeOverSt_keep (π := cell3.get) (fun _ _ => rfl) (fun _ _ => rfl) (fun _ _ => rfl) s)
    (takeOverSt_keep (π := cell7.get) (fun _ _ => rfl) (fun _ _ => rfl) (fun _ _ => rfl) s) h

theorem src_tile {b : ℕ} (n) {s : St Ideal} (h : Src D b cell1 cell3 cell7 s) : Src D b cell1 cell3 cell7 (tileSt n s) :=
  src_wr14 apart_next _ _ _ h

/-- The buffers the tiles read do not see what is blind to their writes. -/
theorem tileSrc_keep {b : ℕ} {s s' : St Ideal} (e5 : s'.x5 = s.x5) (e16 : s'.x16 = s.x16) (e19 : s'.x19 = s.x19)
    (h : TileSrc D b s) : TileSrc D b s' :=
  ⟨fun r n => by rw [e5]; exact h.x5 r n, fun t d => by rw [e16]; exact h.x16 t d, fun g n => by rw [e19]; exact h.x19 g n⟩

theorem tileSrc_tile {b : ℕ} (n) {s : St Ideal} (h : TileSrc D b s) : TileSrc D b (tileSt n s) :=
  tileSrc_keep (tileSt_keep (π := fun s : St Ideal => s.x5) (fun _ _ => rfl) n s) (tileSt_keep (π := fun s : St Ideal => s.x16) (fun _ _ => rfl) n s)
    (tileSt_keep (π := fun s : St Ideal => s.x19) (fun _ _ => rfl) n s) h

theorem tileSrc_chunk {b : ℕ} (X S L row c) {s : St Ideal} (h : TileSrc D b s) : TileSrc D b (chunkSt X S L row c s) :=
  tileSrc_keep
    (chunkSt_keep (π := fun s : St Ideal => s.x5) (fun _ _ => rfl) (fun _ _ => rfl) (fun _ _ => rfl) (fun _ _ => rfl) X S L row c s)
    (chunkSt_keep (π := fun s : St Ideal => s.x16) (fun _ _ => rfl) (fun _ _ => rfl) (fun _ _ => rfl) (fun _ _ => rfl) X S L row c s)
    (chunkSt_keep (π := fun s : St Ideal => s.x19) (fun _ _ => rfl) (fun _ _ => rfl) (fun _ _ => rfl) (fun _ _ => rfl) X S L row c s) h

theorem tileDone_chunk {b n : ℕ} (X S L row c) {s : St Ideal} (h : TileDone D b n s) : TileDone D b n (chunkSt X S L row c s) := fun t y => by
  rw [x14_chunk]
  exact h t y

theorem chunkDone_keep {b n : ℕ} {h0} {s s' : St Ideal} (e15 : s'.x15 = s.x15) (e17 : s'.x17 = s.x17) (e18 : s'.x18 = s.x18) (e20 : s'.x20 = s.x20)
    (h : ChunkDone D b n h0 s) : ChunkDone D b n h0 s' :=
  ⟨fun t y hy => by rw [e15]; exact h.x15 t y hy, fun t y hy => by rw [e17]; exact h.x17 t y hy,
    fun r t hr => by rw [e18]; exact h.x18 r t hr, fun j t => by rw [e20]; exact h.x20 j t⟩

theorem chunkDone_tile {b n : ℕ} {h0} (k) {s : St Ideal} (h : ChunkDone D b n h0 s) : ChunkDone D b n h0 (tileSt k s) :=
  chunkDone_keep (tileSt_keep (π := fun s : St Ideal => s.x15) (fun _ _ => rfl) k s) (tileSt_keep (π := fun s : St Ideal => s.x17) (fun _ _ => rfl) k s)
    (tileSt_keep (π := fun s : St Ideal => s.x18) (fun _ _ => rfl) k s) (tileSt_keep (π := fun s : St Ideal => s.x20) (fun _ _ => rfl) k s) h

/-- What the tiles and the chunks between them leave. -/
theorem tiles_done (i : grid0.Coords) (n : ℕ) (hn : (i 0).val = n) (hi : n < 10) {h0} {s : St Ideal} (h1 : Src D (min (n + 1) 9) cell1 cell3 cell7 s)
    (h2 : TileSrc D n s) (h3 : TileDone D n 0 s) (h4 : ChunkDone D (min (n + 1) 9) 0 h0 s) :
    TileDone D n 15 (tilesSt i s) ∧ ChunkDone D (min (n + 1) 9) 6 h0 (tilesSt i s) := by
  have hA : Src D (min (n + 1) 9) cell1 cell3 cell7 (eachSt (tileChunkSt i) [0, 1, 2, 3, 4, 5] s)
      ∧ TileSrc D n (eachSt (tileChunkSt i) [0, 1, 2, 3, 4, 5] s)
      ∧ TileDone D n 6 (eachSt (tileChunkSt i) [0, 1, 2, 3, 4, 5] s)
      ∧ ChunkDone D (min (n + 1) 9) 6 h0 (eachSt (tileChunkSt i) [0, 1, 2, 3, 4, 5] s) := by
    refine each_six (P := fun k s => Src D (min (n + 1) 9) cell1 cell3 cell7 s ∧ TileSrc D n s
      ∧ TileDone D n k s ∧ ChunkDone D (min (n + 1) 9) k h0 s) (fun c s hs => ?_) ⟨h1, h2, h3, h4⟩
    obtain ⟨k1, k2, k3, k4⟩ := hs
    unfold tileChunkSt
    exact ⟨src_chunkSt apart_next _ _ (src_tile _ k1), tileSrc_chunk _ _ _ _ _ (tileSrc_tile _ k2),
      tileDone_chunk _ _ _ _ _ (tile_step _ k2 k3), chunk_step (fun c g => by rw [rowNext_eq i (by omega), hn]) c (src_tile _ k1) (chunkDone_tile _ k4)⟩
  obtain ⟨k1, k2, k3, k4⟩ := hA
  have hB : TileSrc D n (tilesSt i s) ∧ TileDone D n 15 (tilesSt i s) ∧ ChunkDone D (min (n + 1) 9) 6 h0 (tilesSt i s) := by
    unfold tilesSt
    refine each_nine (P := fun k s => TileSrc D n s ∧ TileDone D n k s ∧ ChunkDone D (min (n + 1) 9) 6 h0 s)
      (fun c s hs => ?_) ⟨k2, k3, k4⟩
    exact ⟨tileSrc_tile _ hs.1, tile_step _ hs.1 hs.2.1, chunkDone_tile _ hs.2.2⟩
  exact hB.2

theorem mid_x20 (i : grid0.Coords) (s : St Ideal) : (midSt i s).x20 = put (s := S32x256) (tilesSt i (takeOverSt s)).x20 ![0, 0] S32x256.size
    (lowKeep i (rd cell20 ![0, 0] S32x256.size inb_S32x256_S32x256_0_0 (takeOverSt s))
      (rd cell20 ![0, 0] S32x256.size inb_S32x256_S32x256_0_0 (tilesSt i (takeOverSt s)))) := by
  unfold midSt keepSt
  exact wr20 _ _ _ _

theorem rd20_whole (s : St Ideal) (j : Fin 32) (t : Fin 256) :
    rd cell20 ![0, 0] S32x256.size inb_S32x256_S32x256_0_0 s (ix2 j t) = s.x20 (ix2 j t) :=
  window_whole s.x20 inb_S32x256_S32x256_0_0 j t

theorem mid_x20_next (i : grid0.Coords) (hi : (i 0).val < 9) (s : St Ideal) (j : Fin 32) (t : Fin 256) :
    (midSt i s).x20 (ix2 j t) = (tilesSt i (takeOverSt s)).x20 (ix2 j t) := by
  rw [mid_x20, lowKeep_next i hi]
  exact (put_whole (m := 32) (n := 256) _ _ j t).trans (rd20_whole (tilesSt i (takeOverSt s)) j t)

theorem mid_x20_last (i : grid0.Coords) (hi : (i 0).val = 9) (s : St Ideal) (j : Fin 32) (t : Fin 256) :
    (midSt i s).x20 (ix2 j t) = (takeOverSt s).x20 (ix2 j t) := by
  rw [mid_x20, lowKeep_last i hi]
  exact (put_whole (m := 32) (n := 256) _ _ j t).trans (rd20_whole (takeOverSt s) j t)

theorem mid_keep {β : Type} {π : St Ideal → β} (h : Blind π cell20) (i : grid0.Coords) (s : St Ideal) :
    π (midSt i s) = π (tilesSt i (takeOverSt s)) := by
  unfold midSt keepSt
  exact wr_keep h _ _ _ _

/-- The main part of a point but the last point's end. -/
theorem mid_good (i : grid0.Coords) (n : ℕ) (hn : (i 0).val = n) (hi : n < 10) {s : St Ideal} (hr : Reads D n s) (h : Ready D n s) :
    Good D n (midSt i s).x14 (midSt i s).x15 (midSt i s).x17 (midSt i s).x18 (midSt i s).x20
      ∧ ∀ (t : Fin 256) (y : Fin 768), (midSt i s).x12 (ix2 t y) = D.byte t.val (768 * n + y.val) := by
  have e14 : (takeOverSt s).x14 = s.x14 := takeOverSt_keep (π := fun s : St Ideal => s.x14) (fun _ _ => rfl) (fun _ _ => rfl) (fun _ _ => rfl) s
  have e18 : (takeOverSt s).x18 = s.x18 := takeOverSt_keep (π := fun s : St Ideal => s.x18) (fun _ _ => rfl) (fun _ _ => rfl) (fun _ _ => rfl) s
  have e20 : (takeOverSt s).x20 = s.x20 := takeOverSt_keep (π := fun s : St Ideal => s.x20) (fun _ _ => rfl) (fun _ _ => rfl) (fun _ _ => rfl) s
  have e5 : (takeOverSt s).x5 = s.x5 := takeOverSt_keep (π := fun s : St Ideal => s.x5) (fun _ _ => rfl) (fun _ _ => rfl) (fun _ _ => rfl) s
  have k16 : TileSrc D n (takeOverSt s) := ⟨fun r y => by rw [e5]; exact hr.x5 r y, fun t y => by rw [takeOver_x16]; exact h.h15 t y,
      fun g y => by rw [takeOver_x19, hr.x6]⟩
  have kt : TileDone D n 0 (takeOverSt s) := fun t y => by rw [e14, if_neg (by omega)]; exact h.h14 t y
  have kc : ChunkDone D (min (n + 1) 9) 0 (fun j t => D.low (1536 * (n + 1)) j t) (takeOverSt s) := by
    refine ⟨fun t y hy => absurd hy (by omega), fun t y hy => absurd hy (by omega), fun r t hr' => ?_, fun j t => ?_⟩
    · rw [e18]; exact h.h18 r t (by omega)
    · rw [e20, h.h20, Nat.mul_zero, Finset.sum_range_zero, add_zero]
  obtain ⟨h1, h2⟩ := tiles_done i n hn hi (src_takeOver hr.next) k16 kt kc
  have k14 : (midSt i s).x14 = (tilesSt i (takeOverSt s)).x14 := mid_keep (π := fun s : St Ideal => s.x14) (fun _ _ => rfl) i s
  have k15 : (midSt i s).x15 = (tilesSt i (takeOverSt s)).x15 := mid_keep (π := fun s : St Ideal => s.x15) (fun _ _ => rfl) i s
  have k17 : (midSt i s).x17 = (tilesSt i (takeOverSt s)).x17 := mid_keep (π := fun s : St Ideal => s.x17) (fun _ _ => rfl) i s
  have k18 : (midSt i s).x18 = (tilesSt i (takeOverSt s)).x18 := mid_keep (π := fun s : St Ideal => s.x18) (fun _ _ => rfl) i s
  have k12 : (midSt i s).x12 = (tilesSt i (takeOverSt s)).x12 := mid_keep (π := fun s : St Ideal => s.x12) (fun _ _ => rfl) i s
  have k12' : (tilesSt i (takeOverSt s)).x12 = (takeOverSt s).x12 :=
    tilesSt_keep (π := fun s : St Ideal => s.x12) (fun _ _ => rfl) (fun _ _ => rfl) (fun _ _ => rfl) (fun _ _ => rfl) (fun _ _ => rfl) i _
  refine ⟨⟨fun t y => ?_, fun t y => ?_, fun t y => ?_, fun r t hr' => ?_, fun j t => ?_⟩, fun t y => ?_⟩
  · rw [k14, h1 t y, if_pos (by omega)]
  · rw [k15, h2.x15 t y (by omega)]
  · rw [k17, h2.x17 t y (by omega)]
  · rw [k18, h2.x18 r t (by omega)]
  · by_cases hl : n < 9
    · have em : min (n + 1) 9 = n + 1 := by omega
      rw [em] at h2 ⊢
      rw [mid_x20_next i (by omega) s j t, h2.x20]
      beta_reduce
      rw [low_block]
    · have em : min (n + 1) 9 = n := by omega
      rw [em, mid_x20_last i (by omega) s j t, e20, h.h20]
  · rw [k12, k12', takeOver_x12, h.h17]

/-- The last point's end. -/
theorem finish_good {s : St Ideal} (h9 : ∀ (j : Fin 32) (y : Fin 3840), s.x9 (ix2 j y) = D.lu j.val y.val)
    (h10 : ∀ y : Fin 3840, s.x10 (ix2 0 y) = D.bi y.val)
    (h : Good D 9 s.x14 s.x15 s.x17 s.x18 s.x20) :
    (∀ (t : Fin 256) (y : Fin 3840), (finishSt s).x11 (ix2 t y)
        = D.acc 15360 t.val y.val + ∑ j : Fin 32, D.low 15360 j.val t.val * D.lu j.val y.val + D.bi y.val)
      ∧ ∀ (t : Fin 256) (g : Fin 480), (finishSt s).x13 (ix2 t g) = BitVec.setWidth 8 (D.sb t.val g.val) := by
  refine ⟨fun t y => ?_, fun t g => ?_⟩
  · unfold finishSt
    refine (congrFun (wr_keep (π := fun s : St Ideal => s.x11) (C := cell13) (fun _ _ => rfl) _ _ _ _) _).trans ?_
    rw [wr11]
    refine (put_whole (m := 256) (n := 3840) _ _ t y).trans ?_
    rw [result_apply]
    have e1 : rd cell14 ![0, 0] S256x3840.size inb_S256x3840_S256x3840_0_0 s (ix2 t y) = D.acc 15360 t.val y.val :=
      (window_whole s.x14 inb_S256x3840_S256x3840_0_0 t y).trans (h.h14 t y)
    have e2 : ∀ j : Fin 32, rd cell20 ![0, 0] S32x256.size inb_S32x256_S32x256_0_0 s (ix2 j t) = D.low 15360 j.val t.val := fun j =>
      (window_whole s.x20 inb_S32x256_S32x256_0_0 j t).trans (h.h20 j t)
    have e3 : ∀ j : Fin 32, rd cell9 ![0, 0] S32x3840.size inb_S32x3840_S32x3840_0_0 s (ix2 j y) = D.lu j.val y.val := fun j =>
      (window_whole s.x9 inb_S32x3840_S32x3840_0_0 j y).trans (h9 j y)
    have e4 : rd cell10 ![0, 0] S1x3840.size inb_S1x3840_S1x3840_0_0 s (ix2 0 y) = D.bi y.val :=
      (window_whole s.x10 inb_S1x3840_S1x3840_0_0 0 y).trans (h10 y)
    rw [e1, e4]
    simp only [e2, e3]
  · unfold finishSt
    rw [wr13]
    refine (put_whole (m := 256) (n := 480) _ _ t g).trans ?_
    rw [scalesOut_apply]
    refine congrArg (BitVec.setWidth 8) ?_
    exact (window_whole s.x18 inb_S512x256_S512x256_0_0 _ t).trans (h.h18 _ t (by show g.val < 48 * (min (9 + 1) 9 + 1); have := g.isLt; omega))

end Cert.KernelIdeal.Stage
-- ==== Proof.KI.Kit.lean ====
module

public import proofs.«01_k».proof.Proof.KI.Exec
public import proofs.«01_k».proof.Proof.Gen.KernelIdeal.Frame

@[expose] public section

/-!
The buffers and conditions of the pipeline's points.

The staging buffers at a point, the scratch, and when the body's two conditions hold.
-/

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 10 = 0 :=
  (fun t => by
    have ht : t.val < 10 := Nat.lt_of_lt_of_eq t.isLt N_0
    have e0 : (grid0.coords t 0).val = t.val / 1 % 10 := Pipeline.Grid.coords_val t 0 (by decide) rfl
    simp only [cond0_0, e0]
    word_cmp
   : ∀ t : Fin grid0.N, cond0_0 (grid0.coords t) ↔ t.val % 10 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 10 = 9 :=
  (fun t => by
    have ht : t.val < 10 := Nat.lt_of_lt_of_eq t.isLt N_0
    have e0 : (grid0.coords t 0).val = t.val / 1 % 10 := Pipeline.Grid.coords_val t 0 (by decide) rfl
    simp only [cond0_1, k0_cond2, e0]
    word_cmp
   : ∀ t : Fin grid0.N, cond0_1 (grid0.coords t) ↔ t.val % 10 = 9)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-- Window 9 is never idle (an input). -/
theorem liveAt0_9 : ∀ t : Fin cfg0.N, cfg0.idle 9 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S256x1536 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1536 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1536 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x1536 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S768x3840 .i8 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x48x3840 .i8 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1536x32 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S1536x32 .bf16 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S32x3840 .bf16 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S1x3840 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S256x3840 .bf16 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .vmem S256x768 .i8 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S256x480 .i8 := win0_12.stage (cfg0.slots t 12)
abbrev hs0_12 (t : Fin cfg0.N) : (ms0_12 t).IsWhole := hstage0_12 ((cfg0.slots t 12).cast nbuf0_12)
/-- The scratch operands: whole scoped buffers of the kernel's own, passed beside the windows. -/
abbrev scM0_0 : Memref sig .tc .vmem S256x3840 .f32 := Memref.whole cc0_scratch0
abbrev scM0_1 : Memref sig .tc .vmem S256x1536 .bf16 := Memref.whole cc0_scratch1
abbrev scM0_2 : Memref sig .tc .vmem S256x1536 .bf16 := Memref.whole cc0_scratch2
abbrev scM0_3 : Memref sig .tc .vmem S256x768 .i8 := Memref.whole cc0_scratch3
abbrev scM0_4 : Memref sig .tc .vmem S512x256 .i32 := Memref.whole cc0_scratch4
abbrev scM0_5 : Memref sig .tc .vmem S48x3840 .i32 := Memref.whole cc0_scratch5
abbrev scM0_6 : Memref sig .tc .vmem S32x256 .f32 := Memref.whole cc0_scratch6

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Stage
-- ==== Proof.KI.Frame.lean ====
module

public import proofs.«01_k».proof.Proof.KI.Kit
public import proofs.«01_k».proof.Proof.KI.Keep

@[expose] public section

/-!
The kernel's run, with values.

From a description of what the scratch holds after every point, and of what the three results' buffers are given
there, that each point takes to the next, the run of the whole kernel and what its result arrays end with.
-/

set_option maxRecDepth 16384

noncomputable section

namespace Cert.KernelIdeal.Stage

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## What the body leaves alone -/

/-- The inputs' contents. -/
def ins (s : St F) := (s.x1, s.x2, s.x3, s.x4, s.x5, s.x6, s.x7, s.x8, s.x9, s.x10)

theorem ins_bodySt (i : grid0.Coords) (s : St F) : ins (bodySt i s) = ins s :=
  bodySt_keep (fun _ _ => rfl) (fun _ _ => rfl) (fun _ _ => rfl) (fun _ _ => rfl) (fun _ _ => rfl) (fun _ _ => rfl)
    (fun _ _ => rfl) (fun _ _ => rfl) (fun _ _ => rfl) (fun _ _ => rfl) i s

theorem keep_in (i : grid0.Coords) (s : St F) :
    (bodySt i s).x1 = s.x1 ∧ (bodySt i s).x2 = s.x2 ∧ (bodySt i s).x3 = s.x3 ∧ (bodySt i s).x4 = s.x4
      ∧ (bodySt i s).x5 = s.x5 ∧ (bodySt i s).x6 = s.x6 ∧ (bodySt i s).x7 = s.x7 ∧ (bodySt i s).x8 = s.x8
      ∧ (bodySt i s).x9 = s.x9 ∧ (bodySt i s).x10 = s.x10 := by
  have h := ins_bodySt i s
  unfold ins at h
  simpa only [Prod.mk.injEq] using h

theorem keep_out (i : grid0.Coords) (s : St F) (h' : ¬ k0_cond2 i = 1#1) :
    (bodySt i s).x11 = s.x11 ∧ (bodySt i s).x13 = s.x13 := by
  have h := bodySt_keep' (π := fun s : St F => (s.x11, s.x13)) (fun _ _ => rfl) (fun _ _ => rfl) (fun _ _ => rfl) (fun _ _ => rfl)
    (fun _ _ => rfl) (fun _ _ => rfl) (fun _ _ => rfl) (fun _ _ => rfl) i s h'
  simpa only [Prod.mk.injEq] using h

variable (m : (ℓ : Loc nD τ sig) → Buf (Elt F) ℓ) (ρ : Dev nD → PrngReg)

/-- The inputs' buffers hold the point's blocks. -/
def Inputs (c : Dev nD) (t : Fin cfg0.N) (s : St F) : Prop :=
  s.x1 = iblk m c 0 t ∧ s.x2 = iblk m c 1 t ∧ s.x3 = iblk m c 2 t ∧ s.x4 = iblk m c 3 t ∧ s.x5 = iblk m c 4 t
    ∧ s.x6 = iblk m c 5 t ∧ s.x7 = iblk m c 6 t ∧ s.x8 = iblk m c 7 t ∧ s.x9 = iblk m c 8 t ∧ s.x10 = iblk m c 9 t

/-- What the scratch holds after each point, what the results' buffers are given, and that a point takes one to the
next. -/
structure Spec where
  good : Dev nD → ℕ → Vec F S256x3840 .f32 → Vec F S256x1536 .bf16 → Vec F S256x768 .i8 → Vec F S512x256 .i32 →
    Vec F S32x256 .f32 → Prop
  y10 : Dev nD → Vec F S256x3840 .bf16
  y11 : Dev nD → Fin cfg0.N → Vec F S256x768 .i8
  y12 : Dev nD → Vec F S256x480 .i8
  step : ∀ (c : Dev nD) (t : Fin cfg0.N) (s : St F), Inputs m c t s →
    (t.val ≠ 0 → good c (t.val - 1) s.x14 s.x15 s.x17 s.x18 s.x20) →
    good c t.val (bodySt (grid0.coords t) s).x14 (bodySt (grid0.coords t) s).x15 (bodySt (grid0.coords t) s).x17
      (bodySt (grid0.coords t) s).x18 (bodySt (grid0.coords t) s).x20
    ∧ (bodySt (grid0.coords t) s).x12 = y11 c t
    ∧ (t.val = 9 → (bodySt (grid0.coords t) s).x11 = y10 c ∧ (bodySt (grid0.coords t) s).x13 = y12 c)

variable (K : Spec m)

/-- The scratch, held at contents that fit. -/
def Scr (p : Vec F S256x3840 .f32 → Vec F S256x1536 .bf16 → Vec F S256x768 .i8 → Vec F S512x256 .i32 →
    Vec F S32x256 .f32 → Prop) (c : Dev nD) : sProp 𝕄 :=
  iprop((∃ x14 x15 x16 x17 x18 x19 x20, ⌜p x14 x15 x17 x18 x20⌝
    ∗ owns (c : Thread nD τ) scM0_0 fullShare x14 ∗ owns (c : Thread nD τ) scM0_1 fullShare x15
    ∗ owns (c : Thread nD τ) scM0_2 fullShare x16 ∗ owns (c : Thread nD τ) scM0_3 fullShare x17
    ∗ owns (c : Thread nD τ) scM0_4 fullShare x18 ∗ owns (c : Thread nD τ) scM0_5 fullShare x19
    ∗ owns (c : Thread nD τ) scM0_6 fullShare x20) ∗ (∃ r, prngReg c r))

/-- The invariant before point `n`. -/
def PhiS (c : Dev nD) : ℕ → sProp 𝕄
  | 0 => Pipeline.ΦA spec0 c
  | n + 1 => Scr (K.good c n) c

theorem PhiS_open (c : Dev nD) (n : ℕ) :
    PhiS m K c n ⊢ Scr (fun a b d e f => n ≠ 0 → K.good c (n - 1) a b d e f) c := by
  rcases n with _ | n
  · rw [show PhiS m K c 0 = Pipeline.ΦA spec0 c from rfl, PhiA0_eq]
    unfold Scr
    iintro ⟨⟨⟨%a, H0⟩, ⟨%b, H1⟩, ⟨%d, H2⟩, ⟨%e, H3⟩, ⟨%f, H4⟩, ⟨%g, H5⟩, ⟨%h, H6⟩⟩, Hg⟩
    isplitl [H0 H1 H2 H3 H4 H5 H6]
    · iexists a; iexists b; iexists d; iexists e; iexists f; iexists g; iexists h
      isplitr; · ipureintro; exact fun h => absurd rfl h
      isplitl [H0]; · iexact H0
      isplitl [H1]; · iexact H1
      isplitl [H2]; · iexact H2
      isplitl [H3]; · iexact H3
      isplitl [H4]; · iexact H4
      isplitl [H5]; · iexact H5
      iexact H6
    iexact Hg
  · rw [show PhiS m K c (n + 1) = Scr (K.good c n) c from rfl]
    unfold Scr
    iintro ⟨⟨%a, %b, %d, %e, %f, %g, %h, %hp, H⟩, Hg⟩
    isplitl [H]
    · iexists a; iexists b; iexists d; iexists e; iexists f; iexists g; iexists h
      isplitr; · ipureintro; exact fun _ => hp
      iexact H
    iexact Hg

theorem Scr_out (p) (c : Dev nD) : (Scr (F := F) p c) ⊢ (Pipeline.ΦA spec0 c : sProp 𝕄) := by
  rw [PhiA0_eq]
  unfold Scr
  iintro ⟨⟨%a, %b, %d, %e, %f, %g, %h, %hp, H0, H1, H2, H3, H4, H5, H6⟩, Hg⟩
  isplitl [H0 H1 H2 H3 H4 H5 H6]
  · isplitl [H0]; · iexists a; iexact H0
    isplitl [H1]; · iexists b; iexact H1
    isplitl [H2]; · iexists d; iexact H2
    isplitl [H3]; · iexists e; iexact H3
    isplitl [H4]; · iexists f; iexact H4
    isplitl [H5]; · iexists g; iexact H5
    iexists h; iexact H6
  iexact Hg

/-- The run's data: each input's buffer keeps its block, each result's is given what `K` says. -/
def dats (_ : Fin 1) (c : Dev nD) : Dat τ (Elt F) Unit ℕ (UR sig nD τ) ℕ cfg0 c where
  A w := V m c (Pipeline.arrRef spec0 w)
  after w t := match w with
    | 10 => K.y10 c
    | 11 => K.y11 c t
    | 12 => K.y12 c
    | 0 => iblk m c 0 t
    | 1 => iblk m c 1 t
    | 2 => iblk m c 2 t
    | 3 => iblk m c 3 t
    | 4 => iblk m c 4 t
    | 5 => iblk m c 5 t
    | 6 => iblk m c 6 t
    | 7 => iblk m c 7 t
    | 8 => iblk m c 8 t
    | 9 => iblk m c 9 t
    | ⟨_ + 13, h⟩ => absurd h (Nat.not_lt.2 (Nat.le_add_left _ _))
  Φ t := PhiS m K c t.val
  q w := Pipeline.shareOf spec0 w
  owed _ := 0

theorem A_eq (c : Dev nD) (w : Fin cfg0.W) : (dats m K 0 c).A w = V m c (Pipeline.arrRef spec0 w) := by
  dsimp only [dats]

theorem before0_0 (c : Dev nD) (t : Fin cfg0.N) (d) : (dats m K 0 c).before 0 t d = iblk m c 0 t :=
  before0_0_of m (dats m K 0 c) (A_eq m K c 0) (fun t => by dsimp only [dats]) t d
theorem before0_1 (c : Dev nD) (t : Fin cfg0.N) (d) : (dats m K 0 c).before 1 t d = iblk m c 1 t :=
  before0_1_of m (dats m K 0 c) (A_eq m K c 1) (fun t => by dsimp only [dats]) t d
theorem before0_2 (c : Dev nD) (t : Fin cfg0.N) (d) : (dats m K 0 c).before 2 t d = iblk m c 2 t :=
  before0_2_of m (dats m K 0 c) (A_eq m K c 2) (fun t => by dsimp only [dats]) t d
theorem before0_3 (c : Dev nD) (t : Fin cfg0.N) (d) : (dats m K 0 c).before 3 t d = iblk m c 3 t :=
  before0_3_of m (dats m K 0 c) (A_eq m K c 3) (fun t => by dsimp only [dats]) t d
theorem before0_4 (c : Dev nD) (t : Fin cfg0.N) (d) : (dats m K 0 c).before 4 t d = iblk m c 4 t :=
  before0_4_of m (dats m K 0 c) (A_eq m K c 4) (fun t => by dsimp only [dats]) t d
theorem before0_5 (c : Dev nD) (t : Fin cfg0.N) (d) : (dats m K 0 c).before 5 t d = iblk m c 5 t :=
  before0_5_of m (dats m K 0 c) (A_eq m K c 5) (fun t => by dsimp only [dats]) t d
theorem before0_6 (c : Dev nD) (t : Fin cfg0.N) (d) : (dats m K 0 c).before 6 t d = iblk m c 6 t :=
  before0_6_of m (dats m K 0 c) (A_eq m K c 6) (fun t => by dsimp only [dats]) t d
theorem before0_7 (c : Dev nD) (t : Fin cfg0.N) (d) : (dats m K 0 c).before 7 t d = iblk m c 7 t :=
  before0_7_of m (dats m K 0 c) (A_eq m K c 7) (fun t => by dsimp only [dats]) t d
theorem before0_8 (c : Dev nD) (t : Fin cfg0.N) (d) : (dats m K 0 c).before 8 t d = iblk m c 8 t :=
  before0_8_of m (dats m K 0 c) (A_eq m K c 8) (fun t => by dsimp only [dats]) t d
theorem before0_9 (c : Dev nD) (t : Fin cfg0.N) (d) : (dats m K 0 c).before 9 t d = iblk m c 9 t :=
  before0_9_of m (dats m K 0 c) (A_eq m K c 9) (fun t => by dsimp only [dats]) t d

/-- The buffers the body is given at a point. -/
def argsAt (t : Fin cfg0.N) : Args where
  a1 := ms0_0 t
  h1 := hs0_0 t
  a2 := ms0_1 t
  h2 := hs0_1 t
  a3 := ms0_2 t
  h3 := hs0_2 t
  a4 := ms0_3 t
  h4 := hs0_3 t
  a5 := ms0_4 t
  h5 := hs0_4 t
  a6 := ms0_5 t
  h6 := hs0_5 t
  a7 := ms0_6 t
  h7 := hs0_6 t
  a8 := ms0_7 t
  h8 := hs0_7 t
  a9 := ms0_8 t
  h9 := hs0_8 t
  a10 := ms0_9 t
  h10 := hs0_9 t
  a11 := ms0_10 t
  h11 := hs0_10 t
  a12 := ms0_11 t
  h12 := hs0_11 t
  a13 := ms0_12 t
  h13 := hs0_12 t
  a14 := scM0_0
  h14 := Memref.isWhole_whole cc0_scratch0
  a15 := scM0_1
  h15 := Memref.isWhole_whole cc0_scratch1
  a16 := scM0_2
  h16 := Memref.isWhole_whole cc0_scratch2
  a17 := scM0_3
  h17 := Memref.isWhole_whole cc0_scratch3
  a18 := scM0_4
  h18 := Memref.isWhole_whole cc0_scratch4
  a19 := scM0_5
  h19 := Memref.isWhole_whole cc0_scratch5
  a20 := scM0_6
  h20 := Memref.isWhole_whole cc0_scratch6

theorem bodyAt_eq (t : Fin cfg0.N) : (bodyAt0 t : P F PUnit) = body (argsAt t) (grid0.coords t) := rfl

theorem leaves_in (c : Dev nD) (t : Fin cfg0.N) :
    (dats m K 0 c).leavesExact 0 t = owns (c : Thread nD τ) (ms0_0 t) fullShare (iblk m c 0 t)
    ∧ (dats m K 0 c).leavesExact 1 t = owns (c : Thread nD τ) (ms0_1 t) fullShare (iblk m c 1 t)
    ∧ (dats m K 0 c).leavesExact 2 t = owns (c : Thread nD τ) (ms0_2 t) fullShare (iblk m c 2 t)
    ∧ (dats m K 0 c).leavesExact 3 t = owns (c : Thread nD τ) (ms0_3 t) fullShare (iblk m c 3 t)
    ∧ (dats m K 0 c).leavesExact 4 t = owns (c : Thread nD τ) (ms0_4 t) fullShare (iblk m c 4 t)
    ∧ (dats m K 0 c).leavesExact 5 t = owns (c : Thread nD τ) (ms0_5 t) fullShare (iblk m c 5 t)
    ∧ (dats m K 0 c).leavesExact 6 t = owns (c : Thread nD τ) (ms0_6 t) fullShare (iblk m c 6 t)
    ∧ (dats m K 0 c).leavesExact 7 t = owns (c : Thread nD τ) (ms0_7 t) fullShare (iblk m c 7 t)
    ∧ (dats m K 0 c).leavesExact 8 t = owns (c : Thread nD τ) (ms0_8 t) fullShare (iblk m c 8 t)
    ∧ (dats m K 0 c).leavesExact 9 t = owns (c : Thread nD τ) (ms0_9 t) fullShare (iblk m c 9 t)
    ∧ (dats m K 0 c).leavesExact 11 t = owns (c : Thread nD τ) (ms0_11 t) fullShare (K.y11 c t) := by
  refine ⟨?_, ?_, ?_, ?_, ?_, ?_, ?_, ?_, ?_, ?_, ?_⟩ <;>
    (unfold Dat.leavesExact; rw [show cfg0.idle _ (grid0.coords t) = false from rfl]; dsimp only [dats])

theorem leaves_last (c : Dev nD) (t : Fin cfg0.N) (h : k0_cond2 (grid0.coords t) = 1#1) :
    (dats m K 0 c).leavesExact 10 t = owns (c : Thread nD τ) (ms0_10 t) fullShare (K.y10 c)
    ∧ (dats m K 0 c).leavesExact 12 t = owns (c : Thread nD τ) (ms0_12 t) fullShare (K.y12 c) := by
  constructor
  · unfold Dat.leavesExact
    rw [show cfg0.idle 10 (grid0.coords t) = false from by show (!(k0_cond2 (grid0.coords t) == 1#1)) = false; rw [h]; rfl]
    dsimp only [dats]
  · unfold Dat.leavesExact
    rw [show cfg0.idle 12 (grid0.coords t) = false from by show (!(k0_cond2 (grid0.coords t) == 1#1)) = false; rw [h]; rfl]
    dsimp only [dats]

theorem leaves_idle (c : Dev nD) (t : Fin cfg0.N) (h : ¬ k0_cond2 (grid0.coords t) = 1#1) :
    (dats m K 0 c).leavesExact 10 t = iprop(∃ d, owns (c : Thread nD τ) (ms0_10 t) fullShare ((dats m K 0 c).before 10 t d))
    ∧ (dats m K 0 c).leavesExact 12 t = iprop(∃ d, owns (c : Thread nD τ) (ms0_12 t) fullShare ((dats m K 0 c).before 12 t d)) := by
  have h9 : ¬ t.val % 10 = 9 := fun e => h ((hcond0_1 t).mpr e)
  constructor
  · refine Dat.leavesExact_idle _ 10 t ?_ (Bool.eq_false_iff.mpr fun e => h9 ((flush0_10 t).mp e))
    show (!(k0_cond2 (grid0.coords t) == 1#1)) = true
    simpa using h
  · refine Dat.leavesExact_idle _ 12 t ?_ (Bool.eq_false_iff.mpr fun e => h9 ((flush0_12 t).mp e))
    show (!(k0_cond2 (grid0.coords t) == 1#1)) = true
    simpa using h

/-- What the body is given at point `t`. -/
def bodyPre (c : Dev nD) (t : Fin cfg0.N) : sProp 𝕄 :=
  iprop((dats m K 0 c).Φ t.castSucc ∗ (dats m K 0 c).owesAt () t.castSucc
    ∗ (∃ d, owns (c : Thread nD τ) (ms0_0 t) fullShare ((dats m K 0 c).before 0 t d))
    ∗ (∃ d, owns (c : Thread nD τ) (ms0_1 t) fullShare ((dats m K 0 c).before 1 t d))
    ∗ (∃ d, owns (c : Thread nD τ) (ms0_2 t) fullShare ((dats m K 0 c).before 2 t d))
    ∗ (∃ d, owns (c : Thread nD τ) (ms0_3 t) fullShare ((dats m K 0 c).before 3 t d))
    ∗ (∃ d, owns (c : Thread nD τ) (ms0_4 t) fullShare ((dats m K 0 c).before 4 t d))
    ∗ (∃ d, owns (c : Thread nD τ) (ms0_5 t) fullShare ((dats m K 0 c).before 5 t d))
    ∗ (∃ d, owns (c : Thread nD τ) (ms0_6 t) fullShare ((dats m K 0 c).before 6 t d))
    ∗ (∃ d, owns (c : Thread nD τ) (ms0_7 t) fullShare ((dats m K 0 c).before 7 t d))
    ∗ (∃ d, owns (c : Thread nD τ) (ms0_8 t) fullShare ((dats m K 0 c).before 8 t d))
    ∗ (∃ d, owns (c : Thread nD τ) (ms0_9 t) fullShare ((dats m K 0 c).before 9 t d))
    ∗ (∃ d, owns (c : Thread nD τ) (ms0_10 t) fullShare ((dats m K 0 c).before 10 t d))
    ∗ (∃ d, owns (c : Thread nD τ) (ms0_11 t) fullShare ((dats m K 0 c).before 11 t d))
    ∗ (∃ d, owns (c : Thread nD τ) (ms0_12 t) fullShare ((dats m K 0 c).before 12 t d)))

/-- and what it returns. -/
def bodyPost (c : Dev nD) (t : Fin cfg0.N) : sProp 𝕄 :=
  iprop((dats m K 0 c).Φ t.succ ∗ (dats m K 0 c).owesAt () t.succ
    ∗ (dats m K 0 c).leavesExact 0 t
    ∗ (dats m K 0 c).leavesExact 1 t
    ∗ (dats m K 0 c).leavesExact 2 t
    ∗ (dats m K 0 c).leavesExact 3 t
    ∗ (dats m K 0 c).leavesExact 4 t
    ∗ (dats m K 0 c).leavesExact 5 t
    ∗ (dats m K 0 c).leavesExact 6 t
    ∗ (dats m K 0 c).leavesExact 7 t
    ∗ (dats m K 0 c).leavesExact 8 t
    ∗ (dats m K 0 c).leavesExact 9 t
    ∗ (dats m K 0 c).leavesExact 10 t
    ∗ (dats m K 0 c).leavesExact 11 t
    ∗ (dats m K 0 c).leavesExact 12 t)

set_option maxHeartbeats 4000000 in
theorem sound_body (c : Dev nD) (t : Fin cfg0.N) :
    bodyPre m K c t ⊢ wp frame (wpE (defs₀ (F := F)) Variants.none c none) Set.univ (bodyAt0 t) (fun _ => bodyPost m K c t) := by
  unfold bodyPre bodyPost
  rw [bodyAt_eq]
  simp only [before0_0, before0_1, before0_2, before0_3, before0_4, before0_5, before0_6, before0_7, before0_8, before0_9]
  rw [show (dats m K 0 c).owesAt () t.succ = (dats m K 0 c).owesAt () t.castSucc from rfl]
  rw [show (dats m K 0 c).Φ t.succ = Scr (K.good c t.val) c from rfl]
  rw [show (dats m K 0 c).Φ t.castSucc = PhiS m K c t.val from rfl]
  obtain ⟨l0, l1, l2, l3, l4, l5, l6, l7, l8, l9, l11⟩ := leaves_in m K c t
  rw [l0, l1, l2, l3, l4, l5, l6, l7, l8, l9, l11]
  have hopen := PhiS_open m K c t.val
  have hN : t.val < 10 := lt_of_lt_of_eq t.isLt (show cfg0.N = 10 from N_0)
  iintro ⟨HP, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  ihave HS := hopen $$ HP
  unfold Scr
  icases HS with ⟨⟨%x14, %x15, %x16, %x17, %x18, %x19, %x20, %hp, S0, S1, S2, S3, S4, S5, S6⟩, Hg⟩
  let s : St F := ⟨iblk m c 0 t, iblk m c 1 t, iblk m c 2 t, iblk m c 3 t, iblk m c 4 t, iblk m c 5 t, iblk m c 6 t, iblk m c 7 t,
    iblk m c 8 t, iblk m c 9 t, (dats m K 0 c).before 10 t d10, (dats m K 0 c).before 11 t d11, (dats m K 0 c).before 12 t d12,
    x14, x15, x16, x17, x18, x19, x20⟩
  obtain ⟨hg, h11, hlast⟩ := K.step c t s ⟨rfl, rfl, rfl, rfl, rfl, rfl, rfl, rfl, rfl, rfl⟩ hp
  obtain ⟨k1, k2, k3, k4, k5, k6, k7, k8, k9, k10⟩ := keep_in (grid0.coords t) s
  have hrun := runs_body (argsAt t) (grid0.coords t) s c
  ihave X := hrun _ $$ [H0 H1 H2 H3 H4 H5 H6 H7 H8 H9 H10 H11 H12 S0 S1 S2 S3 S4 S5 S6]
  rotate_left 1
  · iapply X
    unfold Own
    rw [k1, k2, k3, k4, k5, k6, k7, k8, k9, k10, h11]
    iintro ⟨H0, H1, H2, H3, H4, H5, H6, H7, H8, H9, H10, H11, H12, S0, S1, S2, S3, S4, S5, S6⟩
    isplitl [S0 S1 S2 S3 S4 S5 S6 Hg]
    · isplitl [S0 S1 S2 S3 S4 S5 S6]
      · iexists _; iexists _; iexists _; iexists _; iexists _; iexists _; iexists _
        isplitr; · ipureintro; exact hg
        isplitl [S0]; · iexact S0
        isplitl [S1]; · iexact S1
        isplitl [S2]; · iexact S2
        isplitl [S3]; · iexact S3
        isplitl [S4]; · iexact S4
        isplitl [S5]; · iexact S5
        iexact S6
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    by_cases hc : k0_cond2 (grid0.coords t) = 1#1
    · obtain ⟨e10, e12⟩ := leaves_last m K c t hc
      obtain ⟨g10, g12⟩ := hlast (by have := (hcond0_1 t).mp hc; omega)
      rw [e10, e12, g10, g12]
      isplitl [H10]; · iexact H10
      isplitl [H11]; · iexact H11
      iexact H12
    · obtain ⟨e10, e12⟩ := leaves_idle m K c t hc
      obtain ⟨g10, g12⟩ := keep_out (grid0.coords t) s hc
      rw [e10, e12, g10, g12]
      isplitl [H10]; · iexists d10; iexact H10
      isplitl [H11]; · iexact H11
      iexists d12; iexact H12
  · unfold Own
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [S0]; · iexact S0
    isplitl [S1]; · iexact S1
    isplitl [S2]; · iexact S2
    isplitl [S3]; · iexact S3
    isplitl [S4]; · iexact S4
    isplitl [S5]; · iexact S5
    iexact S6

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m K 0 c) (defs₀ (F := F)) Variants.none () Set.univ := fun t => by
  rw [bigSep_W0, bigSep_W0, defs₀_row]
  exact triple_restated (sound_body m K c t) rfl .rfl fun _ => .rfl

theorem hin (c : Dev nD) : Pipeline.ΦA spec0 c ⊢ (dats m K 0 c).Φ 0 := by
  rw [show (dats m K 0 c).Φ 0 = Pipeline.ΦA spec0 c from rfl]

theorem hout (c : Dev nD) : (dats m K 0 c).Φ (Fin.last cfg0.N) ⊢ Pipeline.ΦA spec0 c := by
  rw [show (dats m K 0 c).Φ (Fin.last cfg0.N) = Scr (K.good c 9) c from by
    show PhiS m K c cfg0.N = _; rw [show cfg0.N = 10 from N_0]; rfl]
  exact Scr_out _ c

set_option backward.isDefEq.respectTransparency.types false in
/-- The run: every array the pipeline writes ends at what its data say, and every semaphore counter at zero. -/
theorem run_main : θ_run defs (onTc (τ := τ) (main (F := F))) (s₀ m ρ)
    (fun r => Pipeline.FramePost cfgs (dats m K) 0 (V m) r ∧ r.2.sem = fun _ => 0) :=
  Pipeline.θ_run_frame_track_shared (Q' := _) cfgs (dats m K) (0 : Fin 1) launch₀0 defs₀ Variants.none m ρ main
    (hbody := fun c => (body_obligation m K c).loose) (hq := fun _ _ _ => rfl)
    (howed := fun _ _ => rfl) (V := V m) (hmain := hmain m Variants.none) (hA := A_eq m K) (hin := hin m K) (hout := hout m K)

end Cert.KernelIdeal.Stage

end
-- ==== Proof.KI.Blocks.lean ====
module

public import proofs.«01_k».proof.Proof.KI.Whole
public import proofs.«01_k».proof.Proof.KI.Frame

@[expose] public section

/-!
What the windows read.

The kernel's blocks of its input arrays, entry by entry, and the state of every point from them.
-/

noncomputable section

namespace Cert.KernelIdeal.Stage

open Cert.KernelIdeal.Gen
open Idealize.ShloMosaic Idealize.ShloMosaic.TcCoe Idealize.ShloMosaic.Pointwise
open Idealize.SL Idealize.SL.Sem
open Facts₀ Facts

variable (m : (ℓ : Loc nD τ sig) → Buf (Elt Ideal) ℓ) (c : Dev nD)

/-- The problem's data, from the arguments in memory. -/
def dataOf : Data := Data.of (m ((c : Thread nD τ).loc main_arg0)) (m ((c : Thread nD τ).loc main_arg1)) (m ((c : Thread nD τ).loc main_arg2))
  (m ((c : Thread nD τ).loc main_arg3)) (m ((c : Thread nD τ).loc main_arg4)) (m ((c : Thread nD τ).loc main_arg5)) (m ((c : Thread nD τ).loc main_arg6))

/-! ## The host's reshapes -/

theorem V_v0 : V m c main_v0 = shapeCast S256x15360 (m ((c : Thread nD τ).loc main_arg0)) Gen.shapeCasts_S2x128x15360_S256x15360 := by
  show StableHlo.after hostOps0 _ (Proc.devRef .tc main_v0) = _
  after_results
  rfl

theorem V_v1 : V m c main_v1 = shapeCast S256x15360 (m ((c : Thread nD τ).loc main_arg0)) Gen.shapeCasts_S2x128x15360_S256x15360 := by
  show StableHlo.after hostOps0 _ (Proc.devRef .tc main_v1) = _
  after_results
  rfl

theorem V_v2 : V m c main_v2 = shapeCast S1x15360 (m ((c : Thread nD τ).loc main_arg1)) Gen.shapeCasts_S15360_S1x15360 := by
  show StableHlo.after hostOps0 _ (Proc.devRef .tc main_v2) = _
  after_results
  rfl

theorem V_v3 : V m c main_v3 = shapeCast S1x15360 (m ((c : Thread nD τ).loc main_arg1)) Gen.shapeCasts_S15360_S1x15360 := by
  show StableHlo.after hostOps0 _ (Proc.devRef .tc main_v3) = _
  after_results
  rfl

theorem V_v4 : V m c main_v4 = shapeCast S10x48x3840 (m ((c : Thread nD τ).loc main_arg3)) Gen.shapeCasts_S480x3840_S10x48x3840 := by
  show StableHlo.after hostOps0 _ (Proc.devRef .tc main_v4) = _
  after_results
  rfl

theorem V_v5 : V m c main_v5 = shapeCast S1x3840 (m ((c : Thread nD τ).loc main_arg6)) Gen.shapeCasts_S3840_S1x3840 := by
  show StableHlo.after hostOps0 _ (Proc.devRef .tc main_v5) = _
  after_results
  rfl

theorem cast_x (A : S2x128x15360.Idx → EReal) (r : Fin 256) (d : Fin 15360) :
    shapeCast S256x15360 A Gen.shapeCasts_S2x128x15360_S256x15360 (ix2 r d) =
      A (ix3 ⟨r.val / 128, by omega⟩ ⟨r.val % 128, by omega⟩ d) := by
  pointwise

theorem cast_row15360 (A : S15360.Idx → EReal) (d : Fin 15360) :
    shapeCast S1x15360 A Gen.shapeCasts_S15360_S1x15360 (ix2 0 d) = A (ix1 d) := by
  pointwise

theorem cast_ws (A : S480x3840.Idx → BitVec 8) (b : Fin 10) (g : Fin 48) (n : Fin 3840) :
    shapeCast S10x48x3840 A Gen.shapeCasts_S480x3840_S10x48x3840 (ix3 b g n) =
      A (ix2 ⟨48 * b.val + g.val, by omega⟩ n) := by
  pointwise
  exact congrArg (fun k => A (ix2 k n)) (Fin.ext (by show b.val * 48 + g.val = 48 * b.val + g.val; omega))

theorem cast_row3840 (A : S3840.Idx → EReal) (d : Fin 3840) :
    shapeCast S1x3840 A Gen.shapeCasts_S3840_S1x3840 (ix2 0 d) = A (ix1 d) := by
  pointwise

theorem x_at (r : Fin 256) (d : Fin 15360) :
    (shapeCast S256x15360 (m ((c : Thread nD τ).loc main_arg0)) Gen.shapeCasts_S2x128x15360_S256x15360 : S256x15360.Idx → EReal) (ix2 r d) = (dataOf m c).x r.val d.val := by
  refine (cast_x _ r d).trans ?_
  unfold dataOf Data.of
  dsimp only
  rw [dif_pos (⟨r.isLt, d.isLt⟩ : r.val < 256 ∧ d.val < 15360)]

theorem s_at (d : Fin 15360) :
    (shapeCast S1x15360 (m ((c : Thread nD τ).loc main_arg1)) Gen.shapeCasts_S15360_S1x15360 : S1x15360.Idx → EReal) (ix2 0 d) = (dataOf m c).s d.val :=
  (cast_row15360 _ d).trans (at1_val (0 : EReal) _ d rfl)

theorem ws_at (b : Fin 10) (g : Fin 48) (n : Fin 3840) :
    (shapeCast S10x48x3840 (m ((c : Thread nD τ).loc main_arg3)) Gen.shapeCasts_S480x3840_S10x48x3840 : S10x48x3840.Idx → BitVec 8) (ix3 b g n) = (dataOf m c).ws (48 * b.val + g.val) n.val :=
  (cast_ws _ b g n).trans (at2_val (m := 480) (n := 3840) (0 : BitVec 8) _ _ n rfl rfl)

theorem bi_at (d : Fin 3840) :
    (shapeCast S1x3840 (m ((c : Thread nD τ).loc main_arg6)) Gen.shapeCasts_S3840_S1x3840 : S1x3840.Idx → EReal) (ix2 0 d) = (dataOf m c).bi d.val :=
  (cast_row3840 _ d).trans (at1_val (0 : EReal) _ d rfl)

/-! ## The blocks -/

theorem coords_zero (t : Fin cfg0.N) : ((grid0.coords t) 0).val = t.val := by
  have ht : t.val < 10 := Nat.lt_of_lt_of_eq t.isLt N_0
  have e0 : (grid0.coords t 0).val = t.val / 1 % 10 := Pipeline.Grid.coords_val t 0 (by decide) rfl
  rw [e0]; omega

theorem t_lt (t : Fin cfg0.N) : t.val < 10 := Nat.lt_of_lt_of_eq t.isLt N_0

theorem nextIdx (n : Fin 10) : (Scalar.minsi (Scalar.addi (BitVec.ofNat 32 n.val) (1#32)) (9#32)).toNat = min (n.val + 1) 9 := by
  revert n; decide +kernel

theorem nextIdx' (t : Fin cfg0.N) : (Scalar.minsi (Scalar.addi (BitVec.ofNat 32 ((grid0.coords t) 0).val) (1#32)) (9#32)).toNat = min (t.val + 1) 9 := by
  rw [coords_zero]
  exact nextIdx ⟨t.val, t_lt t⟩

theorem thisIdx (t : Fin cfg0.N) : (BitVec.ofNat 32 ((grid0.coords t) 0).val).toNat = t.val := by
  rw [coords_zero, BitVec.toNat_ofNat]
  have := t_lt t
  omega

theorem blk0 (t : Fin cfg0.N) (r : Fin 256) (d : Fin 1536) :
    (iblk m c 0 t : Vec Ideal S256x1536 .bf16) (ix2 r d) = (dataOf m c).x r.val (1536 * min (t.val + 1) 9 + d.val) := by
  have hl : min (t.val + 1) 9 ≤ 9 := by omega
  refine Eq.trans ?_ (x_at m c r ⟨1536 * min (t.val + 1) 9 + d.val, by omega⟩)
  unfold iblk
  rw [View.read_apply]
  rw [← V_v0]
  refine congrArg (V m c main_v0) (funext fun a => Fin.ext ?_)
  match a with
  | ⟨0, _⟩ => show 0 * 256 + 1 * r.val = r.val; omega
  | ⟨1, _⟩ =>
    show (Scalar.minsi (Scalar.addi (BitVec.ofNat 32 ((grid0.coords t) 0).val) (1#32)) (9#32)).toNat * 1536 + 1 * d.val = _
    rw [nextIdx']
    show _ = 1536 * min (t.val + 1) 9 + d.val
    omega

theorem blk1 (t : Fin cfg0.N) (r : Fin 256) (d : Fin 1536) :
    (iblk m c 1 t : Vec Ideal S256x1536 .bf16) (ix2 r d) = (dataOf m c).x r.val d.val := by
  refine Eq.trans ?_ (x_at m c r ⟨d.val, by omega⟩)
  unfold iblk
  rw [View.read_apply]
  rw [← V_v1]
  refine congrArg (V m c main_v1) (funext fun a => Fin.ext ?_)
  match a with
  | ⟨0, _⟩ => show 0 * 256 + 1 * r.val = r.val; omega
  | ⟨1, _⟩ => show 0 * 1536 + 1 * d.val = d.val; omega

theorem blk2 (t : Fin cfg0.N) (d : Fin 1536) :
    (iblk m c 2 t : Vec Ideal S1x1536 .f32) (ix2 0 d) = (dataOf m c).s (1536 * min (t.val + 1) 9 + d.val) := by
  have hl : min (t.val + 1) 9 ≤ 9 := by omega
  refine Eq.trans ?_ (s_at m c ⟨1536 * min (t.val + 1) 9 + d.val, by omega⟩)
  unfold iblk
  rw [View.read_apply]
  rw [← V_v2]
  refine congrArg (V m c main_v2) (funext fun a => Fin.ext ?_)
  match a with
  | ⟨0, _⟩ => rfl
  | ⟨1, _⟩ =>
    show (Scalar.minsi (Scalar.addi (BitVec.ofNat 32 ((grid0.coords t) 0).val) (1#32)) (9#32)).toNat * 1536 + 1 * d.val = _
    rw [nextIdx']
    show _ = 1536 * min (t.val + 1) 9 + d.val
    omega

theorem blk3 (t : Fin cfg0.N) (d : Fin 1536) :
    (iblk m c 3 t : Vec Ideal S1x1536 .f32) (ix2 0 d) = (dataOf m c).s d.val := by
  refine Eq.trans ?_ (s_at m c ⟨d.val, by omega⟩)
  unfold iblk
  rw [View.read_apply]
  rw [← V_v3]
  refine congrArg (V m c main_v3) (funext fun a => Fin.ext ?_)
  match a with
  | ⟨0, _⟩ => rfl
  | ⟨1, _⟩ => show 0 * 1536 + 1 * d.val = d.val; omega

theorem blk4 (t : Fin cfg0.N) (r : Fin 768) (n : Fin 3840) :
    (iblk m c 4 t : Vec Ideal S768x3840 .i8) (ix2 r n) = (dataOf m c).wp (768 * t.val + r.val) n.val := by
  have hl := t_lt t
  refine Eq.trans ?_ (at2_val (m := 7680) (n := 3840) (0 : BitVec 8) (m ((c : Thread nD τ).loc main_arg2)) ⟨768 * t.val + r.val, by omega⟩ n rfl rfl)
  unfold iblk
  rw [View.read_apply]
  rw [← V_main_arg2 m c]
  refine congrArg (V m c main_arg2) (funext fun a => Fin.ext ?_)
  match a with
  | ⟨0, _⟩ =>
    show (BitVec.ofNat 32 ((grid0.coords t) 0).val).toNat * 768 + 1 * r.val = 768 * t.val + r.val
    rw [thisIdx]; omega
  | ⟨1, _⟩ => show 0 * 3840 + 1 * n.val = n.val; omega

theorem blk5 (t : Fin cfg0.N) (g : Fin 48) (n : Fin 3840) :
    (iblk m c 5 t : Vec Ideal S1x48x3840 .i8) (ix3 0 g n) = (dataOf m c).ws (48 * t.val + g.val) n.val := by
  have hl := t_lt t
  refine Eq.trans ?_ (ws_at m c ⟨t.val, hl⟩ g n)
  unfold iblk
  rw [View.read_apply]
  rw [← V_v4]
  refine congrArg (V m c main_v4) (funext fun a => Fin.ext ?_)
  match a with
  | ⟨0, _⟩ =>
    show (BitVec.ofNat 32 ((grid0.coords t) 0).val).toNat * 1 + 1 * 0 = t.val
    rw [thisIdx]; omega
  | ⟨1, _⟩ => show 0 * 48 + 1 * g.val = g.val; omega
  | ⟨2, _⟩ => show 0 * 3840 + 1 * n.val = n.val; omega

theorem blk6 (t : Fin cfg0.N) (d : Fin 1536) (j : Fin 32) :
    (iblk m c 6 t : Vec Ideal S1536x32 .bf16) (ix2 d j) = (dataOf m c).ld (1536 * min (t.val + 1) 9 + d.val) j.val := by
  have hl : min (t.val + 1) 9 ≤ 9 := by omega
  refine Eq.trans ?_ (at2_val (m := 15360) (n := 32) (0 : EReal) (m ((c : Thread nD τ).loc main_arg4)) ⟨1536 * min (t.val + 1) 9 + d.val, by omega⟩ j rfl rfl)
  unfold iblk
  rw [View.read_apply]
  rw [← V_main_arg4 m c]
  refine congrArg (V m c main_arg4) (funext fun a => Fin.ext ?_)
  match a with
  | ⟨0, _⟩ =>
    show (Scalar.minsi (Scalar.addi (BitVec.ofNat 32 ((grid0.coords t) 0).val) (1#32)) (9#32)).toNat * 1536 + 1 * d.val = _
    rw [nextIdx']
    show _ = 1536 * min (t.val + 1) 9 + d.val
    omega
  | ⟨1, _⟩ => show 0 * 32 + 1 * j.val = j.val; omega

theorem blk7 (t : Fin cfg0.N) (d : Fin 1536) (j : Fin 32) :
    (iblk m c 7 t : Vec Ideal S1536x32 .bf16) (ix2 d j) = (dataOf m c).ld d.val j.val := by
  refine Eq.trans ?_ (at2_val (m := 15360) (n := 32) (0 : EReal) (m ((c : Thread nD τ).loc main_arg4)) ⟨d.val, by omega⟩ j rfl rfl)
  unfold iblk
  rw [View.read_apply]
  rw [← V_main_arg4 m c]
  refine congrArg (V m c main_arg4) (funext fun a => Fin.ext ?_)
  match a with
  | ⟨0, _⟩ => show 0 * 1536 + 1 * d.val = d.val; omega
  | ⟨1, _⟩ => show 0 * 32 + 1 * j.val = j.val; omega

theorem blk8 (t : Fin cfg0.N) (j : Fin 32) (n : Fin 3840) :
    (iblk m c 8 t : Vec Ideal S32x3840 .bf16) (ix2 j n) = (dataOf m c).lu j.val n.val := by
  refine Eq.trans ?_ (at2_val (m := 32) (n := 3840) (0 : EReal) (m ((c : Thread nD τ).loc main_arg5)) j n rfl rfl)
  unfold iblk
  rw [View.read_apply]
  rw [← V_main_arg5 m c]
  refine congrArg (V m c main_arg5) (funext fun a => Fin.ext ?_)
  match a with
  | ⟨0, _⟩ => show 0 * 32 + 1 * j.val = j.val; omega
  | ⟨1, _⟩ => show 0 * 3840 + 1 * n.val = n.val; omega

theorem blk9 (t : Fin cfg0.N) (n : Fin 3840) :
    (iblk m c 9 t : Vec Ideal S1x3840 .f32) (ix2 0 n) = (dataOf m c).bi n.val := by
  refine Eq.trans ?_ (bi_at m c n)
  unfold iblk
  rw [View.read_apply]
  rw [← V_v5]
  refine congrArg (V m c main_v5) (funext fun a => Fin.ext ?_)
  match a with
  | ⟨0, _⟩ => rfl
  | ⟨1, _⟩ => show 0 * 3840 + 1 * n.val = n.val; omega

end Cert.KernelIdeal.Stage
-- ==== Proof.KI.Value.lean ====
module

public import proofs.«01_k».proof.Proof.KI.Blocks

@[expose] public section

/-!
The run's values.

What the three results hold after the run, over the extended reals.
-/

noncomputable section

namespace Cert.KernelIdeal.Stage

open Idealize.ShloMosaic Idealize.ShloMosaic.Pointwise
open Cert.KernelIdeal.Gen Facts₀ Facts

variable (D : Data)

/-- The layer's output. -/
def outY : Vec Ideal S256x3840 .bf16 := fun i =>
  D.acc 15360 (i 0).val (i 1).val + ∑ j : Fin 32, D.low 15360 j.val (i 0).val * D.lu j.val (i 1).val + D.bi (i 1).val

/-- The packed codes of block `n`. -/
def outB (n : ℕ) : Vec Ideal S256x768 .i8 := fun i => D.byte (i 0).val (768 * n + (i 1).val)

/-- The scales. -/
def outS : Vec Ideal S256x480 .i8 := fun i => BitVec.setWidth 8 (D.sb (i 0).val (i 1).val)

theorem ready_of_good {n : ℕ} (hn : n + 1 ≤ 9) {s : St Ideal} (h : Good D n s.x14 s.x15 s.x17 s.x18 s.x20) : Ready D (n + 1) s := by
  have e : min (n + 1) 9 = n + 1 := by omega
  obtain ⟨h14, h15, h17, h18, h20⟩ := h
  rw [e] at h15 h17 h18 h20
  exact ⟨h14, h15, h17, h18, h20⟩

theorem atStart_iff (i : grid0.Coords) : atStart i = 1#1 ↔ cond0_0 i := Iff.rfl

variable {D}

theorem reads_start {n : ℕ} {s : St Ideal} (h : Reads D n s) : Reads D n (startSt s) := by
  have e1 : (startSt s).x1 = s.x1 := startSt_keep (π := fun s : St Ideal => s.x1) (fun _ _ => rfl) (fun _ _ => rfl) (fun _ _ => rfl) (fun _ _ => rfl) (fun _ _ => rfl) s
  have e3 : (startSt s).x3 = s.x3 := startSt_keep (π := fun s : St Ideal => s.x3) (fun _ _ => rfl) (fun _ _ => rfl) (fun _ _ => rfl) (fun _ _ => rfl) (fun _ _ => rfl) s
  have e7 : (startSt s).x7 = s.x7 := startSt_keep (π := fun s : St Ideal => s.x7) (fun _ _ => rfl) (fun _ _ => rfl) (fun _ _ => rfl) (fun _ _ => rfl) (fun _ _ => rfl) s
  have e5 : (startSt s).x5 = s.x5 := startSt_keep (π := fun s : St Ideal => s.x5) (fun _ _ => rfl) (fun _ _ => rfl) (fun _ _ => rfl) (fun _ _ => rfl) (fun _ _ => rfl) s
  have e6 : (startSt s).x6 = s.x6 := startSt_keep (π := fun s : St Ideal => s.x6) (fun _ _ => rfl) (fun _ _ => rfl) (fun _ _ => rfl) (fun _ _ => rfl) (fun _ _ => rfl) s
  have e9 : (startSt s).x9 = s.x9 := startSt_keep (π := fun s : St Ideal => s.x9) (fun _ _ => rfl) (fun _ _ => rfl) (fun _ _ => rfl) (fun _ _ => rfl) (fun _ _ => rfl) s
  have e10 : (startSt s).x10 = s.x10 := startSt_keep (π := fun s : St Ideal => s.x10) (fun _ _ => rfl) (fun _ _ => rfl) (fun _ _ => rfl) (fun _ _ => rfl) (fun _ _ => rfl) s
  obtain ⟨hn, h5, h6, h9, h10⟩ := h
  exact ⟨src_chunk e1 e3 e7 hn, by rw [e5]; exact h5, by rw [e6]; exact h6, by rw [e9]; exact h9, by rw [e10]; exact h10⟩

/-- A point, once the scratch is ready. -/
theorem point_ready (i : grid0.Coords) (n : ℕ) (hn : (i 0).val = n) (hi : n < 10) {s : St Ideal} (hr : Reads D n s) (h : Ready D n s)
    (s' : St Ideal) (hl : k0_cond2 i = 1#1 ↔ n = 9)
    (es' : s' = if k0_cond2 i = 1#1 then finishSt (midSt i s) else midSt i s) :
    Good D n s'.x14 s'.x15 s'.x17 s'.x18 s'.x20
      ∧ s'.x12 = outB D n ∧ (n = 9 → s'.x11 = outY D ∧ s'.x13 = outS D) := by
  obtain ⟨hg, hb⟩ := mid_good i n hn hi hr h
  have hb' : (midSt i s).x12 = outB D n := funext fun j => by
    rw [eq_ix2 j]; exact hb (j 0) (j 1)
  have e9 : (midSt i s).x9 = s.x9 := midSt_keep (π := fun s : St Ideal => s.x9) (fun _ _ => rfl) (fun _ _ => rfl) (fun _ _ => rfl) (fun _ _ => rfl) (fun _ _ => rfl) (fun _ _ => rfl) (fun _ _ => rfl) (fun _ _ => rfl) i s
  have e10 : (midSt i s).x10 = s.x10 := midSt_keep (π := fun s : St Ideal => s.x10) (fun _ _ => rfl) (fun _ _ => rfl) (fun _ _ => rfl) (fun _ _ => rfl) (fun _ _ => rfl) (fun _ _ => rfl) (fun _ _ => rfl) (fun _ _ => rfl) i s
  by_cases hc : k0_cond2 i = 1#1
  · have h9 := hl.mp hc
    subst h9
    rw [if_pos hc] at es'
    generalize midSt i s = u at *
    subst es'
    have k14 : (finishSt u).x14 = u.x14 := finishSt_keep (π := fun s : St Ideal => s.x14) (fun _ _ => rfl) (fun _ _ => rfl) u
    have k15 : (finishSt u).x15 = u.x15 := finishSt_keep (π := fun s : St Ideal => s.x15) (fun _ _ => rfl) (fun _ _ => rfl) u
    have k17 : (finishSt u).x17 = u.x17 := finishSt_keep (π := fun s : St Ideal => s.x17) (fun _ _ => rfl) (fun _ _ => rfl) u
    have k18 : (finishSt u).x18 = u.x18 := finishSt_keep (π := fun s : St Ideal => s.x18) (fun _ _ => rfl) (fun _ _ => rfl) u
    have k20 : (finishSt u).x20 = u.x20 := finishSt_keep (π := fun s : St Ideal => s.x20) (fun _ _ => rfl) (fun _ _ => rfl) u
    have k12 : (finishSt u).x12 = u.x12 := finishSt_keep (π := fun s : St Ideal => s.x12) (fun _ _ => rfl) (fun _ _ => rfl) u
    obtain ⟨fy, fs⟩ := finish_good (s := u) (by rw [e9]; exact hr.x9) (by rw [e10]; exact hr.x10) hg
    rw [k14, k15, k17, k18, k20, k12]
    refine ⟨hg, hb', fun _ => ⟨funext fun j => ?_, funext fun j => ?_⟩⟩
    · rw [eq_ix2 j]; exact fy (j 0) (j 1)
    · rw [eq_ix2 j]; exact fs (j 0) (j 1)
  · have h9 : n ≠ 9 := fun e => hc (hl.mpr e)
    rw [if_neg hc] at es'
    generalize midSt i s = u at *
    subst es'
    exact ⟨hg, hb', fun e => absurd e h9⟩

variable (m : (ℓ : Loc nD τ sig) → Buf (Elt Ideal) ℓ)

theorem reads_of (c : Dev nD) (t : Fin cfg0.N) (s : St Ideal) (h : Inputs m c t s) : Reads (dataOf m c) t.val s := by
  obtain ⟨h1, h2, h3, h4, h5, h6, h7, h8, h9, h10⟩ := h
  refine ⟨⟨fun r d => ?_, fun d j => ?_⟩, fun r y => ?_, fun g y => ?_, fun j y => ?_, fun y => ?_⟩
  · show s.x1 (ix2 r d) * s.x3 (ix2 0 d) = _
    rw [h1, h3, blk0, blk2]
    rfl
  · show s.x7 (ix2 d j) = _
    rw [h7, blk6]
  · rw [h5, blk4]
  · rw [h6, blk5]
  · rw [h9, blk8]
  · rw [h10, blk9]

theorem first_of (c : Dev nD) (t : Fin cfg0.N) (s : St Ideal) (h : Inputs m c t s) : Src (dataOf m c) 0 cell2 cell4 cell8 s := by
  obtain ⟨h1, h2, h3, h4, h5, h6, h7, h8, h9, h10⟩ := h
  refine ⟨fun r d => ?_, fun d j => ?_⟩
  · show s.x2 (ix2 r d) * s.x4 (ix2 0 d) = _
    rw [h2, h4, blk1, blk3, show 1536 * 0 + d.val = d.val by omega]
    rfl
  · show s.x8 (ix2 d j) = _
    rw [h8, blk7, show 1536 * 0 + d.val = d.val by omega]

/-- The run's data. -/
def spec : Spec m where
  good c n := Good (dataOf m c) n
  y10 c := outY (dataOf m c)
  y11 c t := outB (dataOf m c) t.val
  y12 c := outS (dataOf m c)
  step c t s hin hp := by
    have hN : t.val < 10 := t_lt t
    have hl : k0_cond2 (grid0.coords t) = 1#1 ↔ t.val = 9 := (hcond0_1 t).trans (by omega)
    have hs : atStart (grid0.coords t) = 1#1 ↔ t.val = 0 := (hcond0_0 t).trans (by omega)
    have hr := reads_of m c t s hin
    by_cases h0 : t.val = 0
    · have hR : Ready (dataOf m c) t.val (startSt s) := by
        rw [h0]
        exact start_ready (first_of m c t s hin)
      refine point_ready (grid0.coords t) t.val (coords_zero t) hN (reads_start hr) hR _ hl ?_
      unfold bodySt
      simp only [if_pos (hs.mpr h0)]
    · have hR : Ready (dataOf m c) t.val s := by
        have e : t.val = t.val - 1 + 1 := by omega
        rw [e]
        exact ready_of_good _ (by omega) (hp h0)
      refine point_ready (grid0.coords t) t.val (coords_zero t) hN hr hR _ hl ?_
      unfold bodySt
      simp only [if_neg (fun e => h0 (hs.mp e))]

end Cert.KernelIdeal.Stage
-- ==== Proof.KI.Final.lean ====
module

public import proofs.«01_k».proof.Proof.KI.Value

@[expose] public section

/-!
The run, read.

The result arrays after the run and the arguments, unchanged.
-/

noncomputable section

namespace Cert.KernelIdeal.Stage

open Cert.KernelIdeal.Gen
open Idealize.ShloMosaic Idealize.ShloMosaic.TcCoe Idealize.ShloMosaic.Pointwise
open Idealize.SL Idealize.SL.Sem
open Facts₀ Facts

variable (m : (ℓ : Loc nD τ sig) → Buf (Elt Ideal) ℓ) (ρ : Dev nD → PrngReg)

/-- The packed codes. -/
def outP (D : Data) : Vec Ideal S256x7680 .i8 := fun i => D.byte (i 0).val (i 1).val

theorem last_of {t : Fin cfg0.N} (h : t.val % 10 = 9) : t.val = 9 := by
  have := t_lt t
  omega

theorem flushed10 (c : Dev nD) (t : Fin cfg0.N) (hf : (cfg0.win 10).flush t = true) :
    (dats m (spec m) 0 c).flushed 10 t = ((cfg0.win 10).blk t).view.read (Elt Ideal) (outY (dataOf m c) : Buf (Elt Ideal) ((c : Thread nD τ).loc main_v6_0)) := by
  have hz' : (fun a => win0_10.index t a * main_v6_0.ty.shape.size a) = fun _ => 0 := funext fun a => by
    match a with
    | ⟨0, _⟩ => show 0 * 256 = 0; rfl
    | ⟨1, _⟩ => show 0 * 3840 = 0; rfl
  exact (Memref.read_access_unit_zero (Elt Ideal) main_v6_0 hz' (fun a => by rw [congrFun hz' a]; simp) (outY (dataOf m c) : Buf (Elt Ideal) ((c : Thread nD τ).loc main_v6_0))).symm

theorem flushed12 (c : Dev nD) (t : Fin cfg0.N) (hf : (cfg0.win 12).flush t = true) :
    (dats m (spec m) 0 c).flushed 12 t = ((cfg0.win 12).blk t).view.read (Elt Ideal) (outS (dataOf m c) : Buf (Elt Ideal) ((c : Thread nD τ).loc main_v6_2)) := by
  have hz' : (fun a => win0_12.index t a * main_v6_2.ty.shape.size a) = fun _ => 0 := funext fun a => by
    match a with
    | ⟨0, _⟩ => show 0 * 256 = 0; rfl
    | ⟨1, _⟩ => show 0 * 480 = 0; rfl
  exact (Memref.read_access_unit_zero (Elt Ideal) main_v6_2 hz' (fun a => by rw [congrFun hz' a]; simp) (outS (dataOf m c) : Buf (Elt Ideal) ((c : Thread nD τ).loc main_v6_2))).symm

theorem flushed11 (c : Dev nD) (t : Fin cfg0.N) (hf : (cfg0.win 11).flush t = true) :
    (dats m (spec m) 0 c).flushed 11 t = ((cfg0.win 11).blk t).view.read (Elt Ideal) (outP (dataOf m c) : Buf (Elt Ideal) ((c : Thread nD τ).loc main_v6_1)) := by
  show (outB (dataOf m c) t.val : S256x768.Idx → BitVec 8) = _
  funext j
  rw [View.read_apply]
  have hi : (win0_11.index t 1 : ℕ) = t.val := thisIdx t
  show (dataOf m c).byte (j 0).val (768 * t.val + (j 1).val) = (dataOf m c).byte (0 * 256 + 1 * (j 0).val) (win0_11.index t 1 * 768 + 1 * (j 1).val)
  rw [hi]
  congr 1 <;> omega

theorem final10 (c : Dev nD) : (dats m (spec m) 0 c).arrAt 10 cfg0.N = (outY (dataOf m c) : Buf (Elt Ideal) ((c : Thread nD τ).loc main_v6_0)) :=
  (dats m (spec m) 0 c).arrAt_eq_of_cover 10 _ (flushed10 m c) fun i =>
    let t : Fin cfg0.N := ⟨9, by rw [show cfg0.N = 10 from N_0]; decide⟩
    ⟨t, (flush0_10 t).mpr rfl, by
      show i ∈ ((View.whole main_v6_0).slice (win0_10.rect t)).set
      rw [View.set_slice_whole, Rect.mem_set_unit]
      intro a
      have h0 : (i 0 : Nat) < 256 := (i 0).isLt
      have h1 : (i 1 : Nat) < 3840 := (i 1).isLt
      match a with
      | ⟨0, _⟩ => show 0 * 256 ≤ (i 0 : Nat) ∧ (i 0 : Nat) < 0 * 256 + 256; omega
      | ⟨1, _⟩ => show 0 * 3840 ≤ (i 1 : Nat) ∧ (i 1 : Nat) < 0 * 3840 + 3840; omega⟩

theorem final12 (c : Dev nD) : (dats m (spec m) 0 c).arrAt 12 cfg0.N = (outS (dataOf m c) : Buf (Elt Ideal) ((c : Thread nD τ).loc main_v6_2)) :=
  (dats m (spec m) 0 c).arrAt_eq_of_cover 12 _ (flushed12 m c) fun i =>
    let t : Fin cfg0.N := ⟨9, by rw [show cfg0.N = 10 from N_0]; decide⟩
    ⟨t, (flush0_12 t).mpr rfl, by
      show i ∈ ((View.whole main_v6_2).slice (win0_12.rect t)).set
      rw [View.set_slice_whole, Rect.mem_set_unit]
      intro a
      have h0 : (i 0 : Nat) < 256 := (i 0).isLt
      have h1 : (i 1 : Nat) < 480 := (i 1).isLt
      match a with
      | ⟨0, _⟩ => show 0 * 256 ≤ (i 0 : Nat) ∧ (i 0 : Nat) < 0 * 256 + 256; omega
      | ⟨1, _⟩ => show 0 * 480 ≤ (i 1 : Nat) ∧ (i 1 : Nat) < 0 * 480 + 480; omega⟩

theorem final11 (c : Dev nD) : (dats m (spec m) 0 c).arrAt 11 cfg0.N = (outP (dataOf m c) : Buf (Elt Ideal) ((c : Thread nD τ).loc main_v6_1)) :=
  (dats m (spec m) 0 c).arrAt_eq_of_cover 11 _ (flushed11 m c) fun i => by
    have h0 : (i 0 : Nat) < 256 := (i 0).isLt
    have h1 : (i 1 : Nat) < 7680 := (i 1).isLt
    let t : Fin cfg0.N := ⟨(i 1 : Nat) / 768, by rw [show cfg0.N = 10 from N_0]; omega⟩
    have hi : (win0_11.index t 1 : ℕ) = t.val := thisIdx t
    refine ⟨t, flush0_11 t, ?_⟩
    show i ∈ ((View.whole main_v6_1).slice (win0_11.rect t)).set
    rw [View.set_slice_whole, Rect.mem_set_unit]
    intro a
    match a with
    | ⟨0, _⟩ => show 0 * 256 ≤ (i 0 : Nat) ∧ (i 0 : Nat) < 0 * 256 + 256; omega
    | ⟨1, _⟩ =>
      show win0_11.index t 1 * 768 ≤ (i 1 : Nat) ∧ (i 1 : Nat) < win0_11.index t 1 * 768 + 768
      rw [hi]
      show (i 1 : Nat) / 768 * 768 ≤ (i 1 : Nat) ∧ (i 1 : Nat) < (i 1 : Nat) / 768 * 768 + 768
      omega

/-- The run: the results at the values above, the arguments unchanged, the counters at zero. -/
theorem run : θ_run defs (onTc (τ := τ) (main (F := Ideal))) ⟨m, fun _ => 0, ρ⟩ fun r => (∀ c : Dev nD,
      r.2.mem ((c : Thread nD τ).loc main_v6_0) = outY (dataOf m c)
      ∧ r.2.mem ((c : Thread nD τ).loc main_v6_1) = outP (dataOf m c)
      ∧ r.2.mem ((c : Thread nD τ).loc main_v6_2) = outS (dataOf m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)) ∧ r.2.sem = fun _ => 0 :=
  (θ_run defs _ _).mono (fun r h => ⟨fun c =>
    have hc := h.1 c
    ⟨(hc.1 10).trans (final10 m c), (hc.1 11).trans (final11 m c), (hc.1 12).trans (final12 m c),
      (hc.2 main_arg0 (by decide)).trans (V_main_arg0 m c),
      (hc.2 main_arg1 (by decide)).trans (V_main_arg1 m c),
      ((hc.1 4).trans ((dats m (spec m) 0 c).arrAt_in 4 rfl _)).trans (V_main_arg2 m c),
      (hc.2 main_arg3 (by decide)).trans (V_main_arg3 m c),
      ((hc.1 6).trans ((dats m (spec m) 0 c).arrAt_in 6 rfl _)).trans (V_main_arg4 m c),
      ((hc.1 8).trans ((dats m (spec m) 0 c).arrAt_in 8 rfl _)).trans (V_main_arg5 m c),
      (hc.2 main_arg6 (by decide)).trans (V_main_arg6 m c)⟩, h.2⟩)
    (run_main m ρ (spec m))

end Cert.KernelIdeal.Stage
-- ==== Proof.KI.Scale.lean ====
module

public import proofs.«01_k».proof.Proof.KI.Math
public import Idealize.ShloMosaic.Lib.IdealHost

@[expose] public section

/-!
The scale of a group.

The kernel's scale byte, read off the word of the largest absolute value, and the reference's, a count of powers of
two, are the same.
-/

noncomputable section

namespace Cert.KernelIdeal.Stage

open Idealize.ShloMosaic

/-- Two to an integer power, as the reference writes it. -/
def rPow2 (k : BitVec 32) : EReal :=
  Scalar.select (IntOp.cmpi CmpIPredicate.slt k 4294967170#32) 0
    (Scalar.select (IntOp.cmpi CmpIPredicate.sgt k 127#32) (Ideal.ofBits FTy.f32 2139095040#32)
      (Ideal.pow (Ideal.ofBits FTy.f32 1073741824#32) (FloatOps.sitofp (F := Ideal) FTy.f32 k)))

/-- The exponent the reference counts. -/
def rExp (r : EReal) : BitVec 32 :=
  if r < Ideal.ofBits FTy.f32 8388608#32 then 0#32
  else IntOp.subi
    (Finset.fold IntOp.addi (0#32)
      (fun x : Fin 251 => if rPow2 (IntOp.subi (BitVec.ofNat 32 x.val) 125#32) ≤ r then 1#32 else 0#32) Finset.univ) 125#32

theorem bits_two : Ideal.ofBits .f32 1073741824#32 = ((2 : ℝ) : EReal) := by
  simp [Ideal.ofBits, Ideal.ieee, -EReal.coe_mul]; try norm_num

theorem bits_six : Ideal.ofBits .f32 1086324736#32 = ((6 : ℝ) : EReal) := by
  simp [Ideal.ofBits, Ideal.ieee, -EReal.coe_mul]; try norm_num

theorem bits_tiny : Ideal.ofBits .f32 8388608#32 = (((2 : ℝ) ^ (-126 : ℤ) : ℝ) : EReal) := by
  simp [Ideal.ofBits, Ideal.ieee, -EReal.coe_mul]; try norm_num

theorem bits_top : Ideal.ofBits .f32 2139095040#32 = (⊤ : EReal) := by
  simp [Ideal.ofBits, Ideal.ieee]

theorem bits_scale : Ideal.ofBits .f32 1258291200#32 = ((8388608 : ℝ) : EReal) := by
  simp [Ideal.ofBits, Ideal.ieee, -EReal.coe_mul]; try norm_num

theorem bits_cap : Ideal.ofBits .f32 1258291198#32 = ((8388607 : ℝ) : EReal) := by
  simp [Ideal.ofBits, Ideal.ieee, -EReal.coe_mul]; try norm_num

theorem rPow2_val (b : BitVec 32) (h1 : -126 ≤ b.toInt) (h2 : b.toInt ≤ 127) : rPow2 b = (((2 : ℝ) ^ b.toInt : ℝ) : EReal) := by
  have e1 : IntOp.cmpi CmpIPredicate.slt b 4294967170#32 = 0#1 := by
    have : b.slt 4294967170#32 = false := by
      rw [BitVec.slt_eq_decide, decide_eq_false_iff_not]
      rw [show (4294967170#32).toInt = -126 from by decide +kernel]; omega
    simp only [IntOp.cmpi, this]; rfl
  have e2 : IntOp.cmpi CmpIPredicate.sgt b 127#32 = 0#1 := by
    have : (127#32).slt b = false := by
      rw [BitVec.slt_eq_decide, decide_eq_false_iff_not]
      rw [show (127#32).toInt = 127 from by decide +kernel]; omega
    simp only [IntOp.cmpi, this]; rfl
  unfold rPow2 Scalar.select
  rw [e1, e2, if_neg (by decide), if_neg (by decide), bits_two]
  show ((Real.rpow 2 ((b.toInt : ℝ)) : ℝ) : EReal) = _
  rw [show Real.rpow 2 ((b.toInt : ℝ)) = (2 : ℝ) ^ ((b.toInt : ℝ)) from rfl, Real.rpow_intCast]

theorem rPow2_low (b : BitVec 32) (h1 : b.toInt < -126) : rPow2 b = 0 := by
  have e1 : IntOp.cmpi CmpIPredicate.slt b 4294967170#32 = 1#1 := by
    have : b.slt 4294967170#32 = true := by
      rw [BitVec.slt_eq_decide, decide_eq_true_eq]
      rw [show (4294967170#32).toInt = -126 from by decide +kernel]; omega
    simp only [IntOp.cmpi, this]; rfl
  unfold rPow2 Scalar.select
  rw [e1, if_pos (by decide)]

theorem rPow2_high (b : BitVec 32) (h2 : 127 < b.toInt) : rPow2 b = ⊤ := by
  have e1 : IntOp.cmpi CmpIPredicate.slt b 4294967170#32 = 0#1 := by
    have : b.slt 4294967170#32 = false := by
      rw [BitVec.slt_eq_decide, decide_eq_false_iff_not]
      rw [show (4294967170#32).toInt = -126 from by decide +kernel]; omega
    simp only [IntOp.cmpi, this]; rfl
  have e2 : IntOp.cmpi CmpIPredicate.sgt b 127#32 = 1#1 := by
    have : (127#32).slt b = true := by
      rw [BitVec.slt_eq_decide, decide_eq_true_eq]
      rw [show (127#32).toInt = 127 from by decide +kernel]; omega
    simp only [IntOp.cmpi, this]; rfl
  unfold rPow2 Scalar.select
  rw [e1, e2, if_neg (by decide), if_pos (by decide), bits_top]

/-! ## Powers from exponent fields -/

/-- The number whose exponent field is `f`, all else zero. -/
def efield (f : ℕ) : EReal := Ideal.ofBits FTy.f32 (IntOp.shli ArithUnit.vector (BitVec.ofNat 32 f) 23#32)

theorem field_bits : ∀ f : Fin 256, ((IntOp.shli ArithUnit.vector (BitVec.ofNat 32 f.val) 23#32).extractLsb' (8 + 23) 1 == 1#1) = false
    ∧ ((IntOp.shli ArithUnit.vector (BitVec.ofNat 32 f.val) 23#32).extractLsb' 23 8).toNat = f.val
    ∧ ((IntOp.shli ArithUnit.vector (BitVec.ofNat 32 f.val) 23#32).extractLsb' 0 23).toNat = 0 := by decide +kernel

theorem ofBits_power (b : BitVec 32) (f : ℕ) (h1 : 0 < f) (h2 : f < 255) (e1 : (b.extractLsb' (8 + 23) 1 == 1#1) = false)
    (e2 : (b.extractLsb' 23 8).toNat = f) (e3 : (b.extractLsb' 0 23).toNat = 0) :
    Ideal.ofBits FTy.f32 b = (((2 : ℝ) ^ ((f : ℤ) - 127) : ℝ) : EReal) := by
  show Ideal.ieee 8 23 b = _
  unfold Ideal.ieee
  dsimp only
  rw [e1, e2, e3, if_neg (by norm_num; omega), if_neg (by omega)]
  congr 1
  rw [show ((f : ℤ) - 127 : ℤ) = 23 + ((f : ℤ) - (2 ^ (8 - 1) - 1) - (23 : ℕ)) by push_cast; ring, zpow_add₀ (by norm_num)]
  norm_num

theorem efield_val (f : ℕ) (h1 : 0 < f) (h2 : f < 255) : efield f = (((2 : ℝ) ^ ((f : ℤ) - 127) : ℝ) : EReal) := by
  obtain ⟨e1, e2, e3⟩ := field_bits ⟨f, by omega⟩
  exact ofBits_power _ f h1 h2 e1 e2 e3

theorem efield_zero : efield 0 = 0 := by
  unfold efield
  rw [show IntOp.shli ArithUnit.vector (BitVec.ofNat 32 0) 23#32 = 0#32 from by decide +kernel]
  simp [Ideal.ofBits, Ideal.ieee]

theorem efield_top : efield 255 = ⊤ := by
  unfold efield
  rw [show IntOp.shli ArithUnit.vector (BitVec.ofNat 32 255) 23#32 = 2139095040#32 from by decide +kernel, bits_top]

/-! ## Counting -/

theorem count_fin (n k : ℕ) :
    Finset.fold IntOp.addi (0#32) (fun x : Fin n => if x.val < k then 1#32 else 0#32) Finset.univ = BitVec.ofNat 32 (min n k) := by
  induction n with
  | zero => simp
  | succ n ih =>
    rw [Fin.univ_castSuccEmb, Finset.fold_cons, Finset.fold_map]
    refine (congrArg (IntOp.addi _) ih).trans ?_
    show (if n < k then 1#32 else 0#32) + BitVec.ofNat 32 (min n k) = _
    by_cases h : n < k
    · rw [if_pos h, show min n k = n by omega, show min (n + 1) k = n + 1 by omega, BitVec.add_comm]
      exact (BitVec.ofNat_add n 1).symm
    · rw [if_neg h, show min n k = k by omega, show min (n + 1) k = k by omega]
      exact BitVec.zero_add _

theorem count_of {n : ℕ} (P : Fin n → Prop) [DecidablePred P] (k : ℕ) (hk : k ≤ n) (h : ∀ x, P x ↔ x.val < k) :
    Finset.fold IntOp.addi (0#32) (fun x : Fin n => if P x then 1#32 else 0#32) Finset.univ = BitVec.ofNat 32 k := by
  have e : (fun x : Fin n => if P x then 1#32 else 0#32) = fun x : Fin n => if x.val < k then 1#32 else 0#32 :=
    funext fun x => if_congr (h x) rfl rfl
  rw [e]
  exact (count_fin n k).trans (by rw [show min n k = k by omega])

theorem kExpo_of (a : EReal) (f : ℕ) (hf : f ≤ 255) (h : ∀ x, x < 256 → (efield x ≤ a ↔ x ≤ f)) : kExpo a = BitVec.ofNat 32 f := by
  refine (congrArg (fun z => IntOp.subi z 1#32)
    (count_of (fun x : Fin 256 => efield x.val ≤ a) (f + 1) (by omega) (fun x => (h x.val x.isLt).trans (by omega)))).trans ?_
  show BitVec.ofNat 32 (f + 1) - 1#32 = _
  rw [BitVec.ofNat_add]
  exact BitVec.add_sub_cancel _ _

theorem rExp_of (r : EReal) (n : ℕ) (hn : n ≤ 251) (h0 : Ideal.ofBits FTy.f32 8388608#32 ≤ r)
    (h : ∀ x : ℕ, x < 251 → ((((2 : ℝ) ^ ((x : ℤ) - 125) : ℝ) : EReal) ≤ r ↔ x < n)) :
    rExp r = BitVec.ofNat 32 n - 125#32 := by
  have key : ∀ x : Fin 251, (IntOp.subi (BitVec.ofNat 32 x.val) 125#32).toInt = (x.val : ℤ) - 125 := by decide +kernel
  unfold rExp
  rw [if_neg (not_lt.mpr h0), count_of (n := 251) _ n hn (fun x => ?_)]
  · rfl
  · have := x.isLt
    rw [rPow2_val _ (by rw [key]; omega) (by rw [key]; omega), key]
    exact h x.val x.isLt

/-! ## The word -/

theorem toNat_word (f fr : ℕ) (hf : f ≤ 255) (hfr : fr < 8388608) :
    (IntOp.ori (IntOp.shli ArithUnit.vector (BitVec.ofNat 32 f) 23#32) (BitVec.ofNat 32 fr)).toNat = f * 8388608 + fr := by
  have e : IntOp.shli ArithUnit.vector (BitVec.ofNat 32 f) 23#32 = BitVec.ofNat 32 f <<< (23 : ℕ) := by
    unfold IntOp.shli
    rw [if_pos (by decide)]
    rfl
  rw [e]
  show (BitVec.ofNat 32 f <<< (23 : ℕ) ||| BitVec.ofNat 32 fr).toNat = _
  rw [BitVec.toNat_or, BitVec.toNat_shiftLeft, BitVec.toNat_ofNat, BitVec.toNat_ofNat, Nat.mod_eq_of_lt (by omega : f < 2 ^ 32),
    Nat.mod_eq_of_lt (by omega : fr < 2 ^ 32), Nat.mod_eq_of_lt (by rw [Nat.shiftLeft_eq]; omega),
    ← Nat.shiftLeft_add_eq_or_of_lt (by omega), Nat.shiftLeft_eq]

theorem kScale_of (b : BitVec 32) (f fr : ℕ) (hf : f ≤ 255) (hfr : fr < 8388608) (hb : b.toNat = f * 8388608 + fr)
    (h255 : f = 255 → fr = 0) :
    kScale b = if f * 8388608 + fr < 29360128 then 127#32 else BitVec.ofNat 32 (f + (if 4194304 ≤ fr then 1 else 0) - 2) := by
  have hlt : f * 8388608 + fr < 2143289344 := by
    by_cases h : f = 255
    · rw [h255 h, h]; norm_num
    · omega
  have hi : b.toInt = f * 8388608 + fr := by
    rw [BitVec.toInt_eq_toNat_of_lt (by omega), hb]; push_cast; ring
  unfold kScale Scalar.select
  by_cases h : f * 8388608 + fr < 29360128
  · have : b.slt 29360128#32 = true := by
      rw [BitVec.slt_eq_decide, decide_eq_true_eq, hi, show (29360128#32).toInt = 29360128 from by decide +kernel]; omega
    rw [if_pos h, show IntOp.cmpi CmpIPredicate.slt b 29360128#32 = 1#1 by simp only [IntOp.cmpi, this]; rfl, if_pos (by decide)]
  · have : b.slt 29360128#32 = false := by
      rw [BitVec.slt_eq_decide, decide_eq_false_iff_not, hi, show (29360128#32).toInt = 29360128 from by decide +kernel]; omega
    rw [if_neg h, show IntOp.cmpi CmpIPredicate.slt b 29360128#32 = 0#1 by simp only [IntOp.cmpi, this]; rfl, if_neg (by decide)]
    have hs : (IntOp.addi b 4194304#32).toNat = f * 8388608 + fr + 4194304 := by
      show (b + 4194304#32).toNat = _
      have e : (4194304#32).toNat = 4194304 := by decide +kernel
      have e' := BitVec.toNat_add b 4194304#32
      generalize (b + 4194304#32).toNat = y at *
      omega
    have hm : (IntOp.addi b 4194304#32).msb = false := by
      rw [BitVec.msb_eq_false_iff_two_mul_lt]; omega
    have hr : IntOp.shrsi ArithUnit.vector (IntOp.addi b 4194304#32) 23#32 = BitVec.ofNat 32 (f + (if 4194304 ≤ fr then 1 else 0)) := by
      unfold IntOp.shrsi
      rw [if_pos (by decide)]
      show (IntOp.addi b 4194304#32).sshiftRight 23 = _
      rw [BitVec.sshiftRight_eq_of_msb_false hm]
      apply BitVec.eq_of_toNat_eq
      rw [BitVec.toNat_ushiftRight, hs, Nat.shiftRight_eq_div_pow, BitVec.toNat_ofNat]
      split <;> omega
    rw [hr]
    show BitVec.ofNat 32 _ - 2#32 = _
    apply BitVec.eq_of_toNat_eq
    simp only [BitVec.toNat_sub, BitVec.toNat_ofNat]
    split <;> omega

theorem ideal_div (r y : ℝ) (hy : y ≠ 0) : Ideal.div (r : EReal) (y : EReal) = ((r / y : ℝ) : EReal) := by
  unfold Ideal.div
  rw [if_neg (by simpa using hy), ← EReal.coe_inv, ← EReal.coe_mul, div_eq_mul_inv]

/-- The word of a normal number. -/
theorem kBits_of (r : ℝ) (f : ℕ) (h1 : 0 < f) (h2 : f < 255) (hr : (2 : ℝ) ^ ((f : ℤ) - 127) ≤ r) :
    ∃ fr : ℕ, fr < 8388608 ∧ (kBits (r : EReal) (BitVec.ofNat 32 f)).toNat = f * 8388608 + fr
      ∧ (4194304 ≤ fr ↔ 3 / 2 * (2 : ℝ) ^ ((f : ℤ) - 127) ≤ r) := by
  have hp : (0 : ℝ) < (2 : ℝ) ^ ((f : ℤ) - 127) := by positivity
  have hc : ∀ f : Fin 255, 0 < f.val → IntOp.andi (IntOp.cmpi CmpIPredicate.sgt (BitVec.ofNat 32 f.val) 0#32)
      (IntOp.cmpi CmpIPredicate.slt (BitVec.ofNat 32 f.val) 255#32) = 1#1 := by decide +kernel
  have hy : 0 ≤ (r / (2 : ℝ) ^ ((f : ℤ) - 127) - 1) * 8388608 := by
    have : 1 ≤ r / (2 : ℝ) ^ ((f : ℤ) - 127) := (one_le_div hp).mpr hr
    nlinarith
  have hz : 0 ≤ min ((r / (2 : ℝ) ^ ((f : ℤ) - 127) - 1) * 8388608) 8388607 := le_min hy (by norm_num)
  have hfl : 0 ≤ ⌊min ((r / (2 : ℝ) ^ ((f : ℤ) - 127) - 1) * 8388608) 8388607⌋ := Int.floor_nonneg.mpr hz
  have hfu : ⌊min ((r / (2 : ℝ) ^ ((f : ℤ) - 127) - 1) * 8388608) 8388607⌋ ≤ 8388607 := by
    have : ⌊min ((r / (2 : ℝ) ^ ((f : ℤ) - 127) - 1) * 8388608) 8388607⌋ ≤ ⌊(8388607 : ℝ)⌋ := Int.floor_le_floor (min_le_right _ _)
    refine this.trans ?_
    rw [show (8388607 : ℝ) = ((8388607 : ℤ) : ℝ) by norm_num, Int.floor_intCast]
  refine ⟨⌊min ((r / (2 : ℝ) ^ ((f : ℤ) - 127) - 1) * 8388608) 8388607⌋.toNat, by omega, ?_, ?_⟩
  · rw [← toNat_word f _ (by omega) (by omega)]
    unfold kBits Scalar.select
    rw [hc ⟨f, h2⟩ h1, if_pos (by decide)]
    congr 2
    have e : Ideal.ofBits FTy.f32 (IntOp.shli ArithUnit.vector (BitVec.ofNat 32 f) 23#32) = efield f := rfl
    rw [e, efield_val f h1 h2, ideal_div _ _ hp.ne', bits_scale, bits_cap, ← EReal.coe_one, ← EReal.coe_sub, ← EReal.coe_mul,
      ← EReal.coe_strictMono.monotone.map_min]
    show BitVec.ofInt 32 (max _ (min _ (if 0 ≤ min ((r / (2 : ℝ) ^ ((f : ℤ) - 127) - 1) * 8388608) 8388607 then _ else _))) = _
    rw [if_pos hz]
    generalize ⌊min ((r / (2 : ℝ) ^ ((f : ℤ) - 127) - 1) * 8388608) 8388607⌋ = q at *
    rw [show max (-((2 ^ (32 - 1) : ℕ) : ℤ)) (min (((2 ^ (32 - 1) : ℕ) : ℤ) - 1) q) = ((q.toNat : ℕ) : ℤ) by norm_num; omega]
    exact BitVec.ofInt_natCast 32 _
  · rw [show (4194304 ≤ ⌊min ((r / (2 : ℝ) ^ ((f : ℤ) - 127) - 1) * 8388608) 8388607⌋.toNat) ↔
      (4194304 : ℤ) ≤ ⌊min ((r / (2 : ℝ) ^ ((f : ℤ) - 127) - 1) * 8388608) 8388607⌋ by omega, Int.le_floor, le_min_iff]
    constructor
    · rintro ⟨h, -⟩
      have h' : (1 / 2 : ℝ) ≤ r / (2 : ℝ) ^ ((f : ℤ) - 127) - 1 := by push_cast at h; linarith
      have : (3 / 2 : ℝ) ≤ r / (2 : ℝ) ^ ((f : ℤ) - 127) := by linarith
      exact (le_div_iff₀ hp).mp this
    · intro h
      have : (3 / 2 : ℝ) ≤ r / (2 : ℝ) ^ ((f : ℤ) - 127) := (le_div_iff₀ hp).mpr h
      refine ⟨?_, by norm_num⟩
      push_cast
      linarith

end Cert.KernelIdeal.Stage
-- ==== Proof.KI.Scale2.lean ====
module

public import proofs.«01_k».proof.Proof.KI.Scale

@[expose] public section

/-!
The scale byte is the exponent the reference counts.
-/

noncomputable section

namespace Cert.KernelIdeal.Stage

open Idealize.ShloMosaic

theorem two_le_two {a b : ℤ} (h : a ≤ b) : (2 : ℝ) ^ a ≤ (2 : ℝ) ^ b := zpow_le_zpow_right₀ (by norm_num) h

theorem two_step (a : ℤ) : (2 : ℝ) ^ (a + 1) = 2 * (2 : ℝ) ^ a := by
  rw [zpow_add₀ (by norm_num)]; ring

theorem word_sub (n : ℕ) : BitVec.ofNat 32 n - 125#32 = BitVec.ofNat 32 (n + 2) - 127#32 := by
  apply BitVec.eq_of_toNat_eq
  simp only [BitVec.toNat_sub, BitVec.toNat_ofNat]
  omega

theorem kBits_edge (a : EReal) (e : BitVec 32)
    (h : IntOp.andi (IntOp.cmpi CmpIPredicate.sgt e 0#32) (IntOp.cmpi CmpIPredicate.slt e 255#32) = 0#1) :
    kBits a e = IntOp.ori (IntOp.shli ArithUnit.vector e 23#32) 0#32 := by
  unfold kBits Scalar.select
  rw [h, if_neg (by decide)]

theorem kSb_top : kSb ⊤ = 253#32 ∧ rExp (Ideal.div ⊤ (Ideal.ofBits FTy.f32 1086324736#32)) = BitVec.ofNat 32 253 - 127#32 := by
  have e : kExpo ⊤ = BitVec.ofNat 32 255 := kExpo_of _ 255 (by norm_num) fun x hx => ⟨fun _ => by omega, fun _ => le_top⟩
  constructor
  · unfold kSb
    rw [e, kBits_edge _ _ (by decide +kernel),
      kScale_of _ 255 0 (by norm_num) (by norm_num) (by decide +kernel) (fun _ => rfl)]
    norm_num
  · have d : Ideal.div ⊤ (Ideal.ofBits FTy.f32 1086324736#32) = ⊤ := by
      rw [bits_six]
      unfold Ideal.div
      rw [if_neg (by simp), ← EReal.coe_inv, EReal.top_mul_coe_of_pos (by norm_num)]
    rw [d, rExp_of _ 251 (by norm_num) le_top (fun x hx => ⟨fun _ => hx, fun _ => le_top⟩)]
    decide +kernel

theorem kExpo_real (r : ℝ) (f : ℕ) (h1 : 0 < f) (h2 : f < 255) (hr : (2 : ℝ) ^ ((f : ℤ) - 127) ≤ r)
    (hu : f < 254 → r < (2 : ℝ) ^ ((f : ℤ) - 126)) : kExpo (r : EReal) = BitVec.ofNat 32 f := by
  refine kExpo_of _ f (by omega) fun x hx => ?_
  rcases Nat.eq_zero_or_pos x with rfl | h0
  · rw [efield_zero]
    exact ⟨fun _ => by omega, fun _ => EReal.coe_nonneg.mpr ((by positivity : (0 : ℝ) ≤ (2 : ℝ) ^ ((f : ℤ) - 127)).trans hr)⟩
  · by_cases h : x = 255
    · subst h
      rw [efield_top]
      exact ⟨fun h => absurd (top_le_iff.mp h) (EReal.coe_ne_top r), fun h => by omega⟩
    · rw [efield_val x h0 (by omega), EReal.coe_le_coe_iff]
      constructor
      · intro h'
        by_contra hn
        have := hu (by omega)
        have := two_le_two (show (f : ℤ) - 126 ≤ (x : ℤ) - 127 by omega)
        linarith
      · intro h'
        exact (two_le_two (show (x : ℤ) - 127 ≤ (f : ℤ) - 127 by omega)).trans hr

theorem exists_field (r : ℝ) (h : (2 : ℝ) ^ (-126 : ℤ) ≤ r) :
    ∃ f : ℕ, 0 < f ∧ f < 255 ∧ (2 : ℝ) ^ ((f : ℤ) - 127) ≤ r ∧ (f < 254 → r < (2 : ℝ) ^ ((f : ℤ) - 126)) := by
  by_cases hb : (2 : ℝ) ^ (127 : ℤ) ≤ r
  · exact ⟨254, by norm_num, by norm_num, by norm_num at hb ⊢; exact hb, fun h => by omega⟩
  · obtain ⟨k, hk1, hk2⟩ := exists_mem_Ico_zpow (x := r) (y := (2 : ℝ)) (lt_of_lt_of_le (by positivity) h) (by norm_num)
    have ha : -126 ≤ k := by
      by_contra hn
      have := two_le_two (show k + 1 ≤ -126 by omega)
      linarith
    have hc : k < 127 := by
      by_contra hn
      have := two_le_two (show 127 ≤ k by omega)
      exact hb (this.trans hk1)
    refine ⟨(k + 127).toNat, by omega, by omega, ?_, fun _ => ?_⟩
    · rw [show (((k + 127).toNat : ℕ) : ℤ) - 127 = k by omega]; exact hk1
    · rw [show (((k + 127).toNat : ℕ) : ℤ) - 126 = k + 1 by omega]; exact hk2

theorem kSb_real (r : ℝ) (h0 : 0 ≤ r) : ∃ s : ℕ, 2 ≤ s ∧ s ≤ 253 ∧ kSb (r : EReal) = BitVec.ofNat 32 s
    ∧ rExp (Ideal.div (r : EReal) (Ideal.ofBits FTy.f32 1086324736#32)) = BitVec.ofNat 32 s - 127#32 := by
  have hq : (2 : ℝ) ^ (-126 : ℤ) > 0 := by positivity
  have small : r / 6 < (2 : ℝ) ^ (-126 : ℤ) →
      rExp (Ideal.div (r : EReal) (Ideal.ofBits FTy.f32 1086324736#32)) = BitVec.ofNat 32 127 - 127#32 := by
    intro h
    rw [bits_six, ideal_div _ _ (by norm_num)]
    unfold rExp
    rw [bits_tiny, if_pos (EReal.coe_lt_coe_iff.mpr h)]
    decide +kernel
  by_cases ht : (2 : ℝ) ^ (-126 : ℤ) ≤ r
  swap
  · have ht' := not_le.mp ht
    have e : kExpo (r : EReal) = BitVec.ofNat 32 0 := by
      refine kExpo_of _ 0 (by norm_num) fun x hx => ?_
      rcases Nat.eq_zero_or_pos x with rfl | h1
      · rw [efield_zero]; exact ⟨fun _ => le_rfl, fun _ => EReal.coe_nonneg.mpr h0⟩
      · by_cases h : x = 255
        · subst h
          rw [efield_top]
          exact ⟨fun h => absurd (top_le_iff.mp h) (EReal.coe_ne_top r), fun h => by omega⟩
        · rw [efield_val x h1 (by omega), EReal.coe_le_coe_iff]
          have := two_le_two (show (-126 : ℤ) ≤ (x : ℤ) - 127 by omega)
          exact ⟨fun h => by linarith, fun h => by omega⟩
    refine ⟨127, by norm_num, by norm_num, ?_, small (by generalize (2 : ℝ) ^ (-126 : ℤ) = Q at *; linarith)⟩
    unfold kSb
    rw [e, kBits_edge _ _ (by decide +kernel), kScale_of _ 0 0 (by norm_num) (by norm_num) (by decide +kernel) (fun _ => rfl)]
    norm_num
  · obtain ⟨f, f0, f1, hl, hu⟩ := exists_field r ht
    obtain ⟨fr, hfr, hw, hh⟩ := kBits_of r f f0 f1 hl
    have hk : kSb (r : EReal) = if f * 8388608 + fr < 29360128 then 127#32 else BitVec.ofNat 32 (f + (if 4194304 ≤ fr then 1 else 0) - 2) := by
      unfold kSb
      rw [kExpo_real r f f0 f1 hl hu]
      exact kScale_of _ f fr (by omega) hfr hw (fun h => by omega)
    have p124 : (2 : ℝ) ^ (-124 : ℤ) = 4 * (2 : ℝ) ^ (-126 : ℤ) := by norm_num
    have p123 : (2 : ℝ) ^ (-123 : ℤ) = 8 * (2 : ℝ) ^ (-126 : ℤ) := by norm_num
    by_cases hs : r / 6 < (2 : ℝ) ^ (-126 : ℤ)
    · have f3 : f < 4 := by
        by_contra hn
        have := two_le_two (show (-123 : ℤ) ≤ (f : ℤ) - 127 by omega)
        rw [p123] at this
        generalize (2 : ℝ) ^ (-126 : ℤ) = Q at *
        linarith
      have : f * 8388608 + fr < 29360128 := by
        by_cases h3 : f = 3
        · have : ¬ 4194304 ≤ fr := by
            rw [hh, h3]
            have : (2 : ℝ) ^ (((3 : ℕ) : ℤ) - 127) = 4 * (2 : ℝ) ^ (-126 : ℤ) := by norm_num
            rw [this]
            intro; linarith
          omega
        · omega
      rw [if_pos this] at hk
      exact ⟨127, by norm_num, by norm_num, hk, small hs⟩
    · have hs' := not_lt.mp hs
      have f3 : 3 ≤ f := by
        by_contra hn
        have := hu (by omega)
        have := two_le_two (show (f : ℤ) - 126 ≤ -124 by omega)
        rw [p124] at this
        generalize (2 : ℝ) ^ (-126 : ℤ) = Q at *
        linarith
      have h33 : f = 3 → 4194304 ≤ fr := by
        intro h3
        rw [hh, h3]
        have : (2 : ℝ) ^ (((3 : ℕ) : ℤ) - 127) = 4 * (2 : ℝ) ^ (-126 : ℤ) := by norm_num
        rw [this]
        linarith
      have hbig : ¬ f * 8388608 + fr < 29360128 := by
        by_cases h3 : f = 3
        · have := h33 h3; omega
        · omega
      rw [if_neg hbig] at hk
      have hpos : 4 ≤ f + (if 4194304 ≤ fr then 1 else 0) := by
        by_cases h3 : f = 3
        · rw [if_pos (h33 h3)]; omega
        · omega
      have hle : f + (if 4194304 ≤ fr then 1 else 0) ≤ 255 := by split <;> omega
      refine ⟨f + (if 4194304 ≤ fr then 1 else 0) - 2, by omega, by omega, hk, ?_⟩
      rw [bits_six, ideal_div _ _ (by norm_num),
        rExp_of _ (f + (if 4194304 ≤ fr then 1 else 0) - 4) (by omega) (by rw [bits_tiny]; exact EReal.coe_le_coe_iff.mpr hs') ?_,
        word_sub]
      · rw [show f + (if 4194304 ≤ fr then 1 else 0) - 4 + 2 = f + (if 4194304 ≤ fr then 1 else 0) - 2 by omega]
      · intro x hx
        have hp : (0 : ℝ) < (2 : ℝ) ^ ((x : ℤ) - 125) := by positivity
        have h4 : (2 : ℝ) ^ ((x : ℤ) - 123) = 4 * (2 : ℝ) ^ ((x : ℤ) - 125) := by
          rw [show (x : ℤ) - 123 = ((x : ℤ) - 125) + 1 + 1 by ring, two_step, two_step]; ring
        have h8 : (2 : ℝ) ^ ((x : ℤ) - 122) = 8 * (2 : ℝ) ^ ((x : ℤ) - 125) := by
          rw [show (x : ℤ) - 122 = ((x : ℤ) - 125) + 1 + 1 + 1 by ring, two_step, two_step, two_step]; ring
        rw [EReal.coe_le_coe_iff, le_div_iff₀ (by norm_num)]
        rcases lt_trichotomy (x + 4) f with h | h | h
        · have := two_le_two (show (x : ℤ) - 122 ≤ (f : ℤ) - 127 by omega)
          exact ⟨fun _ => by omega, fun _ => by linarith⟩
        · rw [show (x : ℤ) - 123 = (f : ℤ) - 127 by omega] at h4
          rw [h4] at hh
          constructor
          · intro h'
            rw [if_pos (hh.mpr (by linarith))]; omega
          · intro h'
            have : 4194304 ≤ fr := by
              by_contra hn
              rw [if_neg hn] at h'
              omega
            have := hh.mp this
            linarith
        · have h1 := hu (by omega)
          have := two_le_two (show (f : ℤ) - 126 ≤ (x : ℤ) - 123 by omega)
          constructor
          · intro; linarith
          · intro h'
            exfalso
            have : f + (if 4194304 ≤ fr then 1 else 0) ≤ f + 1 := by split <;> omega
            omega

/-- The scale byte against the counted exponent. -/
theorem kSb_eq (a : EReal) (h0 : 0 ≤ a) : ∃ s : ℕ, 2 ≤ s ∧ s ≤ 253 ∧ kSb a = BitVec.ofNat 32 s
    ∧ rExp (Ideal.div a (Ideal.ofBits FTy.f32 1086324736#32)) = BitVec.ofNat 32 s - 127#32 := by
  induction a with
  | bot => exact absurd h0 (by simp)
  | coe r => exact kSb_real r (EReal.coe_nonneg.mp h0)
  | top => exact ⟨253, by norm_num, by norm_num, kSb_top.1, kSb_top.2⟩

theorem kAmax_nonneg (v : Fin 32 → EReal) : 0 ≤ kAmax v := by
  unfold kAmax
  refine (?_ : (0 : EReal) ≤ max (v 0) (-v 0)).trans ((Finset.le_fold_max _).mpr (Or.inr ⟨0, Finset.mem_univ _, le_rfl⟩))
  rcases le_total 0 (v 0) with h | h
  · exact le_max_of_le_left h
  · exact le_max_of_le_right (by simpa using EReal.neg_le_neg_iff.mpr h)

/-- The number by which the kernel multiplies is the power the reference divides by, turned over. -/
theorem inv_eq (s : ℕ) (h1 : 2 ≤ s) (h2 : s ≤ 253) :
    Ideal.ofBits FTy.f32 (IntOp.shli ArithUnit.vector (IntOp.subi (254#32) (BitVec.ofNat 32 s)) 23#32)
      = rPow2 (-(BitVec.ofNat 32 s - 127#32)) := by
  have k : ∀ x : Fin 254, 2 ≤ x.val → IntOp.subi (254#32) (BitVec.ofNat 32 x.val) = BitVec.ofNat 32 (254 - x.val)
      ∧ (-(BitVec.ofNat 32 x.val - 127#32)).toInt = 127 - (x.val : ℤ) := by decide +kernel
  obtain ⟨e1, e2⟩ := k ⟨s, by omega⟩ h1
  dsimp only at e1 e2
  rw [e1, rPow2_val _ (by rw [e2]; omega) (by rw [e2]; omega), e2]
  refine (efield_val (254 - s) (by omega) (by omega)).trans ?_
  rw [show (((254 - s : ℕ)) : ℤ) - 127 = 127 - (s : ℤ) by omega]

end Cert.KernelIdeal.Stage
-- ==== Proof.KI.Bytes.lean ====
module

public import proofs.«01_k».proof.Proof.KI.Scale2

@[expose] public section

/-!
Packed codes, scale numbers and decoding.

Statements about the finitely many codes and scale bytes, and about the word of eight codes.
-/

noncomputable section

namespace Cert.KernelIdeal.Stage

open Idealize.ShloMosaic

/-! ## Scale numbers -/

theorem bf16_power (b : BitVec 16) (f : ℕ) (h1 : 0 < f) (h2 : f < 255) (e1 : (b.extractLsb' (8 + 7) 1 == 1#1) = false)
    (e2 : (b.extractLsb' 7 8).toNat = f) (e3 : (b.extractLsb' 0 7).toNat = 0) :
    Ideal.ofBits FTy.bf16 b = (((2 : ℝ) ^ ((f : ℤ) - 127) : ℝ) : EReal) := by
  show Ideal.ieee 8 7 b = _
  unfold Ideal.ieee
  dsimp only
  rw [e1, e2, e3, if_neg (by norm_num; omega), if_neg (by omega)]
  congr 1
  rw [show ((f : ℤ) - 127 : ℤ) = 7 + ((f : ℤ) - (2 ^ (8 - 1) - 1) - (7 : ℕ)) by push_cast; ring, zpow_add₀ (by norm_num)]
  norm_num

theorem pair_bits : ∀ (f : Fin 256) (p : Fin 2),
    (((kPair (BitVec.ofNat 32 f.val)).extractLsb' (16 * p.val) 16).extractLsb' (8 + 7) 1 == 1#1) = false
    ∧ (((kPair (BitVec.ofNat 32 f.val)).extractLsb' (16 * p.val) 16).extractLsb' 7 8).toNat = f.val
    ∧ (((kPair (BitVec.ofNat 32 f.val)).extractLsb' (16 * p.val) 16).extractLsb' 0 7).toNat = 0
    ∧ (IntOp.subi (BitVec.ofNat 32 f.val) 127#32).toInt = (f.val : ℤ) - 127 := by decide +kernel

theorem kHalf_eq (f : Fin 256) (p : ℕ) (hp : p < 2) :
    kHalf (kPair (BitVec.ofNat 32 f.val)) p = rPow2 (IntOp.subi (BitVec.ofNat 32 f.val) 127#32) := by
  obtain ⟨e1, e2, e3, e4⟩ := pair_bits f ⟨p, hp⟩
  have z : ∀ p : Fin 2, (kPair (BitVec.ofNat 32 0)).extractLsb' (16 * p.val) 16 = 0#16
      ∧ (kPair (BitVec.ofNat 32 255)).extractLsb' (16 * p.val) 16 = 32640#16 := by decide +kernel
  by_cases h0 : f.val = 0
  · rw [rPow2_low _ (by rw [e4, h0]; norm_num), h0]
    unfold kHalf
    rw [(z ⟨p, hp⟩).1]
    simp [Ideal.ofBits, Ideal.ieee]
  · by_cases h1 : f.val = 255
    · rw [rPow2_high _ (by rw [e4, h1]; norm_num), h1]
      unfold kHalf
      rw [(z ⟨p, hp⟩).2]
      simp [Ideal.ofBits, Ideal.ieee]
    · rw [rPow2_val _ (by rw [e4]; omega) (by rw [e4]; omega), e4]
      exact bf16_power _ f.val (by omega) (by omega) e1 e2 e3

/-! ## Decoding -/

/-- The number of a code without sign, as the reference writes it. -/
def rDecMag (q : BitVec 32) : EReal :=
  Scalar.select (IntOp.cmpi CmpIPredicate.ne (IntOp.andi q 4#32) 0#32)
      (Scalar.select (IntOp.cmpi CmpIPredicate.ne (IntOp.andi q 2#32) 0#32)
        (Scalar.select (IntOp.cmpi CmpIPredicate.ne (IntOp.andi q 1#32) 0#32)
          (Ideal.ofBits FTy.bf16 16576#16) (Ideal.ofBits FTy.bf16 16512#16))
        (Scalar.select (IntOp.cmpi CmpIPredicate.ne (IntOp.andi q 1#32) 0#32)
          (Ideal.ofBits FTy.bf16 16448#16) (Ideal.ofBits FTy.bf16 16384#16)))
      (Scalar.select (IntOp.cmpi CmpIPredicate.ne (IntOp.andi q 2#32) 0#32)
        (Scalar.select (IntOp.cmpi CmpIPredicate.ne (IntOp.andi q 1#32) 0#32)
          (Ideal.ofBits FTy.bf16 16320#16) 1)
        (Scalar.select (IntOp.cmpi CmpIPredicate.ne (IntOp.andi q 1#32) 0#32)
          (Ideal.ofBits FTy.bf16 16128#16) 0))

/-- The number of a code. -/
def rDec (q : BitVec 32) : EReal :=
  Scalar.select (IntOp.cmpi CmpIPredicate.ne (IntOp.andi q 8#32) 0#32) (-rDecMag q) (rDecMag q)

theorem b_six : Ideal.ofBits .bf16 16576#16 = ((6 : ℝ) : EReal) := by
  simp [Ideal.ofBits, Ideal.ieee, -EReal.coe_mul]; try norm_num
theorem b_four : Ideal.ofBits .bf16 16512#16 = ((4 : ℝ) : EReal) := by
  simp [Ideal.ofBits, Ideal.ieee, -EReal.coe_mul]; try norm_num
theorem b_three : Ideal.ofBits .bf16 16448#16 = ((3 : ℝ) : EReal) := by
  simp [Ideal.ofBits, Ideal.ieee, -EReal.coe_mul]; try norm_num
theorem b_two : Ideal.ofBits .bf16 16384#16 = ((2 : ℝ) : EReal) := by
  simp [Ideal.ofBits, Ideal.ieee, -EReal.coe_mul]; try norm_num
theorem b_three_halves : Ideal.ofBits .bf16 16320#16 = ((3 / 2 : ℝ) : EReal) := by
  simp [Ideal.ofBits, Ideal.ieee, -EReal.coe_mul]; try norm_num
theorem b_half : Ideal.ofBits .bf16 16128#16 = ((1 / 2 : ℝ) : EReal) := by
  simp [Ideal.ofBits, Ideal.ieee, -EReal.coe_mul]; try norm_num
theorem f_half : Ideal.ofBits .f32 1056964608#32 = ((1 / 2 : ℝ) : EReal) := by
  simp [Ideal.ofBits, Ideal.ieee, -EReal.coe_mul]; try norm_num

/-- Twice the number of a code without sign. -/
def twice (q : BitVec 32) : BitVec 32 :=
  Scalar.select (IntOp.cmpi CmpIPredicate.slt (IntOp.andi q 7#32) 4#32)
    (IntOp.andi q 7#32)
    (Scalar.select (IntOp.cmpi CmpIPredicate.slt (IntOp.andi q 7#32) 6#32)
      (IntOp.subi (IntOp.muli (2#32) (IntOp.andi q 7#32)) 4#32)
      (IntOp.subi (IntOp.muli (4#32) (IntOp.andi q 7#32)) 16#32))

theorem select_ofBool {α : Type} (b : Bool) (x y : α) : Scalar.select (BitVec.ofBool b) x y = if b then x else y := by
  cases b <;> rfl

theorem twice_of (x : Fin 16) : rDecMag (BitVec.ofNat 32 x.val)
    = ((((twice (BitVec.ofNat 32 x.val)).toInt : ℝ) : ℝ) : EReal) * ((1 / 2 : ℝ) : EReal) := by
  unfold rDecMag
  rw [b_six, b_four, b_three, b_two, b_three_halves, b_half, ← EReal.coe_mul, ← EReal.coe_one, ← EReal.coe_zero]
  have t : (twice (BitVec.ofNat 32 x.val)).toInt = (![0, 1, 2, 3, 4, 6, 8, 12, 0, 1, 2, 3, 4, 6, 8, 12] : Fin 16 → ℤ) x := by
    revert x; decide +kernel
  have k : IntOp.cmpi CmpIPredicate.ne (IntOp.andi (BitVec.ofNat 32 x.val) 4#32) 0#32 = BitVec.ofBool (decide (x.val / 4 % 2 = 1))
      ∧ IntOp.cmpi CmpIPredicate.ne (IntOp.andi (BitVec.ofNat 32 x.val) 2#32) 0#32 = BitVec.ofBool (decide (x.val / 2 % 2 = 1))
      ∧ IntOp.cmpi CmpIPredicate.ne (IntOp.andi (BitVec.ofNat 32 x.val) 1#32) 0#32 = BitVec.ofBool (decide (x.val % 2 = 1)) := by
    clear t
    revert x; decide +kernel
  rw [t, k.1, k.2.1, k.2.2]
  simp only [select_ofBool, ← apply_ite (fun r : ℝ => (r : EReal))]
  refine congrArg (fun r : ℝ => (r : EReal)) ?_
  clear t k
  fin_cases x <;> norm_num

theorem kDec_eq (x : Fin 16) : kDec (BitVec.ofNat 32 x.val) = rDec (BitVec.ofNat 32 x.val) := by
  unfold rDec
  rw [twice_of, ← f_half, ← zero_sub]
  rfl

/-! ## Packing -/

theorem shl_lt (u : ArithUnit) (v : BitVec 32) (n : ℕ) (h : n < 32) : IntOp.shli u v (BitVec.ofNat 32 n) = v <<< n := by
  unfold IntOp.shli
  have : (BitVec.ofNat 32 n).toNat = n := by rw [BitVec.toNat_ofNat]; omega
  rw [this, if_pos h]
  show v <<< (BitVec.ofNat 32 n).toNat = _
  rw [this]

theorem kWord_eq (w : ℕ → BitVec 32) :
    kWord w = w 0 ||| w 1 <<< 4 ||| w 2 <<< 8 ||| w 3 <<< 12 ||| w 4 <<< 16 ||| w 5 <<< 20 ||| w 6 <<< 24 ||| w 7 <<< 28 := by
  unfold kWord
  rw [shl_lt _ _ 4 (by decide), shl_lt _ _ 8 (by decide), shl_lt _ _ 12 (by decide), shl_lt _ _ 16 (by decide),
    shl_lt _ _ 20 (by decide), shl_lt _ _ 24 (by decide), shl_lt _ _ 28 (by decide)]
  rfl

theorem kWord_byte (w : ℕ → BitVec 32) (h : ∀ i p, 4 ≤ p → (w i).getLsbD p = false) (i : Fin 4) :
    (kWord w).extractLsb' (8 * i.val) 8 = BitVec.setWidth 8 (w (2 * i.val) ||| w (2 * i.val + 1) <<< 4) := by
  rw [kWord_eq]
  have h' : ∀ (i p : ℕ) (hp : p < 32), 4 ≤ p → (w i)[p] = false := fun i p hp h4 => by
    rw [← BitVec.getLsbD_eq_getElem]; exact h i p h4
  apply BitVec.eq_of_getLsbD_eq
  intro p hp
  fin_cases i <;> interval_cases p <;> simp [BitVec.getLsbD_extractLsb', h, h']

/-- Clearing the sign of zero in both codes of a byte. -/
def clear8 (b : BitVec 8) : BitVec 8 :=
  (b &&& 119#8) ||| ((b &&& ((b &&& 119#8) <<< 1 ||| (b &&& 119#8) <<< 2 ||| (b &&& 119#8) <<< 3)) &&& 136#8)

theorem kClear_eq (w : BitVec 32) : kClear w = (w &&& 2004318071#32) |||
    ((w &&& ((w &&& 2004318071#32) <<< 1 ||| (w &&& 2004318071#32) <<< 2 ||| (w &&& 2004318071#32) <<< 3)) &&& 2290649224#32) := by
  unfold kClear
  rw [shl_lt _ _ 1 (by decide), shl_lt _ _ 2 (by decide), shl_lt _ _ 3 (by decide)]
  rfl

theorem kClear_byte (w : BitVec 32) (i : Fin 4) :
    (kClear w).extractLsb' (8 * i.val) 8 = clear8 (w.extractLsb' (8 * i.val) 8) := by
  rw [kClear_eq]
  unfold clear8
  apply BitVec.eq_of_getLsbD_eq
  intro p hp
  fin_cases i <;> interval_cases p <;> simp [BitVec.getLsbD_extractLsb']

/-- A code without the sign of zero. -/
def clr (c : BitVec 32) : BitVec 32 := if c = 8#32 then 0#32 else c

theorem small_bits (c : Fin 16) (p : ℕ) (hp : 4 ≤ p) : (BitVec.ofNat 32 c.val).getLsbD p = false := by
  rw [BitVec.getLsbD, BitVec.toNat_ofNat]
  refine Nat.testBit_lt_two_pow (lt_of_le_of_lt (Nat.mod_le _ _) (c.isLt.trans_le ?_))
  exact (show (16 : ℕ) = 2 ^ 4 from rfl) ▸ Nat.pow_le_pow_right (by norm_num) hp

/-- A byte of the kernel's word is the reference's byte. -/
theorem byte_eq (c : ℕ → Fin 16) (i : Fin 4) :
    (kClear (kWord fun k => if k < 8 then BitVec.ofNat 32 (c k).val else 0#32)).extractLsb' (8 * i.val) 8
      = BitVec.setWidth 8 (IntOp.ori (clr (BitVec.ofNat 32 (c (2 * i.val)).val))
          (IntOp.shli ArithUnit.host (clr (BitVec.ofNat 32 (c (2 * i.val + 1)).val)) 4#32)) := by
  rw [kClear_byte, kWord_byte _ fun k p hp => by
    split
    · exact small_bits _ p hp
    · simp]
  rw [if_pos (by omega), if_pos (by omega)]
  have k : ∀ a b : Fin 16, clear8 (BitVec.setWidth 8 (BitVec.ofNat 32 a.val ||| BitVec.ofNat 32 b.val <<< 4))
      = BitVec.setWidth 8 (IntOp.ori (clr (BitVec.ofNat 32 a.val)) (IntOp.shli ArithUnit.host (clr (BitVec.ofNat 32 b.val)) 4#32)) := by
    decide +kernel
  exact k _ _

/-- The reference's two codes of a byte it packed. -/
theorem unpack_eq : ∀ a b : Fin 16,
    IntOp.andi (BitVec.setWidth 32 (BitVec.setWidth 8 (IntOp.ori (clr (BitVec.ofNat 32 a.val))
      (IntOp.shli ArithUnit.host (clr (BitVec.ofNat 32 b.val)) 4#32)))) 15#32 = clr (BitVec.ofNat 32 a.val)
    ∧ IntOp.shrsi ArithUnit.host (BitVec.setWidth 32 (BitVec.setWidth 8 (IntOp.ori (clr (BitVec.ofNat 32 a.val))
      (IntOp.shli ArithUnit.host (clr (BitVec.ofNat 32 b.val)) 4#32)))) 4#32 = clr (BitVec.ofNat 32 b.val) := by
  decide +kernel

theorem rDec_clr (x : Fin 16) : rDec (clr (BitVec.ofNat 32 x.val)) = kDec (BitVec.ofNat 32 x.val) := by
  rw [kDec_eq]
  by_cases h : x = 8
  · subst h
    have e : clr (BitVec.ofNat 32 (8 : Fin 16).val) = 0#32 := by decide +kernel
    rw [e]
    simp [rDec, rDecMag, Scalar.select, IntOp.cmpi, IntOp.andi]
  · have e : ∀ x : Fin 16, x ≠ 8 → clr (BitVec.ofNat 32 x.val) = BitVec.ofNat 32 x.val := by decide +kernel
    rw [e x h]

/-- A weight's code in a byte. -/
theorem nibble_eq : ∀ b : Fin 256,
    IntOp.andi (BitVec.setWidth 32 (BitVec.ofNat 8 b.val)) 15#32 = BitVec.ofNat 32 (b.val % 16)
    ∧ IntOp.shrsi ArithUnit.vector (BitVec.setWidth 32 (BitVec.ofNat 8 b.val)) 4#32 = BitVec.ofNat 32 (b.val / 16)
    ∧ IntOp.shrsi ArithUnit.host (BitVec.setWidth 32 (BitVec.ofNat 8 b.val)) 4#32 = BitVec.ofNat 32 (b.val / 16) := by
  decide +kernel

theorem weight_lo (b : BitVec 8) (d : ℕ) (hd : d % 2 = 0) :
    kDec (kNibble b d) = rDec (IntOp.andi (BitVec.setWidth 32 b) 15#32) := by
  have e := (nibble_eq ⟨b.toNat, b.isLt⟩).1
  rw [BitVec.ofNat_toNat, BitVec.setWidth_eq] at e
  unfold kNibble
  rw [if_pos (by omega), e]
  exact kDec_eq ⟨b.toNat % 16, by omega⟩

theorem weight_hi (b : BitVec 8) (d : ℕ) (hd : d % 2 = 1) :
    kDec (kNibble b d) = rDec (IntOp.shrsi ArithUnit.host (BitVec.setWidth 32 b) 4#32) := by
  obtain ⟨-, e1, e2⟩ := nibble_eq ⟨b.toNat, b.isLt⟩
  rw [BitVec.ofNat_toNat, BitVec.setWidth_eq] at e1 e2
  unfold kNibble
  rw [if_neg (by omega), e1, e2]
  have := b.isLt
  exact kDec_eq ⟨b.toNat / 16, by omega⟩

end Cert.KernelIdeal.Stage
-- ==== Proof.KI.Codes.lean ====
module

public import proofs.«01_k».proof.Proof.KI.Bytes

@[expose] public section

/-!
The code of a value.

The kernel counts thresholds, the reference rounds: the codes agree up to the sign of zero.
-/

noncomputable section

namespace Cert.KernelIdeal.Stage

open Idealize.ShloMosaic

/-- The magnitude rounded to the format, as the reference writes it. -/
def rRound (w : EReal) : EReal :=
  if min (FloatOps.absf (F := Ideal) (φ := .f32) w) (Ideal.ofBits FTy.f32 1086324736#32) < Ideal.ofBits FTy.f32 1073741824#32 then
    Ideal.liftRound Ideal.roundHalfEven
        (Ideal.ofBits FTy.f32 1073741824#32 * min (FloatOps.absf (F := Ideal) (φ := .f32) w) (Ideal.ofBits FTy.f32 1086324736#32)) *
      Ideal.ofBits FTy.f32 1056964608#32
  else if min (FloatOps.absf (F := Ideal) (φ := .f32) w) (Ideal.ofBits FTy.f32 1086324736#32) < Ideal.ofBits FTy.f32 1082130432#32 then
    Ideal.liftRound Ideal.roundHalfEven (min (FloatOps.absf (F := Ideal) (φ := .f32) w) (Ideal.ofBits FTy.f32 1086324736#32))
  else
    Ideal.ofBits FTy.f32 1073741824#32 *
      Ideal.liftRound Ideal.roundHalfEven
        (min (FloatOps.absf (F := Ideal) (φ := .f32) w) (Ideal.ofBits FTy.f32 1086324736#32) * Ideal.ofBits FTy.f32 1056964608#32)

/-- The magnitude's code. -/
def rMag (q : EReal) : BitVec 32 :=
  FloatOps.fptosi (F := Ideal) (φ := .f32) 32
    (if q < Ideal.ofBits FTy.f32 1073741824#32 then Ideal.ofBits FTy.f32 1073741824#32 * q
    else if q < Ideal.ofBits FTy.f32 1082130432#32 then q + Ideal.ofBits FTy.f32 1073741824#32
    else q * Ideal.ofBits FTy.f32 1056964608#32 + Ideal.ofBits FTy.f32 1082130432#32)

/-- The code, with a sign only where the magnitude is not zero. -/
def rCode (w : EReal) : BitVec 32 :=
  Scalar.select (IntOp.andi (BitVec.ofBool (decide (w < 0))) (BitVec.ofBool (decide (0 < rRound w))))
    (IntOp.ori (rMag (rRound w)) 8#32) (rMag (rRound w))

theorem bits_half : Ideal.ofBits .f32 1056964608#32 = ((1 / 2 : ℝ) : EReal) := by
  simp [Ideal.ofBits, Ideal.ieee, -EReal.coe_mul]; try norm_num
theorem bits_four : Ideal.ofBits .f32 1082130432#32 = ((4 : ℝ) : EReal) := by
  simp [Ideal.ofBits, Ideal.ieee, -EReal.coe_mul]; try norm_num
theorem bits_negsix : Ideal.ofBits .f32 3233808384#32 = ((-6 : ℝ) : EReal) := by
  simp [Ideal.ofBits, Ideal.ieee, -EReal.coe_mul]; try norm_num
theorem bits_t1 : Ideal.ofBits .f32 1048576000#32 = ((1 / 4 : ℝ) : EReal) := by
  simp [Ideal.ofBits, Ideal.ieee, -EReal.coe_mul]; try norm_num
theorem bits_t2 : Ideal.ofBits .f32 1061158912#32 = ((3 / 4 : ℝ) : EReal) := by
  simp [Ideal.ofBits, Ideal.ieee, -EReal.coe_mul]; try norm_num
theorem bits_t3 : Ideal.ofBits .f32 1067450368#32 = ((5 / 4 : ℝ) : EReal) := by
  simp [Ideal.ofBits, Ideal.ieee, -EReal.coe_mul]; try norm_num
theorem bits_t4 : Ideal.ofBits .f32 1071644672#32 = ((7 / 4 : ℝ) : EReal) := by
  simp [Ideal.ofBits, Ideal.ieee, -EReal.coe_mul]; try norm_num
theorem bits_t5 : Ideal.ofBits .f32 1075838976#32 = ((5 / 2 : ℝ) : EReal) := by
  simp [Ideal.ofBits, Ideal.ieee, -EReal.coe_mul]; try norm_num
theorem bits_t6 : Ideal.ofBits .f32 1080033280#32 = ((7 / 2 : ℝ) : EReal) := by
  simp [Ideal.ofBits, Ideal.ieee, -EReal.coe_mul]; try norm_num
theorem bits_t7 : Ideal.ofBits .f32 1084227584#32 = ((5 : ℝ) : EReal) := by
  simp [Ideal.ofBits, Ideal.ieee, -EReal.coe_mul]; try norm_num

/-- The clipped value's magnitude is the reference's clipped magnitude. -/
theorem clip_abs (w : EReal) : ∃ x : ℝ, 0 ≤ x ∧ x ≤ 6
    ∧ FloatOps.absf (F := Ideal) (φ := .f32) (min ((6 : ℝ) : EReal) (max ((-6 : ℝ) : EReal) w)) = (x : EReal)
    ∧ min (FloatOps.absf (F := Ideal) (φ := .f32) w) ((6 : ℝ) : EReal) = (x : EReal)
    ∧ (min ((6 : ℝ) : EReal) (max ((-6 : ℝ) : EReal) w) < 0 ↔ w < 0) := by
  have neg6 : -((6 : ℝ) : EReal) = ((-6 : ℝ) : EReal) := (EReal.coe_neg 6).symm
  have six0 : ¬ ((6 : ℝ) : EReal) < 0 := by rw [← EReal.coe_zero, EReal.coe_lt_coe_iff]; norm_num
  have nsix0 : ((-6 : ℝ) : EReal) < 0 := by rw [← EReal.coe_zero, EReal.coe_lt_coe_iff]; norm_num
  have m6 : max ((6 : ℝ) : EReal) (-((6 : ℝ) : EReal)) = ((6 : ℝ) : EReal) := by
    rw [neg6, ← EReal.coe_strictMono.monotone.map_max]; norm_num
  have m6' : max ((-6 : ℝ) : EReal) (-((-6 : ℝ) : EReal)) = ((6 : ℝ) : EReal) := by
    rw [← EReal.coe_neg, ← EReal.coe_strictMono.monotone.map_max]; norm_num
  have hle : ((-6 : ℝ) : EReal) ≤ ((6 : ℝ) : EReal) := EReal.coe_le_coe_iff.mpr (by norm_num)
  induction w with
  | bot =>
    refine ⟨6, by norm_num, le_rfl, ?_, ?_, ?_⟩
    · rw [max_eq_left bot_le, min_eq_right hle]; exact m6'
    · show min (max (⊥ : EReal) (-⊥)) _ = _
      simp
    · rw [max_eq_left bot_le, min_eq_right hle]; simp [nsix0]
  | top =>
    refine ⟨6, by norm_num, le_rfl, ?_, ?_, ?_⟩
    · rw [max_eq_right le_top, min_eq_left le_top]; exact m6
    · show min (max (⊤ : EReal) (-⊤)) _ = _
      simp
    · rw [max_eq_right le_top, min_eq_left le_top]; simp [six0]
  | coe r =>
    refine ⟨min |r| 6, by positivity, min_le_right _ _, ?_, ?_, ?_⟩
    · show max (min ((6 : ℝ) : EReal) (max ((-6 : ℝ) : EReal) r)) (-(min ((6 : ℝ) : EReal) (max ((-6 : ℝ) : EReal) r))) = _
      rw [← EReal.coe_strictMono.monotone.map_max, ← EReal.coe_strictMono.monotone.map_min, ← EReal.coe_neg,
        ← EReal.coe_strictMono.monotone.map_max]
      refine congrArg (fun y : ℝ => (y : EReal)) ?_
      show |min 6 (max (-6) r)| = _
      rcases le_total r 0 with h | h
      · rw [abs_of_nonpos h, min_eq_right (max_le (by norm_num) (by linarith)), abs_of_nonpos (max_le (by norm_num) h)]
        rcases le_total r (-6) with h' | h'
        · rw [max_eq_left h', min_eq_right (by linarith)]; norm_num
        · rw [max_eq_right h', min_eq_left (by linarith)]
      · rw [abs_of_nonneg h, max_eq_right (by linarith), abs_of_nonneg (le_min (by norm_num) h), min_comm]
    · show min (max (r : EReal) (-(r : EReal))) _ = _
      rw [← EReal.coe_neg, ← EReal.coe_strictMono.monotone.map_max, ← EReal.coe_strictMono.monotone.map_min]
      rfl
    · rw [← EReal.coe_strictMono.monotone.map_max, ← EReal.coe_strictMono.monotone.map_min, ← EReal.coe_zero,
        EReal.coe_lt_coe_iff, EReal.coe_lt_coe_iff, min_lt_iff, max_lt_iff]
      constructor
      · rintro (h | h)
        · norm_num at h
        · exact h.2
      · intro h
        exact Or.inr ⟨by norm_num, h⟩

theorem rhe_of (r : ℝ) (n : ℤ) (h : ((n : ℝ) - 1 / 2 < r ∧ r < n + 1 / 2) ∨ ((n : ℝ) - 1 / 2 ≤ r ∧ r ≤ n + 1 / 2 ∧ Even n)) :
    Ideal.roundHalfEven r = n := by
  have hb : (n : ℝ) - 1 / 2 ≤ r ∧ r ≤ n + 1 / 2 := by
    rcases h with h | h
    · exact ⟨h.1.le, h.2.le⟩
    · exact ⟨h.1, h.2.1⟩
  unfold Ideal.roundHalfEven
  dsimp only
  by_cases hn : (n : ℝ) ≤ r
  · have hf : ⌊r⌋ = n := Int.floor_eq_iff.mpr ⟨hn, by linarith⟩
    rw [hf]
    by_cases h1 : r - n < 1 / 2
    · rw [if_pos h1]
    · rw [if_neg h1, if_neg (by linarith)]
      rcases h with h | h
      · exact absurd h.2 (by linarith)
      · rw [if_pos h.2.2]
  · have hn' := not_le.mp hn
    have hf : ⌊r⌋ = n - 1 := Int.floor_eq_iff.mpr ⟨by push_cast; linarith, by push_cast; linarith⟩
    rw [hf, if_neg (by push_cast; linarith)]
    by_cases h1 : (1 : ℝ) / 2 < r - ((n - 1 : ℤ) : ℝ)
    · rw [if_pos h1]; ring
    · rw [if_neg h1]
      push_cast at h1
      rcases h with h | h
      · exact absurd h.1 (by linarith)
      · rw [if_neg (by rw [Int.even_sub_one]; exact not_not.mpr h.2.2)]; ring

/-- The reference's rounding of a magnitude, on reals. -/
def realRound (x : ℝ) : ℝ :=
  if x < 2 then (Ideal.roundHalfEven (2 * x) : ℝ) * (1 / 2)
  else if x < 4 then (Ideal.roundHalfEven x : ℝ) else 2 * (Ideal.roundHalfEven (x * (1 / 2)) : ℝ)

theorem rRound_of (w : EReal) (x : ℝ) (h : min (FloatOps.absf (F := Ideal) (φ := .f32) w) ((6 : ℝ) : EReal) = (x : EReal)) :
    rRound w = (realRound x : EReal) := by
  unfold rRound realRound
  rw [bits_six, bits_two, bits_half, bits_four, h]
  simp only [EReal.coe_lt_coe_iff, ← EReal.coe_mul, Ideal.liftRound_coe]
  split_ifs <;> rfl

theorem fptosi_nat (k : ℕ) (hk : k < 8) : FloatOps.fptosi (F := Ideal) (φ := .f32) 32 (((k : ℝ)) : EReal) = BitVec.ofNat 32 k := by
  show BitVec.ofInt 32 (max _ (min _ (if (0 : ℝ) ≤ (k : ℝ) then ⌊(k : ℝ)⌋ else _))) = _
  rw [if_pos (Nat.cast_nonneg k), Int.floor_natCast,
    show max (-((2 ^ (32 - 1) : ℕ) : ℤ)) (min (((2 ^ (32 - 1) : ℕ) : ℤ) - 1) (k : ℤ)) = (k : ℤ) by norm_num; omega]
  exact BitVec.ofInt_natCast 32 k

theorem rMag_of (q : ℝ) (k : ℕ) (hk : k < 8)
    (h : (if q < 2 then 2 * q else if q < 4 then q + 2 else q * (1 / 2) + 4) = (k : ℝ)) : rMag (q : EReal) = BitVec.ofNat 32 k := by
  unfold rMag
  rw [bits_two, bits_half, bits_four, ← fptosi_nat k hk, ← h]
  simp only [EReal.coe_lt_coe_iff, ← EReal.coe_mul, ← EReal.coe_add]
  split_ifs <;> rfl

/-- The kernel's count of thresholds. -/
def kMag (m : EReal) : BitVec 32 :=
      (IntOp.addi
        (IntOp.addi
          (IntOp.addi
            (IntOp.addi
              (IntOp.addi
                (IntOp.addi (if Ideal.ofBits FTy.f32 1048576000#32 < m then 1#32 else 0#32)
                  (if Ideal.ofBits FTy.f32 1061158912#32 ≤ m then 1#32 else 0#32))
                (if Ideal.ofBits FTy.f32 1067450368#32 < m then 1#32 else 0#32))
              (if Ideal.ofBits FTy.f32 1071644672#32 ≤ m then 1#32 else 0#32))
            (if Ideal.ofBits FTy.f32 1075838976#32 < m then 1#32 else 0#32))
          (if Ideal.ofBits FTy.f32 1080033280#32 ≤ m then 1#32 else 0#32))
        (if Ideal.ofBits FTy.f32 1084227584#32 < m then 1#32 else 0#32))

theorem mag_of (x : ℝ) (h0 : 0 ≤ x) (h6 : x ≤ 6) :
    ∃ k : ℕ, k < 8 ∧ kMag (x : EReal) = BitVec.ofNat 32 k ∧ rMag (realRound x : EReal) = BitVec.ofNat 32 k
      ∧ (0 < realRound x ↔ k ≠ 0) := by
  have key : ∃ (k : ℕ) (q : ℝ), k < 8 ∧ kMag (x : EReal) = BitVec.ofNat 32 k ∧ realRound x = q
      ∧ (if q < 2 then 2 * q else if q < 4 then q + 2 else q * (1 / 2) + 4) = (k : ℝ) ∧ (0 < q ↔ k ≠ 0) := by
    unfold kMag realRound
    rw [bits_t1, bits_t2, bits_t3, bits_t4, bits_t5, bits_t6, bits_t7]
    simp only [EReal.coe_lt_coe_iff, EReal.coe_le_coe_iff]
    by_cases h1 : 1 / 4 < x
    swap
    · refine ⟨0, 0, by norm_num, ?_, ?_, by norm_num, by norm_num⟩
      · rw [if_neg h1, if_neg (by linarith), if_neg (by linarith), if_neg (by linarith), if_neg (by linarith), if_neg (by linarith),
          if_neg (by linarith)]; rfl
      · rw [if_pos (by linarith), rhe_of _ 0 (Or.inr ⟨by norm_num; linarith, by norm_num; linarith, by decide⟩)]; norm_num
    by_cases h2 : 3 / 4 ≤ x
    swap
    · refine ⟨1, 1 / 2, by norm_num, ?_, ?_, by norm_num, by norm_num⟩
      · rw [if_pos h1, if_neg h2, if_neg (by linarith), if_neg (by linarith), if_neg (by linarith), if_neg (by linarith),
          if_neg (by linarith)]; rfl
      · rw [if_pos (by linarith), rhe_of _ 1 (Or.inl ⟨by norm_num; linarith, by norm_num; linarith⟩)]; norm_num
    by_cases h3 : 5 / 4 < x
    swap
    · refine ⟨2, 1, by norm_num, ?_, ?_, by norm_num, by norm_num⟩
      · rw [if_pos h1, if_pos h2, if_neg h3, if_neg (by linarith), if_neg (by linarith), if_neg (by linarith),
          if_neg (by linarith)]; rfl
      · rw [if_pos (by linarith), rhe_of _ 2 (Or.inr ⟨by norm_num; linarith, by norm_num; linarith, by decide⟩)]; norm_num
    by_cases h4 : 7 / 4 ≤ x
    swap
    · refine ⟨3, 3 / 2, by norm_num, ?_, ?_, by norm_num, by norm_num⟩
      · rw [if_pos h1, if_pos h2, if_pos h3, if_neg h4, if_neg (by linarith), if_neg (by linarith),
          if_neg (by linarith)]; rfl
      · rw [if_pos (by linarith), rhe_of _ 3 (Or.inl ⟨by norm_num; linarith, by norm_num; linarith⟩)]; norm_num
    by_cases h5 : 5 / 2 < x
    swap
    · refine ⟨4, 2, by norm_num, ?_, ?_, by norm_num, by norm_num⟩
      · rw [if_pos h1, if_pos h2, if_pos h3, if_pos h4, if_neg h5, if_neg (by linarith),
          if_neg (by linarith)]; rfl
      · by_cases hx : x < 2
        · rw [if_pos hx, rhe_of _ 4 (Or.inr ⟨by norm_num; linarith, by norm_num; linarith, by decide⟩)]; norm_num
        · rw [if_neg hx, if_pos (by linarith), rhe_of _ 2 (Or.inr ⟨by norm_num; linarith, by norm_num; linarith, by decide⟩)]; norm_num
    by_cases h6 : 7 / 2 ≤ x
    swap
    · refine ⟨5, 3, by norm_num, ?_, ?_, by norm_num, by norm_num⟩
      · rw [if_pos h1, if_pos h2, if_pos h3, if_pos h4, if_pos h5, if_neg h6,
          if_neg (by linarith)]; rfl
      · rw [if_neg (by linarith), if_pos (by linarith), rhe_of _ 3 (Or.inl ⟨by norm_num; linarith, by norm_num; linarith⟩)]; norm_num
    by_cases h7 : 5 < x
    swap
    · refine ⟨6, 4, by norm_num, ?_, ?_, by norm_num, by norm_num⟩
      · rw [if_pos h1, if_pos h2, if_pos h3, if_pos h4, if_pos h5, if_pos h6, if_neg h7]; rfl
      · by_cases hx : x < 4
        · rw [if_neg (by linarith), if_pos hx, rhe_of _ 4 (Or.inr ⟨by norm_num; linarith, by norm_num; linarith, by decide⟩)]; norm_num
        · rw [if_neg (by linarith), if_neg hx, rhe_of _ 2 (Or.inr ⟨by norm_num; linarith, by norm_num; linarith, by decide⟩)]; norm_num
    refine ⟨7, 6, by norm_num, ?_, ?_, by norm_num, by norm_num⟩
    · rw [if_pos h1, if_pos h2, if_pos h3, if_pos h4, if_pos h5, if_pos h6, if_pos h7]; rfl
    · rw [if_neg (by linarith), if_neg (by linarith), rhe_of _ 3 (Or.inl ⟨by norm_num; linarith, by norm_num; linarith⟩)]; norm_num
  obtain ⟨k, q, hk, h1, h2, h3, h4⟩ := key
  rw [h2]
  exact ⟨k, hk, h1, rMag_of q k hk h3, h4⟩

theorem code_rel (w : EReal) :
    ∃ c : Fin 16, kCode (min (Ideal.ofBits FTy.f32 1086324736#32) (max (Ideal.ofBits FTy.f32 3233808384#32) w)) = BitVec.ofNat 32 c.val
      ∧ rCode w = clr (BitVec.ofNat 32 c.val) := by
  rw [bits_six, bits_negsix]
  obtain ⟨x, h0, h6, e1, e2, e3⟩ := clip_abs w
  obtain ⟨k, hk, hm, hr, hp⟩ := mag_of x h0 h6
  have t1 : ∀ k : Fin 8, IntOp.ori (BitVec.ofNat 32 k.val) 8#32 = BitVec.ofNat 32 (k.val + 8)
      ∧ IntOp.ori (BitVec.ofNat 32 k.val) 0#32 = BitVec.ofNat 32 k.val ∧ clr (BitVec.ofNat 32 k.val) = BitVec.ofNat 32 k.val
      ∧ (k.val ≠ 0 → clr (BitVec.ofNat 32 (k.val + 8)) = BitVec.ofNat 32 (k.val + 8)) := by decide +kernel
  obtain ⟨a1, a2, a3, a4⟩ := t1 ⟨k, hk⟩
  dsimp only at a1 a2 a3 a4
  have hp' : (0 : EReal) < (realRound x : EReal) ↔ k ≠ 0 := by rw [← EReal.coe_zero, EReal.coe_lt_coe_iff]; exact hp
  have hkc : kCode (min ((6 : ℝ) : EReal) (max ((-6 : ℝ) : EReal) w))
      = IntOp.ori (kMag (x : EReal)) (if w < 0 then 8#32 else 0#32) := by
    rw [← if_congr e3 (rfl : (8#32 : BitVec 32) = 8#32) (rfl : (0#32 : BitVec 32) = 0#32), ← e1]
    rfl
  have hrc : rCode w = Scalar.select (IntOp.andi (BitVec.ofBool (decide (w < 0))) (BitVec.ofBool (decide (k ≠ 0))))
      (IntOp.ori (BitVec.ofNat 32 k) 8#32) (BitVec.ofNat 32 k) := by
    unfold rCode
    rw [rRound_of w x e2, hr, decide_eq_decide.mpr hp']
  rw [hkc, hrc, hm]
  unfold Scalar.select
  by_cases hw : w < 0
  · refine ⟨⟨k + 8, by omega⟩, ?_, ?_⟩
    · rw [if_pos hw, a1]
    · rw [decide_eq_true hw]
      by_cases h : k = 0
      · subst h
        show (if IntOp.andi (BitVec.ofBool true) (BitVec.ofBool (decide ((0 : ℕ) ≠ 0))) = 1 then IntOp.ori 0#32 8#32 else 0#32) = clr 8#32
        decide +kernel
      · rw [decide_eq_true h, if_pos (by decide), a1, a4 h]
  · refine ⟨⟨k, by omega⟩, ?_, ?_⟩
    · rw [if_neg hw, a2]
    · rw [decide_eq_false hw, if_neg (by cases decide (k ≠ 0) <;> decide), a3]

end Cert.KernelIdeal.Stage
-- ==== Proof.KI.Spec2.lean ====
module

public import proofs.«01_k».proof.Proof.KI.Codes

@[expose] public section

/-!
The kernel's values in the reference's terms.

Scale bytes, codes, packed bytes, quantised activations and weights of the problem's data, each as the reference
writes it.
-/

noncomputable section

namespace Cert.KernelIdeal.Stage

open Idealize.ShloMosaic

namespace Data

variable (D : Data)

theorem sb_spec (t g : ℕ) : ∃ s : ℕ, 2 ≤ s ∧ s ≤ 253 ∧ D.sb t g = BitVec.ofNat 32 s
    ∧ rExp (Ideal.div (kAmax fun k => D.xs t (32 * g + k.val)) (Ideal.ofBits FTy.f32 1086324736#32))
      = BitVec.ofNat 32 s - 127#32 :=
  kSb_eq _ (kAmax_nonneg _)

theorem exp_eq (t g : ℕ) :
    rExp (Ideal.div (kAmax fun k => D.xs t (32 * g + k.val)) (Ideal.ofBits FTy.f32 1086324736#32)) = D.sb t g - 127#32 := by
  obtain ⟨s, h1, h2, h3, h4⟩ := D.sb_spec t g
  rw [h4, h3]

theorem code_spec (t d : ℕ) : ∃ c : Fin 16, D.code t d = BitVec.ofNat 32 c.val
    ∧ rCode (D.xs t d * rPow2 (-(D.sb t (d / 32) - 127#32))) = clr (BitVec.ofNat 32 c.val) := by
  obtain ⟨s, h1, h2, h3, h4⟩ := D.sb_spec t (d / 32)
  unfold Data.code kClip
  rw [h3, inv_eq s h1 h2]
  exact code_rel _

/-- An activation's code, as a number. -/
def num (t d : ℕ) : Fin 16 := (D.code_spec t d).choose

theorem code_num (t d : ℕ) : D.code t d = BitVec.ofNat 32 (D.num t d).val := (D.code_spec t d).choose_spec.1

theorem rCode_num (t d : ℕ) : rCode (D.xs t d * rPow2 (-(D.sb t (d / 32) - 127#32))) = clr (BitVec.ofNat 32 (D.num t d).val) :=
  (D.code_spec t d).choose_spec.2

theorem byte_spec (t j : ℕ) : D.byte t j = BitVec.setWidth 8 (IntOp.ori (clr (BitVec.ofNat 32 (D.num t (2 * j)).val))
    (IntOp.shli ArithUnit.host (clr (BitVec.ofNat 32 (D.num t (2 * j + 1)).val)) 4#32)) := by
  unfold Data.byte
  simp only [code_num]
  refine (byte_eq (fun k => D.num t (8 * (j / 4) + k)) ⟨j % 4, by omega⟩).trans ?_
  dsimp only
  rw [show 8 * (j / 4) + 2 * (j % 4) = 2 * j by omega, show 8 * (j / 4) + (2 * (j % 4) + 1) = 2 * j + 1 by omega]

theorem xq_spec (t d : ℕ) :
    D.xq t d = rDec (clr (BitVec.ofNat 32 (D.num t d).val)) * rPow2 (D.sb t (d / 32) - 127#32) := by
  obtain ⟨s, h1, h2, h3, h4⟩ := D.sb_spec t (d / 32)
  unfold Data.xq
  rw [rDec_clr, code_num, h3]
  exact congrArg _ (kHalf_eq ⟨s, by omega⟩ (d % 2) (by omega))

theorem half_byte (b : BitVec 8) (p : ℕ) (hp : p < 2) :
    kHalf (kPair (BitVec.setWidth 32 b)) p = rPow2 (IntOp.subi (BitVec.setWidth 32 b) 127#32) := by
  have e : BitVec.setWidth 32 b = BitVec.ofNat 32 b.toNat := (BitVec.ofNat_toNat 32 b).symm
  rw [e]
  exact kHalf_eq ⟨b.toNat, b.isLt⟩ p hp

theorem wq_lo (d n : ℕ) (hd : d % 2 = 0) : D.wq d n
    = rDec (IntOp.andi (BitVec.setWidth 32 (D.wp (d / 2) n)) 15#32) * rPow2 (IntOp.subi (BitVec.setWidth 32 (D.ws (d / 32) n)) 127#32) := by
  unfold Data.wq
  rw [weight_lo _ _ hd, half_byte _ _ (by omega)]

theorem wq_hi (d n : ℕ) (hd : d % 2 = 1) : D.wq d n
    = rDec (IntOp.shrsi ArithUnit.host (BitVec.setWidth 32 (D.wp (d / 2) n)) 4#32)
      * rPow2 (IntOp.subi (BitVec.setWidth 32 (D.ws (d / 32) n)) 127#32) := by
  unfold Data.wq
  rw [weight_hi _ _ hd, half_byte _ _ (by omega)]

/-- The scale byte comes back from its eight bits. -/
theorem sb_back (t g : ℕ) : BitVec.setWidth 32 (BitVec.setWidth 8 (IntOp.addi (D.sb t g - 127#32) 127#32)) = D.sb t g := by
  obtain ⟨s, h1, h2, h3, h4⟩ := D.sb_spec t g
  rw [h3]
  have k : ∀ s : Fin 256, BitVec.setWidth 32 (BitVec.setWidth 8 (IntOp.addi (BitVec.ofNat 32 s.val - 127#32) 127#32))
      = BitVec.ofNat 32 s.val := by decide +kernel
  exact k ⟨s, by omega⟩

theorem sb_low (t g : ℕ) : BitVec.setWidth 8 (IntOp.addi (D.sb t g - 127#32) 127#32) = BitVec.setWidth 8 (D.sb t g) := by
  refine congrArg _ ?_
  exact BitVec.sub_add_cancel _ _

end Data

end Cert.KernelIdeal.Stage
-- ==== Proof.KI.Ref.lean ====
module

public import proofs.«01_k».proof.Proof.Gen.ReferenceIdeal.Run
public import proofs.«01_k».proof.Proof.KI.Spec2
public import Idealize.ShloMosaic.Lib.Pointwise

@[expose] public section

/-!
The reference's results.

The reference's results at an index are the kernel's functions of the arguments.
-/

noncomputable section

namespace Cert.ReferenceIdeal.Stage

open Cert.ReferenceIdeal.Gen Cert.ReferenceIdeal.Value
open Cert.KernelIdeal.Stage (Data at1_val at2_val rPow2 rExp kAmax rRound rMag rCode rDecMag rDec clr)
open Idealize.ShloMosaic Idealize.ShloMosaic.TcCoe Idealize.ShloMosaic.Pointwise
open Idealize.SL Idealize.SL.Sem

variable (V : Valuation τ sig (Elt Ideal))

/-- The problem's data, from the arguments. -/
def data : Data := Data.of (V (Proc.devRef .tc main_arg0)) (V (Proc.devRef .tc main_arg1)) (V (Proc.devRef .tc main_arg2))
  (V (Proc.devRef .tc main_arg3)) (V (Proc.devRef .tc main_arg4)) (V (Proc.devRef .tc main_arg5)) (V (Proc.devRef .tc main_arg6))

theorem of_x (a0 : (⟨3, ![2, 128, 15360]⟩ : Shape).Idx → EReal) (a1 : (⟨1, ![15360]⟩ : Shape).Idx → EReal)
    (a2 : (⟨2, ![7680, 3840]⟩ : Shape).Idx → BitVec 8) (a3 : (⟨2, ![480, 3840]⟩ : Shape).Idx → BitVec 8)
    (a4 : (⟨2, ![15360, 32]⟩ : Shape).Idx → EReal) (a5 : (⟨2, ![32, 3840]⟩ : Shape).Idx → EReal)
    (a6 : (⟨1, ![3840]⟩ : Shape).Idx → EReal) (r : Fin 256) (d : Fin 15360) :
    a0 (ix3 ⟨r.val / 128, by omega⟩ ⟨r.val % 128, by omega⟩ d) * a1 (ix1 d)
      = (Data.of a0 a1 a2 a3 a4 a5 a6).xs r.val d.val := by
  unfold Data.xs
  refine congrArg₂ (· * ·) ?_ (at1_val 0 a1 d rfl)
  show _ = if h : r.val < 256 ∧ d.val < 15360 then a0 (ix3 ⟨r.val / 128, _⟩ ⟨r.val % 128, _⟩ ⟨d.val, _⟩) else 0
  rw [dif_pos ⟨r.isLt, d.isLt⟩]

theorem v4_at (r : Fin 256) (d : Fin 15360) : (res_main_v4 V : FVec Ideal S256x15360 .f32) (ix2 r d) = (data V).xs r.val d.val := by
  unfold res_main_v4 data
  generalize (V (Proc.devRef .tc main_arg0)) = a0
  generalize (V (Proc.devRef .tc main_arg1)) = a1
  generalize (V (Proc.devRef .tc main_arg2)) = a2
  generalize (V (Proc.devRef .tc main_arg3)) = a3
  generalize (V (Proc.devRef .tc main_arg4)) = a4
  generalize (V (Proc.devRef .tc main_arg5)) = a5
  generalize (V (Proc.devRef .tc main_arg6)) = a6
  pointwise
  exact of_x a0 a1 a2 a3 a4 a5 a6 r d

theorem v5_at (r : Fin 256) (g : Fin 480) (k : Fin 32) :
    (res_main_v5 V : FVec Ideal S256x480x32 .f32) (ix3 r g k) = (data V).xs r.val (32 * g.val + k.val) := by
  have h : ∀ d : Fin 15360, (res_main_v4 V : FVec Ideal S256x15360 .f32) (ix2 r d) = (data V).xs r.val d.val := v4_at V r
  unfold res_main_v5
  generalize res_main_v4 V = a0 at *
  pointwise
  rw [h]
  exact congrArg _ (by show g.val * 32 + k.val = _; omega)

theorem v9_at (r : Fin 256) (g : Fin 480) : (res_main_v9 V : FVec Ideal S256x480 .f32) (ix2 r g)
    = Ideal.div (kAmax fun k => (data V).xs r.val (32 * g.val + k.val)) (Ideal.ofBits FTy.f32 1086324736#32) := by
  have h : ∀ k : Fin 32, (res_main_v5 V : FVec Ideal S256x480x32 .f32) (ix3 r g k) = (data V).xs r.val (32 * g.val + k.val) := v5_at V r g
  unfold res_main_v9
  generalize res_main_v5 V = a0 at *
  pointwise
  refine congrArg (fun z => Ideal.div z _) ?_
  refine (Shape.ReducesTo.fold_fiber_r3_a2 Gen.reducesTo_S256x480x32_S256x480_d2 (ix2 r g) max _ (fun x => FloatOps.absf (F := Ideal) (φ := .f32) (a0 x))).trans ?_
  unfold kAmax
  refine congrArg (fun f => Finset.fold max _ f _) (funext fun k => ?_)
  exact congrArg (FloatOps.absf (F := Ideal) (φ := .f32)) (h k)

theorem v32_at (r : Fin 256) (g : Fin 480) : (res_main_v32 V : IVec S256x480 32) (ix2 r g) = (data V).sb r.val g.val - 127#32 := by
  have h := v9_at V r g
  rw [← Data.exp_eq, ← h]
  unfold res_main_v32 res_main_v12
  dsimp only [id]
  generalize res_main_v9 V = a0 at *
  unfold rExp rPow2
  pointwise

theorem mul_rPow2 (x : EReal) (k : BitVec 32) :
    Scalar.select (IntOp.cmpi CmpIPredicate.slt k 4294967170#32) 0
      (x * Scalar.select (IntOp.cmpi CmpIPredicate.sgt k 127#32) (Ideal.ofBits FTy.f32 2139095040#32)
        (Ideal.pow (Ideal.ofBits FTy.f32 1073741824#32) (FloatOps.sitofp (F := Ideal) FTy.f32 k))) = x * rPow2 k := by
  unfold rPow2
  generalize IntOp.cmpi CmpIPredicate.slt _ _ = c
  unfold Scalar.select
  by_cases hc : c = 1
  · rw [if_pos hc, if_pos hc, mul_zero]
  · rw [if_neg hc, if_neg hc]

theorem v45_at (r : Fin 256) (g : Fin 480) (k : Fin 32) : (res_main_v45 V : FVec Ideal S256x480x32 .f32) (ix3 r g k)
    = (data V).xs r.val (32 * g.val + k.val) * rPow2 (-((data V).sb r.val g.val - 127#32)) := by
  have h := v5_at V r g k
  have h' := v32_at V r g
  rw [← h, ← h']
  unfold res_main_v45 res_main_v33
  generalize res_main_v5 V = a0
  generalize res_main_v32 V = a1
  pointwise
  exact mul_rPow2 _ _

theorem v65_at (r : Fin 256) (g : Fin 480) (k : Fin 32) : (res_main_v65 V : FVec Ideal S256x480x32 .f32) (ix3 r g k)
    = rRound ((res_main_v45 V : FVec Ideal S256x480x32 .f32) (ix3 r g k)) := by
  unfold res_main_v65 res_main_v48
  generalize res_main_v45 V = a0
  pointwise
  rfl

theorem v80_at (r : Fin 256) (g : Fin 480) (k : Fin 32) : (res_main_v80 V : IVec S256x480x32 32) (ix3 r g k)
    = rMag ((res_main_v65 V : FVec Ideal S256x480x32 .f32) (ix3 r g k)) := by
  unfold res_main_v80
  generalize res_main_v65 V = a0
  pointwise
  rfl

theorem v90_at (r : Fin 256) (j : Fin 7680) (k : Fin 2) : (res_main_v90 V : IVec S256x7680x2 32) (ix3 r j k)
    = clr (BitVec.ofNat 32 ((data V).num r.val (2 * j.val + k.val)).val) := by
  have h2 := v65_at V r ⟨j.val / 16, by omega⟩ ⟨j.val % 16 * 2 + k.val, by omega⟩
  have h3 := v80_at V r ⟨j.val / 16, by omega⟩ ⟨j.val % 16 * 2 + k.val, by omega⟩
  rw [← Data.rCode_num]
  have e1 : 32 * (j.val / 16) + (j.val % 16 * 2 + k.val) = 2 * j.val + k.val := by omega
  have e2 : j.val / 16 = (2 * j.val + k.val) / 32 := by omega
  have h1 : (res_main_v45 V : FVec Ideal S256x480x32 .f32) (ix3 r ⟨j.val / 16, by omega⟩ ⟨j.val % 16 * 2 + k.val, by omega⟩)
      = (data V).xs r.val (2 * j.val + k.val) * rPow2 (-((data V).sb r.val ((2 * j.val + k.val) / 32) - 127#32)) := by
    refine (v45_at V r _ _).trans ?_
    show (data V).xs r.val (32 * (j.val / 16) + (j.val % 16 * 2 + k.val)) * rPow2 (-((data V).sb r.val (j.val / 16) - 127#32)) = _
    rw [e1, e2]
  rw [← h1]
  unfold res_main_v90 rCode
  generalize res_main_v45 V = a0 at *
  generalize res_main_v65 V = a1 at *
  generalize res_main_v80 V = a2 at *
  pointwise
  rw [h3, h2]

/-- The packed codes. -/
theorem v98_at (r : Fin 256) (j : Fin 7680) (b : IVec S256x7680 8)
    (hb : b = trunci 8 (ori (shapeCast _ (extractStridedSlice S256x7680x1 ![0, 0, 0] (res_main_v90 V) slices_S256x7680x2_S256x7680x1_0_0_0) shapeCasts_S256x7680x1_S256x7680) (Host.shli (shapeCast _ (extractStridedSlice S256x7680x1 ![0, 0, 1] (res_main_v90 V) slices_S256x7680x2_S256x7680x1_0_0_1) shapeCasts_S256x7680x1_S256x7680) (broadcastInDim S256x7680 ![] bcast_S_S256x7680 (constantI S_ 32 4#32)))) natLt_8_32) :
    b (ix2 r j) = (data V).byte r.val j.val := by
  have h0 := v90_at V r j 0
  have h1 := v90_at V r j 1
  rw [Data.byte_spec, hb]
  generalize res_main_v90 V = a0 at *
  pointwise
  rw [h0, h1]
  rfl

theorem v102_at (r : Fin 256) (j : Fin 7680) : (res_main_v102 V : IVec S256x7680 32) (ix2 r j)
    = BitVec.setWidth 32 (BitVec.setWidth 8 (IntOp.ori (clr (BitVec.ofNat 32 ((data V).num r.val (2 * j.val)).val))
    (IntOp.shli ArithUnit.host (clr (BitVec.ofNat 32 ((data V).num r.val (2 * j.val + 1)).val)) 4#32))) := by
  have h0 := v90_at V r j 0
  have h1 := v90_at V r j 1
  unfold res_main_v102
  generalize res_main_v90 V = a0 at *
  pointwise
  rw [h0, h1]
  rfl

theorem v104_at (r : Fin 256) (j : Fin 7680) : (res_main_v104 V : IVec S256x7680 32) (ix2 r j)
    = clr (BitVec.ofNat 32 ((data V).num r.val (2 * j.val)).val) := by
  have h := v102_at V r j
  rw [← (Cert.KernelIdeal.Stage.unpack_eq _ ((data V).num r.val (2 * j.val + 1))).1, ← h]
  unfold res_main_v104
  generalize res_main_v102 V = a0
  pointwise

theorem v131_at (r : Fin 256) (j : Fin 7680) : (res_main_v131 V : IVec S256x7680 32) (ix2 r j)
    = clr (BitVec.ofNat 32 ((data V).num r.val (2 * j.val + 1)).val) := by
  have h := v102_at V r j
  rw [← (Cert.KernelIdeal.Stage.unpack_eq ((data V).num r.val (2 * j.val)) _).2, ← h]
  unfold res_main_v131
  generalize res_main_v102 V = a0
  pointwise

theorem v127_at (r : Fin 256) (j : Fin 7680) : (res_main_v127 V : FVec Ideal S256x7680 .bf16) (ix2 r j)
    = rDecMag ((res_main_v104 V : IVec S256x7680 32) (ix2 r j)) := by
  unfold res_main_v127 res_main_v120 res_main_v116
  generalize res_main_v104 V = a0
  pointwise
  rfl

theorem v154_at (r : Fin 256) (j : Fin 7680) : (res_main_v154 V : FVec Ideal S256x7680 .bf16) (ix2 r j)
    = rDecMag ((res_main_v131 V : IVec S256x7680 32) (ix2 r j)) := by
  unfold res_main_v154 res_main_v147 res_main_v143
  generalize res_main_v131 V = a0
  pointwise
  rfl

theorem v203_at (i : Fin 7680) (n : Fin 3840) : (res_main_v203 V : FVec Ideal S7680x3840 .bf16) (ix2 i n)
    = rDecMag ((res_main_v180 V : IVec S7680x3840 32) (ix2 i n)) := by
  unfold res_main_v203 res_main_v196 res_main_v192
  generalize res_main_v180 V = a0
  pointwise
  rfl

theorem v230_at (i : Fin 7680) (n : Fin 3840) : (res_main_v230 V : FVec Ideal S7680x3840 .bf16) (ix2 i n)
    = rDecMag ((res_main_v207 V : IVec S7680x3840 32) (ix2 i n)) := by
  unfold res_main_v230 res_main_v223 res_main_v219
  generalize res_main_v207 V = a0
  pointwise
  rfl

theorem v163_at (r : Fin 256) (g : Fin 480) : (res_main_v163 V : IVec S256x480 32) (ix2 r g) = (data V).sb r.val g.val - 127#32 := by
  have h := v32_at V r g
  unfold res_main_v163
  generalize res_main_v32 V = a0 at *
  pointwise
  rw [h, Data.sb_back]
  rfl

/-- The quantised activations. -/
def refA : FVec Ideal S256x15360 .bf16 := (shapeCast _ (mulf (shapeCast _ (concatenate S256x7680x2 2 [⟨S256x7680x1, (broadcastInDim S256x7680x1 ![0, 1] bcast_S256x7680_S256x7680x1_0_1 (select (cmpi .ne (andi (res_main_v104 V) (broadcastInDim S256x7680 ![] bcast_S_S256x7680 (constantI S_ 32 8#32))) (broadcastInDim S256x7680 ![] bcast_S_S256x7680 (constantI S_ 32 0#32))) (Host.negf (res_main_v127 V)) (res_main_v127 V)))⟩, ⟨S256x7680x1, (broadcastInDim S256x7680x1 ![0, 1] bcast_S256x7680_S256x7680x1_0_1 (select (cmpi .ne (andi (res_main_v131 V) (broadcastInDim S256x7680 ![] bcast_S_S256x7680 (constantI S_ 32 8#32))) (broadcastInDim S256x7680 ![] bcast_S_S256x7680 (constantI S_ 32 0#32))) (Host.negf (res_main_v154 V)) (res_main_v154 V)))⟩] concatenates_S256x7680x1_S256x7680x1_S256x7680x2_d2) shapeCasts_S256x7680x2_S256x480x32) (broadcastInDim S256x480x32 ![0, 1, 2] bcast_S256x480x1_S256x480x32_0_1_2 (broadcastInDim S256x480x1 ![0, 1] bcast_S256x480_S256x480x1_0_1 (truncf .bf16 (select (cmpi .slt (res_main_v163 V) (broadcastInDim S256x480 ![] bcast_S_S256x480 (constantI S_ 32 4294967170#32))) (broadcastInDim S256x480 ![] bcast_S_S256x480 (constant S_ .f32 0x00000000#32)) (select (cmpi .sgt (res_main_v163 V) (broadcastInDim S256x480 ![] bcast_S_S256x480 (constantI S_ 32 127#32))) (broadcastInDim S256x480 ![] bcast_S_S256x480 (constant S_ .f32 0x7F800000#32)) (Host.powf (broadcastInDim S256x480 ![] bcast_S_S256x480 (constant S_ .f32 0x40000000#32)) (sitofp .f32 (res_main_v163 V))))) bitsLt_bf16_f32)))) shapeCasts_S256x480x32_S256x15360)

/-- The weights. -/
def refB : FVec Ideal S15360x3840 .bf16 := (shapeCast _ (mulf (shapeCast _ (concatenate S7680x2x3840 1 [⟨S7680x1x3840, (broadcastInDim S7680x1x3840 ![0, 2] bcast_S7680x3840_S7680x1x3840_0_2 (select (cmpi .ne (andi (res_main_v180 V) (broadcastInDim S7680x3840 ![] bcast_S_S7680x3840 (constantI S_ 32 8#32))) (broadcastInDim S7680x3840 ![] bcast_S_S7680x3840 (constantI S_ 32 0#32))) (Host.negf (res_main_v203 V)) (res_main_v203 V)))⟩, ⟨S7680x1x3840, (broadcastInDim S7680x1x3840 ![0, 2] bcast_S7680x3840_S7680x1x3840_0_2 (select (cmpi .ne (andi (res_main_v207 V) (broadcastInDim S7680x3840 ![] bcast_S_S7680x3840 (constantI S_ 32 8#32))) (broadcastInDim S7680x3840 ![] bcast_S_S7680x3840 (constantI S_ 32 0#32))) (Host.negf (res_main_v230 V)) (res_main_v230 V)))⟩] concatenates_S7680x1x3840_S7680x1x3840_S7680x2x3840_d1) shapeCasts_S7680x2x3840_S480x32x3840) (broadcastInDim S480x32x3840 ![0, 1, 2] bcast_S480x1x3840_S480x32x3840_0_1_2 (broadcastInDim S480x1x3840 ![0, 2] bcast_S480x3840_S480x1x3840_0_2 (truncf .bf16 (select (cmpi .slt (res_main_v239 V) (broadcastInDim S480x3840 ![] bcast_S_S480x3840 (constantI S_ 32 4294967170#32))) (broadcastInDim S480x3840 ![] bcast_S_S480x3840 (constant S_ .f32 0x00000000#32)) (select (cmpi .sgt (res_main_v239 V) (broadcastInDim S480x3840 ![] bcast_S_S480x3840 (constantI S_ 32 127#32))) (broadcastInDim S480x3840 ![] bcast_S_S480x3840 (constant S_ .f32 0x7F800000#32)) (Host.powf (broadcastInDim S480x3840 ![] bcast_S_S480x3840 (constant S_ .f32 0x40000000#32)) (sitofp .f32 (res_main_v239 V))))) bitsLt_bf16_f32)))) shapeCasts_S480x32x3840_S15360x3840)

theorem refA_at (r : Fin 256) (d : Fin 15360) : refA V (ix2 r d) = (data V).xq r.val d.val := by
  have h0 := v163_at V r ⟨d.val / 32, by omega⟩
  have h1 := v104_at V r ⟨d.val / 32 * 16 + d.val % 32 / 2, by omega⟩
  have h2 := v127_at V r ⟨d.val / 32 * 16 + d.val % 32 / 2, by omega⟩
  have h3 := v131_at V r ⟨d.val / 32 * 16 + d.val % 32 / 2, by omega⟩
  have h4 := v154_at V r ⟨d.val / 32 * 16 + d.val % 32 / 2, by omega⟩
  rw [Data.xq_spec, ← h0]
  unfold refA
  generalize res_main_v163 V = a0 at *
  generalize res_main_v104 V = a1 at *
  generalize res_main_v127 V = a2 at *
  generalize res_main_v131 V = a3 at *
  generalize res_main_v154 V = a4 at *
  pointwise
  rw [mul_rPow2]
  refine congrArg (fun z => z * rPow2 _) ?_
  by_cases h : d.val % 32 % 2 < 1
  · rw [dif_pos h, h2, h1]
    have e : 2 * (d.val / 32 * 16 + d.val % 32 / 2) = d.val := by omega
    dsimp only
    rw [e]
    rfl
  · rw [dif_neg h, h4, h3]
    have e : 2 * (d.val / 32 * 16 + d.val % 32 / 2) + 1 = d.val := by omega
    dsimp only
    rw [e]
    rfl

theorem v180_at (i : Fin 7680) (n : Fin 3840) : (res_main_v180 V : IVec S7680x3840 32) (ix2 i n)
    = IntOp.andi (BitVec.setWidth 32 ((data V).wp i.val n.val)) 15#32 := by
  unfold res_main_v180 res_main_v178 data
  generalize (V (Proc.devRef .tc main_arg2)) = a2
  pointwise
  exact congrArg (fun b => IntOp.andi (BitVec.setWidth 32 b) 15#32) (at2_val (0#8) a2 i n rfl rfl)

theorem v207_at (i : Fin 7680) (n : Fin 3840) : (res_main_v207 V : IVec S7680x3840 32) (ix2 i n)
    = IntOp.shrsi ArithUnit.host (BitVec.setWidth 32 ((data V).wp i.val n.val)) 4#32 := by
  unfold res_main_v207 res_main_v178 data
  generalize (V (Proc.devRef .tc main_arg2)) = a2
  pointwise
  exact congrArg (fun b => IntOp.shrsi ArithUnit.host (BitVec.setWidth 32 b) 4#32) (at2_val (0#8) a2 i n rfl rfl)

theorem v239_at (g : Fin 480) (n : Fin 3840) : (res_main_v239 V : IVec S480x3840 32) (ix2 g n)
    = IntOp.subi (BitVec.setWidth 32 ((data V).ws g.val n.val)) 127#32 := by
  unfold res_main_v239 data
  generalize (V (Proc.devRef .tc main_arg3)) = a3
  pointwise
  exact congrArg (fun b => IntOp.subi (BitVec.setWidth 32 b) 127#32) (at2_val (0#8) a3 g n rfl rfl)

theorem refB_at (d : Fin 15360) (n : Fin 3840) : refB V (ix2 d n) = (data V).wq d.val n.val := by
  have h0 := v239_at V ⟨d.val / 32, by omega⟩ n
  have h1 := v180_at V ⟨d.val / 32 * 16 + d.val % 32 / 2, by omega⟩ n
  have h2 := v203_at V ⟨d.val / 32 * 16 + d.val % 32 / 2, by omega⟩ n
  have h3 := v207_at V ⟨d.val / 32 * 16 + d.val % 32 / 2, by omega⟩ n
  have h4 := v230_at V ⟨d.val / 32 * 16 + d.val % 32 / 2, by omega⟩ n
  have e : d.val / 32 * 16 + d.val % 32 / 2 = d.val / 2 := by omega
  dsimp only at h0 h1 h3
  unfold refB
  generalize res_main_v239 V = a0 at *
  generalize res_main_v180 V = a1 at *
  generalize res_main_v203 V = a2 at *
  generalize res_main_v207 V = a3 at *
  generalize res_main_v230 V = a4 at *
  pointwise
  rw [mul_rPow2]
  by_cases h : d.val % 32 % 2 < 1
  · rw [dif_pos h, h2, h1, h0, Data.wq_lo _ _ _ (by omega), e]
    rfl
  · rw [dif_neg h, h4, h3, h0, Data.wq_hi _ _ _ (by omega), e]
    rfl

/-- The product. -/
def refY : FVec Ideal S256x3840 .bf16 := truncf .bf16 (addf (addf (Host.dotGeneral dot_S256x15360_S15360x3840_S256x3840_1_0_0_1_n_n none (refA V) (refB V)) (Host.dotGeneral dot_S256x32_S32x3840_S256x3840_1_0_0_1_n_n none (φ₂ := .bf16) (truncf .bf16 (Host.dotGeneral dot_S256x15360_S15360x32_S256x32_1_0_0_1_n_n none (φ₂ := .bf16) (truncf .bf16 (res_main_v4 V) bitsLt_bf16_f32) (V (Proc.devRef .tc main_arg4))) bitsLt_bf16_f32) (V (Proc.devRef .tc main_arg5)))) (broadcastInDim S256x3840 ![0, 1] bcast_S1x3840_S256x3840_0_1 (broadcastInDim S1x3840 ![1] bcast_S3840_S1x3840_1 (V (Proc.devRef .tc main_arg6))))) bitsLt_bf16_f32

theorem refY_at (r : Fin 256) (n : Fin 3840) : refY V (ix2 r n)
    = (data V).acc 15360 r.val n.val + ∑ j : Fin 32, (data V).low 15360 j.val r.val * (data V).lu j.val n.val + (data V).bi n.val := by
  have hA : ∀ d : Fin 15360, refA V (ix2 r d) = (data V).xq r.val d.val := refA_at V r
  have hB : ∀ d : Fin 15360, refB V (ix2 d n) = (data V).wq d.val n.val := fun d => refB_at V d n
  have hx : ∀ d : Fin 15360, (res_main_v4 V : FVec Ideal S256x15360 .f32) (ix2 r d) = (data V).xs r.val d.val := v4_at V r
  have hl : ∀ (d : Fin 15360) (j : Fin 32), (V (Proc.devRef .tc main_arg4) : FVec Ideal S15360x32 .bf16) (ix2 d j) = (data V).ld d.val j.val := by
    intro d j
    unfold data
    generalize (V (Proc.devRef .tc main_arg4)) = a4
    exact at2_val (0 : EReal) a4 d j rfl rfl
  have hu : ∀ j : Fin 32, (V (Proc.devRef .tc main_arg5) : FVec Ideal S32x3840 .bf16) (ix2 j n) = (data V).lu j.val n.val := by
    intro j
    unfold data
    generalize (V (Proc.devRef .tc main_arg5)) = a5
    exact at2_val (0 : EReal) a5 j n rfl rfl
  have hb : (V (Proc.devRef .tc main_arg6) : FVec Ideal S3840 .f32) (ix1 n) = (data V).bi n.val := by
    unfold data
    generalize (V (Proc.devRef .tc main_arg6)) = a6
    exact at1_val (0 : EReal) a6 n rfl
  unfold refY
  generalize data V = D at *
  generalize refA V = a0 at *
  generalize refB V = a1 at *
  generalize res_main_v4 V = a2 at *
  generalize (V (Proc.devRef .tc main_arg4)) = a4 at *
  generalize (V (Proc.devRef .tc main_arg5)) = a5 at *
  generalize (V (Proc.devRef .tc main_arg6)) = a6 at *
  pointwise
  refine congrArg₂ (· + ·) (congrArg₂ (· + ·) ?_ (Finset.sum_congr rfl fun j _ => ?_)) hb
  · unfold Data.acc
    rw [← Fin.sum_univ_eq_sum_range (fun d => D.xq r.val d * D.wq d n.val)]
    exact Finset.sum_congr rfl fun d _ => congrArg₂ (· * ·) (hA d) (hB d)
  · refine congrArg₂ (· * ·) ?_ (hu j)
    unfold Data.low
    rw [← Fin.sum_univ_eq_sum_range (fun d => D.ld d j.val * D.xs r.val d)]
    refine Finset.sum_congr rfl fun d _ => ?_
    rw [mul_comm]
    exact congrArg₂ (· * ·) (hl d j) (hx d)

theorem v101_at (r : Fin 256) (g : Fin 480) (b : IVec S256x480 8)
    (hb : b = trunci 8 (addi (res_main_v32 V) (broadcastInDim S256x480 ![] bcast_S_S256x480 (constantI S_ 32 127#32))) natLt_8_32) :
    b (ix2 r g) = BitVec.setWidth 8 ((data V).sb r.val g.val) := by
  have h := v32_at V r g
  rw [hb, ← Data.sb_low, ← h]
  generalize res_main_v32 V = a0
  pointwise

end Cert.ReferenceIdeal.Stage
-- ==== Proof.KI.Join.lean ====
module

public import proofs.«01_k».proof.Proof.KI.Final
public import proofs.«01_k».proof.Proof.KI.Ref

@[expose] public section

/-!
The two runs.

The reference's run ends at the kernel's values.
-/

noncomputable section

namespace Cert.ReferenceIdeal.Stage

open Cert.ReferenceIdeal.Gen Cert.ReferenceIdeal.Value
open Cert.KernelIdeal.Stage (Data outY outP outS)
open Idealize.ShloMosaic Idealize.ShloMosaic.TcCoe Idealize.ShloMosaic.Pointwise
open Idealize.SL Idealize.SL.Sem Idealize.ShloMosaic.StableHlo

theorem eta2 {n k : ℕ} (i : (⟨2, ![n, k]⟩ : Shape).Idx) : i = ix2 (i 0) (i 1) := by
  funext a
  match a with
  | ⟨0, _⟩ => rfl
  | ⟨1, _⟩ => rfl

theorem refY_eq (V : Valuation τ sig (Elt Ideal)) : refY V = outY (data V) := by
  funext i
  rw [eta2 i]
  exact refY_at V (i 0) (i 1)

theorem refP_eq (V : Valuation τ sig (Elt Ideal)) (b : IVec S256x7680 8)
    (hb : b = trunci 8 (ori (shapeCast _ (extractStridedSlice S256x7680x1 ![0, 0, 0] (res_main_v90 V) slices_S256x7680x2_S256x7680x1_0_0_0) shapeCasts_S256x7680x1_S256x7680) (Host.shli (shapeCast _ (extractStridedSlice S256x7680x1 ![0, 0, 1] (res_main_v90 V) slices_S256x7680x2_S256x7680x1_0_0_1) shapeCasts_S256x7680x1_S256x7680) (broadcastInDim S256x7680 ![] bcast_S_S256x7680 (constantI S_ 32 4#32)))) natLt_8_32) :
    b = outP (data V) := by
  funext i
  rw [eta2 i]
  exact v98_at V (i 0) (i 1) b hb

theorem refS_eq (V : Valuation τ sig (Elt Ideal)) (b : IVec S256x480 8)
    (hb : b = trunci 8 (addi (res_main_v32 V) (broadcastInDim S256x480 ![] bcast_S_S256x480 (constantI S_ 32 127#32))) natLt_8_32) :
    b = outS (data V) := by
  funext i
  rw [eta2 i]
  exact v101_at V (i 0) (i 1) b hb

/-- The reference's run. -/
theorem run' (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v263) = outY (data (launchContents m c))
      ∧ r.2.mem ((c.tc : Thread nD τ).loc main_v98) = outP (data (launchContents m c))
      ∧ r.2.mem ((c.tc : Thread nD τ).loc main_v101) = outS (data (launchContents m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  (θ_run defs _ _).mono (fun _ h c => ⟨(h c).1.trans (refY_eq (launchContents m c)),
    refP_eq (launchContents m c) _ (h c).2.1, refS_eq (launchContents m c) _ (h c).2.2.1, (h c).2.2.2⟩) (run m ρ)

end Cert.ReferenceIdeal.Stage
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.K.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.KI.Join
public import Idealize.ShloMosaic.Adequacy
public import Idealize.ShloMosaic.Init
public import Idealize.ShloMosaic.Lib.Quiescent

@[expose] public section

noncomputable section

namespace Cert.Proof

open Idealize.ShloMosaic Idealize.SL.Sem Cert.Kernel

/-- The reference's run weakened to its frame: it declares no semaphore, so no counter is left over. -/
theorem quiescent_ReferenceIdeal : quiescent_ReferenceIdeal := fun m ρ _ =>
  (θ_run Cert.ReferenceIdeal.defs _ _).mono
    (fun r h => ⟨fun c => (h c).2.2.2, sem_eq_zero_of_no_sems (by decide) r.2⟩)
    (Cert.ReferenceIdeal.Value.run (F := Ideal) m ρ)

/-- The kernel's run weakened to its frame. -/
theorem quiescent_KernelIdeal : quiescent_KernelIdeal := fun m ρ _ =>
  (θ_run Cert.KernelIdeal.defs _ _).mono (fun r h => ⟨fun c => (h.1 c).2.2.2, h.2⟩) (Cert.KernelIdeal.Stage.run m ρ)

/-- Memories that agree on the arguments hold the same problem. -/
theorem data_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD)
    (h0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (h1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (h2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (h3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (h4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (h5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (h6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) :
    Cert.ReferenceIdeal.Stage.data (StableHlo.launchContents m' c) = Cert.KernelIdeal.Stage.dataOf m c := by
  unfold Cert.KernelIdeal.Stage.dataOf
  rw [← h0, ← h1, ← h2, ← h3, ← h4, ← h5, ← h6]
  rfl

theorem algebraic : algebraic_KernelIdeal_ReferenceIdeal := fun m g m' g' _ h =>
  ⟨fun c => Cert.KernelIdeal.Stage.outY (Cert.KernelIdeal.Stage.dataOf m c),
    fun c => Cert.KernelIdeal.Stage.outP (Cert.KernelIdeal.Stage.dataOf m c),
    fun c => Cert.KernelIdeal.Stage.outS (Cert.KernelIdeal.Stage.dataOf m c),
    (θ_run Cert.KernelIdeal.defs _ _).mono (fun r k => k.1) (Cert.KernelIdeal.Stage.run m g),
    (θ_run Cert.ReferenceIdeal.defs _ _).mono (fun r k c => by
      obtain ⟨h0, h1, h2, h3, h4, h5, h6⟩ := h c
      have e := data_eq m m' c h0 h1 h2 h3 h4 h5 h6
      obtain ⟨k0, k1, k2, k3⟩ := k c
      rw [e] at k0 k1 k2
      exact ⟨k0, k1, k2, k3⟩) (Cert.ReferenceIdeal.Stage.run' m' g')⟩

theorem claim : Cert.Claim := ⟨Cert.Kernel.Gen.facts, Cert.KernelIdeal.Gen.facts, Cert.ReferenceIdeal.Gen.facts,
  fun m ρ _ => Cert.Kernel.Gen.frame m ρ, quiescent_KernelIdeal,
  quiescent_ReferenceIdeal, trivial, algebraic⟩

end Cert.Proof

end
